-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_QuantReferenceIdeal (m : (ℓ : Loc Cert.QuantReferenceIdeal.nD Cert.QuantReferenceIdeal.τ Cert.QuantReferenceIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1))
      ∧ r.2.sem = fun _ => 0)

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v12) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)
      ∧ m' ((c.tc : Thread Cert.GateUpReferenceIdeal.nD Cert.GateUpReferenceIdeal.τ).loc Cert.GateUpReferenceIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v2_0)) (v1 : (c : Dev Cert.GateUpIdeal.nD) → Buf (Elt Ideal) ((c.tc : Thread Cert.GateUpIdeal.nD Cert.GateUpIdeal.τ).loc Cert.GateUpIdeal.main_v2_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v2_0) = v0 c
          ∧ r.2.mem ((c.tc : Thread Cert.GateUpIdeal.nD Cert.GateUpIdeal.τ).loc Cert.GateUpIdeal.main_v2_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v11_0) = v0 c
          ∧ r.2.mem ((c.tc : Thread Cert.GateUpReferenceIdeal.nD Cert.GateUpReferenceIdeal.τ).loc Cert.GateUpReferenceIdeal.main_v11_1) = v1 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2)
          ∧ r.2.mem ((c.tc : Thread Cert.GateUpReferenceIdeal.nD Cert.GateUpReferenceIdeal.τ).loc Cert.GateUpReferenceIdeal.main_arg3) = m' ((c.tc : Thread Cert.GateUpReferenceIdeal.nD Cert.GateUpReferenceIdeal.τ).loc Cert.GateUpReferenceIdeal.main_arg3))

def preserves_Pre_PreIdeal : Prop :=
  True

def algebraic_PreIdeal_QuantReferenceIdeal [hPreIdeal : Cert.PreIdeal.Facts] [hQuantReferenceIdeal : Cert.QuantReferenceIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_PreIdeal m →
    (∀ c : Dev Cert.PreIdeal.nD,
      m' ((c.tc : Thread Cert.QuantReferenceIdeal.nD Cert.QuantReferenceIdeal.τ).loc Cert.QuantReferenceIdeal.main_arg0) = m ((c.tc : Thread Cert.PreIdeal.nD Cert.PreIdeal.τ).loc Cert.PreIdeal.main_arg0)
      ∧ m' ((c.tc : Thread Cert.QuantReferenceIdeal.nD Cert.QuantReferenceIdeal.τ).loc Cert.QuantReferenceIdeal.main_arg1) = m ((c.tc : Thread Cert.PreIdeal.nD Cert.PreIdeal.τ).loc Cert.PreIdeal.main_arg1)) →
    ∃ (v0 : (c : Dev Cert.PreIdeal.nD) → Buf (Elt Ideal) ((c.tc : Thread Cert.PreIdeal.nD Cert.PreIdeal.τ).loc Cert.PreIdeal.main_v0_0)) (v1 : (c : Dev Cert.PreIdeal.nD) → Buf (Elt Ideal) ((c.tc : Thread Cert.PreIdeal.nD Cert.PreIdeal.τ).loc Cert.PreIdeal.main_v0_1)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v0_0) = v0 c
          ∧ r.2.mem ((c.tc : Thread Cert.PreIdeal.nD Cert.PreIdeal.τ).loc Cert.PreIdeal.main_v0_1) = v1 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v0_0) = v0 c
          ∧ r.2.mem ((c.tc : Thread Cert.QuantReferenceIdeal.nD Cert.QuantReferenceIdeal.τ).loc Cert.QuantReferenceIdeal.main_v0_1) = v1 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0)
          ∧ r.2.mem ((c.tc : Thread Cert.QuantReferenceIdeal.nD Cert.QuantReferenceIdeal.τ).loc Cert.QuantReferenceIdeal.main_arg1) = m' ((c.tc : Thread Cert.QuantReferenceIdeal.nD Cert.QuantReferenceIdeal.τ).loc Cert.QuantReferenceIdeal.main_arg1))

def Claim : Prop :=
  ∃ (hDown : Cert.Down.Facts) (hDownIdeal : Cert.DownIdeal.Facts) (hDownReferenceIdeal : Cert.DownReferenceIdeal.Facts) (hGateUp : Cert.GateUp.Facts) (hGateUpIdeal : Cert.GateUpIdeal.Facts) (hGateUpReferenceIdeal : Cert.GateUpReferenceIdeal.Facts) (hPre : Cert.Pre.Facts) (hPreIdeal : Cert.PreIdeal.Facts) (hQuantReferenceIdeal : Cert.QuantReferenceIdeal.Facts),
    quiescent_Down (hDown := hDown)
    ∧ quiescent_DownIdeal (hDownIdeal := hDownIdeal)
    ∧ quiescent_DownReferenceIdeal (hDownReferenceIdeal := hDownReferenceIdeal)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ quiescent_Pre (hPre := hPre)
    ∧ quiescent_PreIdeal (hPreIdeal := hPreIdeal)
    ∧ quiescent_QuantReferenceIdeal (hQuantReferenceIdeal := hQuantReferenceIdeal)
    ∧ preserves_Down_DownIdeal
    ∧ algebraic_DownIdeal_DownReferenceIdeal (hDownIdeal := hDownIdeal) (hDownReferenceIdeal := hDownReferenceIdeal)
    ∧ preserves_GateUp_GateUpIdeal
    ∧ algebraic_GateUpIdeal_GateUpReferenceIdeal (hGateUpIdeal := hGateUpIdeal) (hGateUpReferenceIdeal := hGateUpReferenceIdeal)
    ∧ preserves_Pre_PreIdeal
    ∧ algebraic_PreIdeal_QuantReferenceIdeal (hPreIdeal := hPreIdeal) (hQuantReferenceIdeal := hQuantReferenceIdeal)
-- ==== Down.lean ====
abbrev S24576x4096 : Shape := ⟨2, ![24576, 4096]⟩
abbrev S24576x128 : Shape := ⟨2, ![24576, 128]⟩
abbrev S16x3072x4096 : Shape := ⟨3, ![16, 3072, 4096]⟩
abbrev S16x3072 : Shape := ⟨2, ![16, 3072]⟩
abbrev S16x1x3072 : Shape := ⟨3, ![16, 1, 3072]⟩
abbrev S3072x24x8x128 : Shape := ⟨4, ![3072, 24, 8, 128]⟩
abbrev S1536x4096 : Shape := ⟨2, ![1536, 4096]⟩
abbrev S1536x128 : Shape := ⟨2, ![1536, 128]⟩
abbrev S1x512x4096 : Shape := ⟨3, ![1, 512, 4096]⟩
abbrev S1x1x512 : Shape := ⟨3, ![1, 1, 512]⟩
abbrev S192x4x8x128 : Shape := ⟨4, ![192, 4, 8, 128]⟩
abbrev S1536 : Shape := ⟨1, ![1536]⟩
abbrev S1536x1 : Shape := ⟨2, ![1536, 1]⟩
abbrev S512x4096 : Shape := ⟨2, ![512, 4096]⟩
abbrev S512x512 : Shape := ⟨2, ![512, 512]⟩
abbrev S512x1 : Shape := ⟨2, ![512, 1]⟩
abbrev S1x512 : Shape := ⟨2, ![1, 512]⟩
abbrev S512x128 : Shape := ⟨2, ![512, 128]⟩
abbrev S64x8x128 : Shape := ⟨3, ![64, 8, 128]⟩
abbrev S64x1x8x128 : Shape := ⟨4, ![64, 1, 8, 128]⟩

abbrev nBuf : Space → Nat
  | .hbm => 7
  | .vmem => 13
  | .smem => 0
  | _ => 0

abbrev bufTy : (tb : Table) → Fin (tcTables nBuf tb) → BufTy
  | .hbm, ⟨0, _⟩ => ⟨S24576x4096, .fp8e4m3⟩
  | .hbm, ⟨1, _⟩ => ⟨S24576x128, .f32⟩
  | .hbm, ⟨2, _⟩ => ⟨S24576x128, .f32⟩
  | .hbm, ⟨3, _⟩ => ⟨S16x3072x4096, .fp8e4m3⟩
  | .hbm, ⟨4, _⟩ => ⟨S16x3072, .f32⟩
  | .hbm, ⟨5, _⟩ => ⟨S16x1x3072, .f32⟩
  | .hbm, ⟨6, _⟩ => ⟨S3072x24x8x128, .f32⟩
  | .local _ .vmem, ⟨0, _⟩ => ⟨S1536x4096, .fp8e4m3⟩
  | .local _ .vmem, ⟨1, _⟩ => ⟨S1536x4096, .fp8e4m3⟩
  | .local _ .vmem, ⟨2, _⟩ => ⟨S1536x128, .f32⟩
  | .local _ .vmem, ⟨3, _⟩ => ⟨S1536x128, .f32⟩
  | .local _ .vmem, ⟨4, _⟩ => ⟨S1536x128, .f32⟩
  | .local _ .vmem, ⟨5, _⟩ => ⟨S1536x128, .f32⟩
  | .local _ .vmem, ⟨6, _⟩ => ⟨S1x512x4096, .fp8e4m3⟩
  | .local _ .vmem, ⟨7, _⟩ => ⟨S1x512x4096, .fp8e4m3⟩
  | .local _ .vmem, ⟨8, _⟩ => ⟨S1x1x512, .f32⟩
  | .local _ .vmem, ⟨9, _⟩ => ⟨S1x1x512, .f32⟩
  | .local _ .vmem, ⟨10, _⟩ => ⟨S192x4x8x128, .f32⟩
  | .local _ .vmem, ⟨11, _⟩ => ⟨S192x4x8x128, .f32⟩
  | .local _ .vmem, ⟨12, _⟩ => ⟨S1536x128, .f32⟩
  | _, _ => ⟨S24576x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1536x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S192x4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownReferenceIdeal.lean ====
abbrev S24576x4096 : Shape := ⟨2, ![24576, 4096]⟩
abbrev S24576x128 : Shape := ⟨2, ![24576, 128]⟩
abbrev S16x3072x4096 : Shape := ⟨3, ![16, 3072, 4096]⟩
abbrev S16x3072 : Shape := ⟨2, ![16, 3072]⟩
abbrev S24576x1 : Shape := ⟨2, ![24576, 1]⟩
abbrev S24576x16 : Shape := ⟨2, ![24576, 16]⟩
abbrev S16x1536x16 : Shape := ⟨3, ![16, 1536, 16]⟩
abbrev S16x16 : Shape := ⟨2, ![16, 16]⟩
abbrev S_ : Shape := ⟨0, ![]⟩
abbrev S1536x16 : Shape := ⟨2, ![1536, 16]⟩
abbrev S16x1536 : Shape := ⟨2, ![16, 1536]⟩
abbrev S16x1536x1 : Shape := ⟨3, ![16, 1536, 1]⟩
abbrev S3072x24x8x128 : Shape := ⟨4, ![3072, 24, 8, 128]⟩
abbrev S16x1536x4096 : Shape := ⟨3, ![16, 1536, 4096]⟩
abbrev S16x1536x3072 : Shape := ⟨3, ![16, 1536, 3072]⟩
abbrev S16x1x3072 : Shape := ⟨3, ![16, 1, 3072]⟩
abbrev S3072x8x24x128 : Shape := ⟨4, ![3072, 8, 24, 128]⟩

abbrev nBuf : Space → Nat
  | .hbm => 20
  | .vmem => 6
  | .smem => 0
  | _ => 0

abbrev bufTy : (tb : Table) → Fin (tcTables nBuf tb) → BufTy
  | .hbm, ⟨0, _⟩ => ⟨S24576x4096, .fp8e4m3⟩
  | .hbm, ⟨1, _⟩ => ⟨S24576x128, .f32⟩
  | .hbm, ⟨2, _⟩ => ⟨S24576x128, .f32⟩
  | .hbm, ⟨3, _⟩ => ⟨S16x3072x4096, .fp8e4m3⟩
  | .hbm, ⟨4, _⟩ => ⟨S16x3072, .f32⟩
  | .hbm, ⟨5, _⟩ => ⟨S24576x1, .f32⟩
  | .hbm, ⟨6, _⟩ => ⟨S24576x16, .f32⟩
  | .hbm, ⟨7, _⟩ => ⟨S16x1536x16, .f32⟩
  | .hbm, ⟨8, _⟩ => ⟨S16x16, .i32⟩
  | .hbm, ⟨9, _⟩ => ⟨S16x16, .i32⟩
  | .hbm, ⟨10, _⟩ => ⟨S16x16, .i1⟩
  | .hbm, ⟨11, _⟩ => ⟨S16x1536x16, .i1⟩
  | .hbm, ⟨12, _⟩ => ⟨S_, .f32⟩
  | .hbm, ⟨13, _⟩ => ⟨S16x1536x16, .f32⟩
  | .hbm, ⟨14, _⟩ => ⟨S16x1536x16, .f32⟩
  | .hbm, ⟨15, _⟩ => ⟨S_, .f32⟩
  | .hbm, ⟨16, _⟩ => ⟨S1536x16, .f32⟩
  | .hbm, ⟨17, _⟩ => ⟨S16x1536, .f32⟩
  | .hbm, ⟨18, _⟩ => ⟨S16x1536x1, .f32⟩
  | .hbm, ⟨19, _⟩ => ⟨S3072x24x8x128, .f32⟩
  | .local _ .vmem, ⟨0, _⟩ => ⟨S24576x4096, .fp8e4m3⟩
  | .local _ .vmem, ⟨1, _⟩ => ⟨S24576x1, .f32⟩
  | .local _ .vmem, ⟨2, _⟩ => ⟨S16x1536x1, .f32⟩
  | .local _ .vmem, ⟨3, _⟩ => ⟨S16x3072x4096, .fp8e4m3⟩
  | .local _ .vmem, ⟨4, _⟩ => ⟨S16x3072, .f32⟩
  | .local _ .vmem, ⟨5, _⟩ => ⟨S3072x24x8x128, .f32⟩
  | _, _ => ⟨S24576x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24576x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x3072x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x24x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== GateUp.lean ====
abbrev S147456x128 : Shape := ⟨2, ![147456, 128]⟩
abbrev S24576x128 : Shape := ⟨2, ![24576, 128]⟩
abbrev S16x8192x3072 : Shape := ⟨3, ![16, 8192, 3072]⟩
abbrev S16x8192 : Shape := ⟨2, ![16, 8192]⟩
abbrev S16x1x8192 : Shape := ⟨3, ![16, 1, 8192]⟩
abbrev S3072x6x8x128 : Shape := ⟨4, ![3072, 6, 8, 128]⟩
abbrev S24576x4096 : Shape := ⟨2, ![24576, 4096]⟩
abbrev S192x6x8x128 : Shape := ⟨4, ![192, 6, 8, 128]⟩
abbrev S1536x128 : Shape := ⟨2, ![1536, 128]⟩
abbrev S1x512x3072 : Shape := ⟨3, ![1, 512, 3072]⟩
abbrev S1x1x512 : Shape := ⟨3, ![1, 1, 512]⟩
abbrev S1536x512 : Shape := ⟨2, ![1536, 512]⟩
abbrev S1536x3072 : Shape := ⟨2, ![1536, 3072]⟩
abbrev S1536x4096 : Shape := ⟨2, ![1536, 4096]⟩
abbrev S1536 : Shape := ⟨1, ![1536]⟩
abbrev S1536x1 : Shape := ⟨2, ![1536, 1]⟩
abbrev S1x1x8x128 : Shape := ⟨4, ![1, 1, 8, 128]⟩
abbrev S8x128 : Shape := ⟨2, ![8, 128]⟩
abbrev S32x128 : Shape := ⟨2, ![32, 128]⟩
abbrev S512x3072 : Shape := ⟨2, ![512, 3072]⟩
abbrev S512x1 : Shape := ⟨2, ![512, 1]⟩
abbrev S512x512 : Shape := ⟨2, ![512, 512]⟩
abbrev S1x512 : Shape := ⟨2, ![1, 512]⟩
abbrev S512x128 : Shape := ⟨2, ![512, 128]⟩

abbrev nBuf : Space → Nat
  | .hbm => 8
  | .vmem => 21
  | .smem => 0
  | _ => 0

abbrev bufTy : (tb : Table) → Fin (tcTables nBuf tb) → BufTy
  | .hbm, ⟨0, _⟩ => ⟨S147456x128, .i32⟩
  | .hbm, ⟨1, _⟩ => ⟨S24576x128, .f32⟩
  | .hbm, ⟨2, _⟩ => ⟨S16x8192x3072, .fp8e4m3⟩
  | .hbm, ⟨3, _⟩ => ⟨S16x8192, .f32⟩
  | .hbm, ⟨4, _⟩ => ⟨S16x1x8192, .f32⟩
  | .hbm, ⟨5, _⟩ => ⟨S3072x6x8x128, .i32⟩
  | .hbm, ⟨6, _⟩ => ⟨S24576x4096, .fp8e4m3⟩
  | .hbm, ⟨7, _⟩ => ⟨S24576x128, .f32⟩
  | .local _ .vmem, ⟨0, _⟩ => ⟨S192x6x8x128, .i32⟩
  | .local _ .vmem, ⟨1, _⟩ => ⟨S192x6x8x128, .i32⟩
  | .local _ .vmem, ⟨2, _⟩ => ⟨S1536x128, .f32⟩
  | .local _ .vmem, ⟨3, _⟩ => ⟨S1536x128, .f32⟩
  | .local _ .vmem, ⟨4, _⟩ => ⟨S1x512x3072, .fp8e4m3⟩
  | .local _ .vmem, ⟨5, _⟩ => ⟨S1x512x3072, .fp8e4m3⟩
  | .local _ .vmem, ⟨6, _⟩ => ⟨S1x512x3072, .fp8e4m3⟩
  | .local _ .vmem, ⟨7, _⟩ => ⟨S1x512x3072, .fp8e4m3⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1536x512, .fp8e4m3⟩
  | .local _ .vmem, ⟨13, _⟩ => ⟨S1536x512, .fp8e4m3⟩
  | .local _ .vmem, ⟨14, _⟩ => ⟨S1536x128, .f32⟩
  | .local _ .vmem, ⟨15, _⟩ => ⟨S1536x128, .f32⟩
  | .local _ .vmem, ⟨16, _⟩ => ⟨S1536x3072, .fp8e4m3⟩
  | .local _ .vmem, ⟨17, _⟩ => ⟨S1536x128, .f32⟩
  | .local _ .vmem, ⟨18, _⟩ => ⟨S1536x4096, .f32⟩
  | .local _ .vmem, ⟨19, _⟩ => ⟨S1536x128, .f32⟩
  | .local _ .vmem, ⟨20, _⟩ => ⟨S1536x128, .f32⟩
  | _, _ => ⟨S147456x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![17, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond2 (i : grid0.Coords) : BitVec 1 :=
  let arg1 : BitVec 32 := BitVec.ofNat 32 (i 1).val
  let c0_i32_2 : BitVec 32 := 0#32
  let v7 : BitVec 1 := Scalar.cmpi .eq arg1 c0_i32_2
  let v8 : BitVec 32 := Scalar.extui v7
  let c0_i32_3 : BitVec 32 := 0#32
  let v9 : BitVec 1 := Scalar.cmpi .ne v8 c0_i32_3
  v9

@[reducible] def k0_t1_loop : Scf.Loop 32 :=
  let c0_i32_15 : BitVec 32 := 0#32
  let c48_i32 : BitVec 32 := 48#32
  let v31 : BitVec 32 := Scalar.addi c0_i32_15 c48_i32
  let c1_i32 : BitVec 32 := 1#32
  ⟨c0_i32_15, v31, c1_i32⟩
def k0_mult2 (k0_t1 : Fin k0_t1_loop.trips) : BitVec 32 :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  v32
def k0_off1 (k0_t1 : Fin k0_t1_loop.trips) (c0_i32_17 : BitVec 32) : Fin 4 → Nat :=
  let c4_i32 : BitVec 32 := 4#32
  let c0_i32_15 : BitVec 32 := 0#32
  let c1_i32 : BitVec 32 := 1#32
  let arg15 : BitVec 32 := Scf.iv c0_i32_15 c1_i32 k0_t1
  let v34 : BitVec 32 := Scalar.muli c4_i32 arg15
  let v35 : BitVec 32 := Scalar.addi v34 c0_i32_17
  let v36 : Index := Scalar.indexCast v35
  let c0_18 : Index := 0#32
  let c0_19 : Index := 0#32
  let c0_20 : Index := 0#32
  ![v36.toNat, 0, 0, 0]
def k0_off2 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v103 : Index := Scalar.indexCast v33
  let c0_49 : Index := 0#32
  ![v103.toNat, 0]
def k0_off3 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v108 : Index := Scalar.indexCast v33
  let c128 : Index := 128#32
  ![v108.toNat, 128]
def k0_off4 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v113 : Index := Scalar.indexCast v33
  let c256 : Index := 256#32
  ![v113.toNat, 256]
def k0_off5 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v118 : Index := Scalar.indexCast v33
  let c384 : Index := 384#32
  ![v118.toNat, 384]
def k0_off6 (k0_t1 : Fin k0_t1_loop.trips) (c0_i32_51 : BitVec 32) : Fin 4 → Nat :=
  let c4_i32_50 : BitVec 32 := 4#32
  let c0_i32_15 : BitVec 32 := 0#32
  let c1_i32 : BitVec 32 := 1#32
  let arg15 : BitVec 32 := Scf.iv c0_i32_15 c1_i32 k0_t1
  let v122 : BitVec 32 := Scalar.muli c4_i32_50 arg15
  let v123 : BitVec 32 := Scalar.addi v122 c0_i32_51
  let v124 : Index := Scalar.indexCast v123
  let c1 : Index := 1#32
  let c0_52 : Index := 0#32
  let c0_53 : Index := 0#32
  ![v124.toNat, 1, 0, 0]
def k0_off7 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v191 : Index := Scalar.indexCast v33
  let c512 : Index := 512#32
  ![v191.toNat, 512]
def k0_off8 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v196 : Index := Scalar.indexCast v33
  let c640 : Index := 640#32
  ![v196.toNat, 640]
def k0_off9 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v201 : Index := Scalar.indexCast v33
  let c768 : Index := 768#32
  ![v201.toNat, 768]
def k0_off10 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v206 : Index := Scalar.indexCast v33
  let c896 : Index := 896#32
  ![v206.toNat, 896]
def k0_off11 (k0_t1 : Fin k0_t1_loop.trips) (c0_i32_90 : BitVec 32) : Fin 4 → Nat :=
  let c4_i32_89 : BitVec 32 := 4#32
  let c0_i32_15 : BitVec 32 := 0#32
  let c1_i32 : BitVec 32 := 1#32
  let arg15 : BitVec 32 := Scf.iv c0_i32_15 c1_i32 k0_t1
  let v210 : BitVec 32 := Scalar.muli c4_i32_89 arg15
  let v211 : BitVec 32 := Scalar.addi v210 c0_i32_90
  let v212 : Index := Scalar.indexCast v211
  let c2 : Index := 2#32
  let c0_91 : Index := 0#32
  let c0_92 : Index := 0#32
  ![v212.toNat, 2, 0, 0]
def k0_off12 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v279 : Index := Scalar.indexCast v33
  let c1024 : Index := 1024#32
  ![v279.toNat, 1024]
def k0_off13 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v284 : Index := Scalar.indexCast v33
  let c1152 : Index := 1152#32
  ![v284.toNat, 1152]
def k0_off14 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v289 : Index := Scalar.indexCast v33
  let c1280 : Index := 1280#32
  ![v289.toNat, 1280]
def k0_off15 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v294 : Index := Scalar.indexCast v33
  let c1408 : Index := 1408#32
  ![v294.toNat, 1408]
def k0_off16 (k0_t1 : Fin k0_t1_loop.trips) (c0_i32_129 : BitVec 32) : Fin 4 → Nat :=
  let c4_i32_128 : BitVec 32 := 4#32
  let c0_i32_15 : BitVec 32 := 0#32
  let c1_i32 : BitVec 32 := 1#32
  let arg15 : BitVec 32 := Scf.iv c0_i32_15 c1_i32 k0_t1
  let v298 : BitVec 32 := Scalar.muli c4_i32_128 arg15
  let v299 : BitVec 32 := Scalar.addi v298 c0_i32_129
  let v300 : Index := Scalar.indexCast v299
  let c3 : Index := 3#32
  let c0_130 : Index := 0#32
  let c0_131 : Index := 0#32
  ![v300.toNat, 3, 0, 0]
def k0_off17 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v367 : Index := Scalar.indexCast v33
  let c1536 : Index := 1536#32
  ![v367.toNat, 1536]
def k0_off18 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v372 : Index := Scalar.indexCast v33
  let c1664 : Index := 1664#32
  ![v372.toNat, 1664]
def k0_off19 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v377 : Index := Scalar.indexCast v33
  let c1792 : Index := 1792#32
  ![v377.toNat, 1792]
def k0_off20 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v382 : Index := Scalar.indexCast v33
  let c1920 : Index := 1920#32
  ![v382.toNat, 1920]
def k0_off21 (k0_t1 : Fin k0_t1_loop.trips) (c0_i32_168 : BitVec 32) : Fin 4 → Nat :=
  let c4_i32_167 : BitVec 32 := 4#32
  let c0_i32_15 : BitVec 32 := 0#32
  let c1_i32 : BitVec 32 := 1#32
  let arg15 : BitVec 32 := Scf.iv c0_i32_15 c1_i32 k0_t1
  let v386 : BitVec 32 := Scalar.muli c4_i32_167 arg15
  let v387 : BitVec 32 := Scalar.addi v386 c0_i32_168
  let v388 : Index := Scalar.indexCast v387
  let c4 : Index := 4#32
  let c0_169 : Index := 0#32
  let c0_170 : Index := 0#32
  ![v388.toNat, 4, 0, 0]
def k0_off22 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v455 : Index := Scalar.indexCast v33
  let c2048 : Index := 2048#32
  ![v455.toNat, 2048]
def k0_off23 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v460 : Index := Scalar.indexCast v33
  let c2176 : Index := 2176#32
  ![v460.toNat, 2176]
def k0_off24 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v465 : Index := Scalar.indexCast v33
  let c2304 : Index := 2304#32
  ![v465.toNat, 2304]
def k0_off25 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v470 : Index := Scalar.indexCast v33
  let c2432 : Index := 2432#32
  ![v470.toNat, 2432]
def k0_off26 (k0_t1 : Fin k0_t1_loop.trips) (c0_i32_207 : BitVec 32) : Fin 4 → Nat :=
  let c4_i32_206 : BitVec 32 := 4#32
  let c0_i32_15 : BitVec 32 := 0#32
  let c1_i32 : BitVec 32 := 1#32
  let arg15 : BitVec 32 := Scf.iv c0_i32_15 c1_i32 k0_t1
  let v474 : BitVec 32 := Scalar.muli c4_i32_206 arg15
  let v475 : BitVec 32 := Scalar.addi v474 c0_i32_207
  let v476 : Index := Scalar.indexCast v475
  let c5 : Index := 5#32
  let c0_208 : Index := 0#32
  let c0_209 : Index := 0#32
  ![v476.toNat, 5, 0, 0]
def k0_off27 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v543 : Index := Scalar.indexCast v33
  let c2560 : Index := 2560#32
  ![v543.toNat, 2560]
def k0_off28 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v548 : Index := Scalar.indexCast v33
  let c2688 : Index := 2688#32
  ![v548.toNat, 2688]
def k0_off29 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v553 : Index := Scalar.indexCast v33
  let c2816 : Index := 2816#32
  ![v553.toNat, 2816]
def k0_off30 (k0_t1 : Fin k0_t1_loop.trips) : Fin 2 → Nat :=
  let c0_i32_15 : BitVec 32 := 0#32
  let c1_i32 : BitVec 32 := 1#32
  let arg15 : BitVec 32 := Scf.iv c0_i32_15 c1_i32 k0_t1
  let c32_i32 : BitVec 32 := 32#32
  let v32 : BitVec 32 := Scalar.muli arg15 c32_i32
  let v33 : BitVec 32 := v32
  let v558 : Index := Scalar.indexCast v33
  let c2944 : Index := 2944#32
  ![v558.toNat, 2944]
def k0_cond3 (i : grid0.Coords) : BitVec 1 :=
  let arg0 : BitVec 32 := BitVec.ofNat 32 (i 0).val
  let c0_i32_4 : BitVec 32 := 0#32
  let v10 : BitVec 1 := Scalar.cmpi .eq arg0 c0_i32_4
  let v11 : BitVec 32 := Scalar.extui v10
  let c0_i32_5 : BitVec 32 := 0#32
  let v12 : BitVec 1 := Scalar.cmpi .ne v11 c0_i32_5
  v12

def k0_off31 (i : grid0.Coords) : Fin 2 → Nat :=
  let c0_26 : Index := 0#32
  let arg1 : BitVec 32 := BitVec.ofNat 32 (i 1).val
  let c512_i32 : BitVec 32 := 512#32
  let v0 : BitVec 32 := Scalar.muli arg1 c512_i32
  let v1 : BitVec 32 := v0
  let v44 : Index := Scalar.indexCast v1
  ![0, v44.toNat]
def k0_off32 (i : grid0.Coords) : Fin 2 → Nat :=
  let c512_48 : Index := 512#32
  let arg1 : BitVec 32 := BitVec.ofNat 32 (i 1).val
  let c512_i32 : BitVec 32 := 512#32
  let v0 : BitVec 32 := Scalar.muli arg1 c512_i32
  let v1 : BitVec 32 := v0
  let v84 : Index := Scalar.indexCast v1
  ![512, v84.toNat]
def k0_off33 (i : grid0.Coords) : Fin 2 → Nat :=
  let c1024_70 : Index := 1024#32
  let arg1 : BitVec 32 := BitVec.ofNat 32 (i 1).val
  let c512_i32 : BitVec 32 := 512#32
  let v0 : BitVec 32 := Scalar.muli arg1 c512_i32
  let v1 : BitVec 32 := v0
  let v124 : Index := Scalar.indexCast v1
  ![1024, v124.toNat]
def k0_cond4 (i : grid0.Coords) : BitVec 1 :=
  let arg0 : BitVec 32 := BitVec.ofNat 32 (i 0).val
  let c0_i32_6 : BitVec 32 := 0#32
  let v13 : BitVec 1 := Scalar.cmpi .sgt arg0 c0_i32_6
  let c16_i32 : BitVec 32 := 16#32
  let v14 : BitVec 1 := Scalar.cmpi .slt arg0 c16_i32
  let v15 : BitVec 1 := Scalar.andi v13 v14
  let v16 : BitVec 32 := Scalar.extui v15
  let c0_i32_7 : BitVec 32 := 0#32
  let v17 : BitVec 1 := Scalar.cmpi .ne v16 c0_i32_7
  v17

def k0_mult3 (i : grid0.Coords) : BitVec 32 :=
  let arg1 : BitVec 32 := BitVec.ofNat 32 (i 1).val
  let c512_i32_11 : BitVec 32 := 512#32
  let v22 : BitVec 32 := Scalar.muli arg1 c512_i32_11
  let c0_i32_12 : BitVec 32 := 0#32
  let v23 : BitVec 32 := Scalar.addi v22 c0_i32_12
  v23
def k0_off34 (i : grid0.Coords) (c0_i32_12 : BitVec 32) : Fin 2 → Nat :=
  let c0_13 : Index := 0#32
  let arg1 : BitVec 32 := BitVec.ofNat 32 (i 1).val
  let c512_i32_11 : BitVec 32 := 512#32
  let v22 : BitVec 32 := Scalar.muli arg1 c512_i32_11
  let v23 : BitVec 32 := Scalar.addi v22 c0_i32_12
  let v24 : BitVec 32 := v23
  let v25 : Index := Scalar.indexCast v24
  ![0, v25.toNat]
def k0_mult4 (i : grid0.Coords) : BitVec 32 :=
  let arg1 : BitVec 32 := BitVec.ofNat 32 (i 1).val
  let c512_i32_17 : BitVec 32 := 512#32
  let v34 : BitVec 32 := Scalar.muli arg1 c512_i32_17
  let c128_i32 : BitVec 32 := 128#32
  let v35 : BitVec 32 := Scalar.addi v34 c128_i32
  v35
def k0_mult5 (i : grid0.Coords) : BitVec 32 :=
  let arg1 : BitVec 32 := BitVec.ofNat 32 (i 1).val
  let c512_i32_22 : BitVec 32 := 512#32
  let v46 : BitVec 32 := Scalar.muli arg1 c512_i32_22
  let c256_i32 : BitVec 32 := 256#32
  let v47 : BitVec 32 := Scalar.addi v46 c256_i32
  v47
def k0_mult6 (i : grid0.Coords) : BitVec 32 :=
  let arg1 : BitVec 32 := BitVec.ofNat 32 (i 1).val
  let c512_i32_27 : BitVec 32 := 512#32
  let v58 : BitVec 32 := Scalar.muli arg1 c512_i32_27
  let c384_i32 : BitVec 32 := 384#32
  let v59 : BitVec 32 := Scalar.addi v58 c384_i32
  v59
def k0_off35 (i : grid0.Coords) : Fin 2 → Nat :=
  let c0_50 : Index := 0#32
  let arg1 : BitVec 32 := BitVec.ofNat 32 (i 1).val
  let c512_i32 : BitVec 32 := 512#32
  let v0 : BitVec 32 := Scalar.muli arg1 c512_i32
  let v1 : BitVec 32 := v0
  let v93 : Index := Scalar.indexCast v1
  ![0, v93.toNat]
def k0_mult7 (i : grid0.Coords) : BitVec 32 :=
  let arg1 : BitVec 32 := BitVec.ofNat 32 (i 1).val
  let c512_i32_56 : BitVec 32 := 512#32
  let v111 : BitVec 32 := Scalar.muli arg1 c512_i32_56
  let c0_i32_57 : BitVec 32 := 0#32
  let v112 : BitVec 32 := Scalar.addi v111 c0_i32_57
  v112
def k0_off36 (i : grid0.Coords) (c0_i32_57 : BitVec 32) : Fin 2 → Nat :=
  let c512_58 : Index := 512#32
  let arg1 : BitVec 32 := BitVec.ofNat 32 (i 1).val
  let c512_i32_56 : BitVec 32 := 512#32
  let v111 : BitVec 32 := Scalar.muli arg1 c512_i32_56
  let v112 : BitVec 32 := Scalar.addi v111 c0_i32_57
  let v113 : BitVec 32 := v112
  let v114 : Index := Scalar.indexCast v113
  ![512, v114.toNat]
def k0_mult8 (i : grid0.Coords) : BitVec 32 :=
  let arg1 : BitVec 32 := BitVec.ofNat 32 (i 1).val
  let c512_i32_63 : BitVec 32 := 512#32
  let v123 : BitVec 32 := Scalar.muli arg1 c512_i32_63
  let c128_i32_64 : BitVec 32 := 128#32
  let v124 : BitVec 32 := Scalar.addi v123 c128_i32_64
  v124
def k0_mult9 (i : grid0.Coords) : BitVec 32 :=
  let arg1 : BitVec 32 := BitVec.ofNat 32 (i 1).val
  let c512_i32_70 : BitVec 32 := 512#32
  let v135 : BitVec 32 := Scalar.muli arg1 c512_i32_70
  let c256_i32_71 : BitVec 32 := 256#32
  let v136 : BitVec 32 := Scalar.addi v135 c256_i32_71
  v136
def k0_mult10 (i : grid0.Coords) : BitVec 32 :=
  let arg1 : BitVec 32 := BitVec.ofNat 32 (i 1).val
  let c512_i32_77 : BitVec 32 := 512#32
  let v147 : BitVec 32 := Scalar.muli arg1 c512_i32_77
  let c384_i32_78 : BitVec 32 := 384#32
  let v148 : BitVec 32 := Scalar.addi v147 c384_i32_78
  v148
def k0_off37 (i : grid0.Coords) : Fin 2 → Nat :=
  let c512_102 : Index := 512#32
  let arg1 : BitVec 32 := BitVec.ofNat 32 (i 1).val
  let c512_i32 : BitVec 32 := 512#32
  let v0 : BitVec 32 := Scalar.muli arg1 c512_i32
  let v1 : BitVec 32 := v0
  let v182 : Index := Scalar.indexCast v1
  ![512, v182.toNat]
def k0_mult11 (i : grid0.Coords) : BitVec 32 :=
  let arg1 : BitVec 32 := BitVec.ofNat 32 (i 1).val
  let c512_i32_108 : BitVec 32 := 512#32
  let v200 : BitVec 32 := Scalar.muli arg1 c512_i32_108
  let c0_i32_109 : BitVec 32 := 0#32
  let v201 : BitVec 32 := Scalar.addi v200 c0_i32_109
  v201
def k0_off38 (i : grid0.Coords) (c0_i32_109 : BitVec 32) : Fin 2 → Nat :=
  let c1024_110 : Index := 1024#32
  let arg1 : BitVec 32 := BitVec.ofNat 32 (i 1).val
  let c512_i32_108 : BitVec 32 := 512#32
  let v200 : BitVec 32 := Scalar.muli arg1 c512_i32_108
  let v201 : BitVec 32 := Scalar.addi v200 c0_i32_109
  let v202 : BitVec 32 := v201
  let v203 : Index := Scalar.indexCast v202
  ![1024, v203.toNat]
def k0_mult12 (i : grid0.Coords) : BitVec 32 :=
  let arg1 : BitVec 32 := BitVec.ofNat 32 (i 1).val
  let c512_i32_115 : BitVec 32 := 512#32
  let v212 : BitVec 32 := Scalar.muli arg1 c512_i32_115
  let c128_i32_116 : BitVec 32 := 128#32
  let v213 : BitVec 32 := Scalar.addi v212 c128_i32_116
  v213
def k0_mult13 (i : grid0.Coords) : BitVec 32 :=
  let arg1 : BitVec 32 := BitVec.ofNat 32 (i 1).val
  let c512_i32_122 : BitVec 32 := 512#32
  let v224 : BitVec 32 := Scalar.muli arg1 c512_i32_122
  let c256_i32_123 : BitVec 32 := 256#32
  let v225 : BitVec 32 := Scalar.addi v224 c256_i32_123
  v225
def k0_mult14 (i : grid0.Coords) : BitVec 32 :=
  let arg1 : BitVec 32 := BitVec.ofNat 32 (i 1).val
  let c512_i32_129 : BitVec 32 := 512#32
  let v236 : BitVec 32 := Scalar.muli arg1 c512_i32_129
  let c384_i32_130 : BitVec 32 := 384#32
  let v237 : BitVec 32 := Scalar.addi v236 c384_i32_130
  v237
def k0_off39 (i : grid0.Coords) : Fin 2 → Nat :=
  let c1024_154 : Index := 1024#32
  let arg1 : BitVec 32 := BitVec.ofNat 32 (i 1).val
  let c512_i32 : BitVec 32 := 512#32
  let v0 : BitVec 32 := Scalar.muli arg1 c512_i32
  let v1 : BitVec 32 := v0
  let v271 : Index := Scalar.indexCast v1
  ![1024, v271.toNat]
def k0_cond5 (i : grid0.Coords) : BitVec 1 :=
  let arg0 : BitVec 32 := BitVec.ofNat 32 (i 0).val
  let c16_i32_8 : BitVec 32 := 16#32
  let v18 : BitVec 1 := Scalar.cmpi .eq arg0 c16_i32_8
  let v19 : BitVec 32 := Scalar.extui v18
  let c0_i32_9 : BitVec 32 := 0#32
  let v20 : BitVec 1 := Scalar.cmpi .ne v19 c0_i32_9
  v20

def k0_mult15 (i : grid0.Coords) : BitVec 32 :=
  let arg1 : BitVec 32 := BitVec.ofNat 32 (i 1).val
  let c512_i32_11 : BitVec 32 := 512#32
  let v22 : BitVec 32 := Scalar.muli arg1 c512_i32_11
  let c0_i32_12 : BitVec 32 := 0#32
  let v23 : BitVec 32 := Scalar.addi v22 c0_i32_12
  v23
def k0_off40 (i : grid0.Coords) (c0_i32_12 : BitVec 32) : Fin 2 → Nat :=
  let c0_13 : Index := 0#32
  let arg1 : BitVec 32 := BitVec.ofNat 32 (i 1).val
  let c512_i32_11 : BitVec 32 := 512#32
  let v22 : BitVec 32 := Scalar.muli arg1 c512_i32_11
  let v23 : BitVec 32 := Scalar.addi v22 c0_i32_12
  let v24 : BitVec 32 := v23
  let v25 : Index := Scalar.indexCast v24
  ![0, v25.toNat]
def k0_mult16 (i : grid0.Coords) : BitVec 32 :=
  let arg1 : BitVec 32 := BitVec.ofNat 32 (i 1).val
  let c512_i32_17 : BitVec 32 := 512#32
  let v34 : BitVec 32 := Scalar.muli arg1 c512_i32_17
  let c128_i32 : BitVec 32 := 128#32
  let v35 : BitVec 32 := Scalar.addi v34 c128_i32
  v35
def k0_mult17 (i : grid0.Coords) : BitVec 32 :=
  let arg1 : BitVec 32 := BitVec.ofNat 32 (i 1).val
  let c512_i32_22 : BitVec 32 := 512#32
  let v46 : BitVec 32 := Scalar.muli arg1 c512_i32_22
  let c256_i32 : BitVec 32 := 256#32
  let v47 : BitVec 32 := Scalar.addi v46 c256_i32
  v47
def k0_mult18 (i : grid0.Coords) : BitVec 32 :=
  let arg1 : BitVec 32 := BitVec.ofNat 32 (i 1).val
  let c512_i32_27 : BitVec 32 := 512#32
  let v58 : BitVec 32 := Scalar.muli arg1 c512_i32_27
  let c384_i32 : BitVec 32 := 384#32
  let v59 : BitVec 32 := Scalar.addi v58 c384_i32
  v59
def k0_mult19 (i : grid0.Coords) : BitVec 32 :=
  let arg1 : BitVec 32 := BitVec.ofNat 32 (i 1).val
  let c512_i32_33 : BitVec 32 := 512#32
  let v71 : BitVec 32 := Scalar.muli arg1 c512_i32_33
  let c0_i32_34 : BitVec 32 := 0#32
  let v72 : BitVec 32 := Scalar.addi v71 c0_i32_34
  v72
def k0_off41 (i : grid0.Coords) (c0_i32_34 : BitVec 32) : Fin 2 → Nat :=
  let c512_35 : Index := 512#32
  let arg1 : BitVec 32 := BitVec.ofNat 32 (i 1).val
  let c512_i32_33 : BitVec 32 := 512#32
  let v71 : BitVec 32 := Scalar.muli arg1 c512_i32_33
  let v72 : BitVec 32 := Scalar.addi v71 c0_i32_34
  let v73 : BitVec 32 := v72
  let v74 : Index := Scalar.indexCast v73
  ![512, v74.toNat]
def k0_mult20 (i : grid0.Coords) : BitVec 32 :=
  let arg1 : BitVec 32 := BitVec.ofNat 32 (i 1).val
  let c512_i32_40 : BitVec 32 := 512#32
  let v83 : BitVec 32 := Scalar.muli arg1 c512_i32_40
  let c128_i32_41 : BitVec 32 := 128#32
  let v84 : BitVec 32 := Scalar.addi v83 c128_i32_41
  v84
def k0_mult21 (i : grid0.Coords) : BitVec 32 :=
  let arg1 : BitVec 32 := BitVec.ofNat 32 (i 1).val
  let c512_i32_47 : BitVec 32 := 512#32
  let v95 : BitVec 32 := Scalar.muli arg1 c512_i32_47
  let c256_i32_48 : BitVec 32 := 256#32
  let v96 : BitVec 32 := Scalar.addi v95 c256_i32_48
  v96
def k0_mult22 (i : grid0.Coords) : BitVec 32 :=
  let arg1 : BitVec 32 := BitVec.ofNat 32 (i 1).val
  let c512_i32_54 : BitVec 32 := 512#32
  let v107 : BitVec 32 := Scalar.muli arg1 c512_i32_54
  let c384_i32_55 : BitVec 32 := 384#32
  let v108 : BitVec 32 := Scalar.addi v107 c384_i32_55
  v108
def k0_mult23 (i : grid0.Coords) : BitVec 32 :=
  let arg1 : BitVec 32 := BitVec.ofNat 32 (i 1).val
  let c512_i32_62 : BitVec 32 := 512#32
  let v120 : BitVec 32 := Scalar.muli arg1 c512_i32_62
  let c0_i32_63 : BitVec 32 := 0#32
  let v121 : BitVec 32 := Scalar.addi v120 c0_i32_63
  v121
def k0_off42 (i : grid0.Coords) (c0_i32_63 : BitVec 32) : Fin 2 → Nat :=
  let c1024_64 : Index := 1024#32
  let arg1 : BitVec 32 := BitVec.ofNat 32 (i 1).val
  let c512_i32_62 : BitVec 32 := 512#32
  let v120 : BitVec 32 := Scalar.muli arg1 c512_i32_62
  let v121 : BitVec 32 := Scalar.addi v120 c0_i32_63
  let v122 : BitVec 32 := v121
  let v123 : Index := Scalar.indexCast v122
  ![1024, v123.toNat]
def k0_mult24 (i : grid0.Coords) : BitVec 32 :=
  let arg1 : BitVec 32 := BitVec.ofNat 32 (i 1).val
  let c512_i32_69 : BitVec 32 := 512#32
  let v132 : BitVec 32 := Scalar.muli arg1 c512_i32_69
  let c128_i32_70 : BitVec 32 := 128#32
  let v133 : BitVec 32 := Scalar.addi v132 c128_i32_70
  v133
def k0_mult25 (i : grid0.Coords) : BitVec 32 :=
  let arg1 : BitVec 32 := BitVec.ofNat 32 (i 1).val
  let c512_i32_76 : BitVec 32 := 512#32
  let v144 : BitVec 32 := Scalar.muli arg1 c512_i32_76
  let c256_i32_77 : BitVec 32 := 256#32
  let v145 : BitVec 32 := Scalar.addi v144 c256_i32_77
  v145
def k0_mult26 (i : grid0.Coords) : BitVec 32 :=
  let arg1 : BitVec 32 := BitVec.ofNat 32 (i 1).val
  let c512_i32_83 : BitVec 32 := 512#32
  let v156 : BitVec 32 := Scalar.muli arg1 c512_i32_83
  let c384_i32_84 : BitVec 32 := 384#32
  let v157 : BitVec 32 := Scalar.addi v156 c384_i32_84
  v157
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let arg0 : BitVec 32 := BitVec.ofNat 32 (i 0).val
  let c0_i32_0 : BitVec 32 := 0#32
  let v3 : BitVec 1 := Scalar.cmpi .sgt arg0 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def cc0_transform_0 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c16_i32 : BitVec 32 := 16#32
  let v1 : BitVec 1 := Scalar.cmpi .slt arg0 c16_i32
  let c7_i32 : BitVec 32 := 7#32
  let v2 : BitVec 32 := Scalar.select v1 arg1 c7_i32
  let c0_i32 : BitVec 32 := 0#32
  let c0_i32_0 : BitVec 32 := 0#32
  ![v0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c16_i32 : BitVec 32 := 16#32
  let v1 : BitVec 1 := Scalar.cmpi .slt arg0 c16_i32
  let c7_i32 : BitVec 32 := 7#32
  let v2 : BitVec 32 := Scalar.select v1 arg1 c7_i32
  let c8_i32 : BitVec 32 := 8#32
  let v3 : BitVec 32 := Scalar.addi c8_i32 v2
  let c0_i32 : BitVec 32 := 0#32
  let c0_i32_0 : BitVec 32 := 0#32
  ![v0.toNat, v3.toNat, c0_i32.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c16_i32 : BitVec 32 := 16#32
  let v1 : BitVec 1 := Scalar.cmpi .slt arg0 c16_i32
  let c7_i32 : BitVec 32 := 7#32
  let v2 : BitVec 32 := Scalar.select v1 arg1 c7_i32
  let c0_i32 : BitVec 32 := 0#32
  let c0_i32_0 : BitVec 32 := 0#32
  ![v0.toNat, c0_i32.toNat, v2.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c16_i32 : BitVec 32 := 16#32
  let v1 : BitVec 1 := Scalar.cmpi .slt arg0 c16_i32
  let c7_i32 : BitVec 32 := 7#32
  let v2 : BitVec 32 := Scalar.select v1 arg1 c7_i32
  let c8_i32 : BitVec 32 := 8#32
  let v3 : BitVec 32 := Scalar.addi c8_i32 v2
  let c0_i32 : BitVec 32 := 0#32
  let c0_i32_0 : BitVec 32 := 0#32
  ![v0.toNat, c0_i32.toNat, v3.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S192x6x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x3072 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x3072 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1536x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1536x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GateUpReferenceIdeal.lean ====
abbrev S147456x128 : Shape := ⟨2, ![147456, 128]⟩
abbrev S24576x128 : Shape := ⟨2, ![24576, 128]⟩
abbrev S16x8192x3072 : Shape := ⟨3, ![16, 8192, 3072]⟩
abbrev S16x8192 : Shape := ⟨2, ![16, 8192]⟩
abbrev S768x4x6x1x8x128 : Shape := ⟨6, ![768, 4, 6, 1, 8, 128]⟩
abbrev S768x4x6x4x8x128 : Shape := ⟨6, ![768, 4, 6, 4, 8, 128]⟩
abbrev S_ : Shape := ⟨0, ![]⟩
abbrev S768x8x4x6x4x128 : Shape := ⟨6, ![768, 8, 4, 6, 4, 128]⟩
abbrev S24576x3072 : Shape := ⟨2, ![24576, 3072]⟩
abbrev S24576x1 : Shape := ⟨2, ![24576, 1]⟩
abbrev S24576x4096 : Shape := ⟨2, ![24576, 4096]⟩
abbrev S16x1536x3072 : Shape := ⟨3, ![16, 1536, 3072]⟩
abbrev S16x1536x8192 : Shape := ⟨3, ![16, 1536, 8192]⟩
abbrev S16x1536x1 : Shape := ⟨3, ![16, 1536, 1]⟩
abbrev S16x1x8192 : Shape := ⟨3, ![16, 1, 8192]⟩
abbrev S16x1536x4096 : Shape := ⟨3, ![16, 1536, 4096]⟩
abbrev S24576 : Shape := ⟨1, ![24576]⟩
abbrev S1x252 : Shape := ⟨2, ![1, 252]⟩
abbrev S24576x252 : Shape := ⟨2, ![24576, 252]⟩

abbrev nBuf : Space → Nat
  | .hbm => 19
  | .vmem => 6
  | .smem => 0
  | _ => 0

abbrev bufTy : (tb : Table) → Fin (tcTables nBuf tb) → BufTy
  | .hbm, ⟨0, _⟩ => ⟨S147456x128, .i32⟩
  | .hbm, ⟨1, _⟩ => ⟨S24576x128, .f32⟩
  | .hbm, ⟨2, _⟩ => ⟨S16x8192x3072, .fp8e4m3⟩
  | .hbm, ⟨3, _⟩ => ⟨S16x8192, .f32⟩
  | .hbm, ⟨4, _⟩ => ⟨S768x4x6x1x8x128, .i32⟩
  | .hbm, ⟨5, _⟩ => ⟨S768x4x6x4x8x128, .i32⟩
  | .hbm, ⟨6, _⟩ => ⟨S768x4x6x4x8x128, .i32⟩
  | .hbm, ⟨7, _⟩ => ⟨S_, .i32⟩
  | .hbm, ⟨8, _⟩ => ⟨S768x4x6x4x8x128, .i32⟩
  | .hbm, ⟨9, _⟩ => ⟨S768x4x6x4x8x128, .i32⟩
  | .hbm, ⟨10, _⟩ => ⟨S768x4x6x4x8x128, .i32⟩
  | .hbm, ⟨11, _⟩ => ⟨S_, .i32⟩
  | .hbm, ⟨12, _⟩ => ⟨S768x4x6x4x8x128, .i32⟩
  | .hbm, ⟨13, _⟩ => ⟨S768x4x6x4x8x128, .i32⟩
  | .hbm, ⟨14, _⟩ => ⟨S768x8x4x6x4x128, .i32⟩
  | .hbm, ⟨15, _⟩ => ⟨S24576x3072, .i32⟩
  | .hbm, ⟨16, _⟩ => ⟨S24576x1, .f32⟩
  | .hbm, ⟨17, _⟩ => ⟨S24576x4096, .fp8e4m3⟩
  | .hbm, ⟨18, _⟩ => ⟨S24576x128, .f32⟩
  | .local _ .vmem, ⟨0, _⟩ => ⟨S24576x3072, .i32⟩
  | .local _ .vmem, ⟨1, _⟩ => ⟨S24576x1, .f32⟩
  | .local _ .vmem, ⟨2, _⟩ => ⟨S16x8192x3072, .fp8e4m3⟩
  | .local _ .vmem, ⟨3, _⟩ => ⟨S16x8192, .f32⟩
  | .local _ .vmem, ⟨4, _⟩ => ⟨S24576x4096, .fp8e4m3⟩
  | .local _ .vmem, ⟨5, _⟩ => ⟨S24576x128, .f32⟩
  | _, _ => ⟨S147456x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24576x3072 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x8192x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Pre.lean ====
abbrev S24576x3072 : Shape := ⟨2, ![24576, 3072]⟩
abbrev S128x3072 : Shape := ⟨2, ![128, 3072]⟩
abbrev S1x24576 : Shape := ⟨2, ![1, 24576]⟩
abbrev S3072x6x8x128 : Shape := ⟨4, ![3072, 6, 8, 128]⟩
abbrev S24576x128 : Shape := ⟨2, ![24576, 128]⟩
abbrev S512x3072 : Shape := ⟨2, ![512, 3072]⟩
abbrev S1x512 : Shape := ⟨2, ![1, 512]⟩
abbrev S64x6x8x128 : Shape := ⟨4, ![64, 6, 8, 128]⟩
abbrev S512x128 : Shape := ⟨2, ![512, 128]⟩
abbrev S512 : Shape := ⟨1, ![512]⟩
abbrev S512x1 : Shape := ⟨2, ![512, 1]⟩
abbrev S32x128 : Shape := ⟨2, ![32, 128]⟩
abbrev S32 : Shape := ⟨1, ![32]⟩
abbrev S32x1 : Shape := ⟨2, ![32, 1]⟩
abbrev S8x128 : Shape := ⟨2, ![8, 128]⟩
abbrev S1x1x8x128 : Shape := ⟨4, ![1, 1, 8, 128]⟩
abbrev S128x512 : Shape := ⟨2, ![128, 512]⟩

abbrev nBuf : Space → Nat
  | .hbm => 6
  | .vmem => 11
  | .smem => 0
  | _ => 0

abbrev bufTy : (tb : Table) → Fin (tcTables nBuf tb) → BufTy
  | .hbm, ⟨0, _⟩ => ⟨S24576x3072, .bf16⟩
  | .hbm, ⟨1, _⟩ => ⟨S128x3072, .bf16⟩
  | .hbm, ⟨2, _⟩ => ⟨S24576x3072, .fp8e4m3⟩
  | .hbm, ⟨3, _⟩ => ⟨S1x24576, .f32⟩
  | .hbm, ⟨4, _⟩ => ⟨S3072x6x8x128, .i32⟩
  | .hbm, ⟨5, _⟩ => ⟨S24576x128, .f32⟩
  | .local _ .vmem, ⟨0, _⟩ => ⟨S512x3072, .bf16⟩
  | .local _ .vmem, ⟨1, _⟩ => ⟨S512x3072, .bf16⟩
  | .local _ .vmem, ⟨2, _⟩ => ⟨S128x3072, .bf16⟩
  | .local _ .vmem, ⟨3, _⟩ => ⟨S512x3072, .fp8e4m3⟩
  | .local _ .vmem, ⟨4, _⟩ => ⟨S512x3072, .fp8e4m3⟩
  | .local _ .vmem, ⟨5, _⟩ => ⟨S1x512, .f32⟩
  | .local _ .vmem, ⟨6, _⟩ => ⟨S1x512, .f32⟩
  | .local _ .vmem, ⟨7, _⟩ => ⟨S64x6x8x128, .i32⟩
  | .local _ .vmem, ⟨8, _⟩ => ⟨S64x6x8x128, .i32⟩
  | .local _ .vmem, ⟨9, _⟩ => ⟨S512x128, .f32⟩
  | .local _ .vmem, ⟨10, _⟩ => ⟨S512x128, .f32⟩
  | _, _ => ⟨S24576x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32 : BitVec 32 := 0#32
  let c16_i32_9 : BitVec 32 := 16#32
  let v27 : BitVec 32 := Scalar.addi c0_i32 c16_i32_9
  let c1_i32 : BitVec 32 := 1#32
  ⟨c0_i32, v27, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  v33
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v35 : Index := Scalar.indexCast v34
  let c0_16 : Index := 0#32
  ![v35.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v38 : Index := Scalar.indexCast v34
  let c128 : Index := 128#32
  ![v38.toNat, 128]
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v42 : Index := Scalar.indexCast v34
  let c256 : Index := 256#32
  ![v42.toNat, 256]
def k0_off4 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v46 : Index := Scalar.indexCast v34
  let c384 : Index := 384#32
  ![v46.toNat, 384]
def k0_off5 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v50 : Index := Scalar.indexCast v34
  let c512 : Index := 512#32
  ![v50.toNat, 512]
def k0_off6 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v54 : Index := Scalar.indexCast v34
  let c640 : Index := 640#32
  ![v54.toNat, 640]
def k0_off7 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v58 : Index := Scalar.indexCast v34
  let c768 : Index := 768#32
  ![v58.toNat, 768]
def k0_off8 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v62 : Index := Scalar.indexCast v34
  let c896 : Index := 896#32
  ![v62.toNat, 896]
def k0_off9 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v66 : Index := Scalar.indexCast v34
  let c1024 : Index := 1024#32
  ![v66.toNat, 1024]
def k0_off10 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v70 : Index := Scalar.indexCast v34
  let c1152 : Index := 1152#32
  ![v70.toNat, 1152]
def k0_off11 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v74 : Index := Scalar.indexCast v34
  let c1280 : Index := 1280#32
  ![v74.toNat, 1280]
def k0_off12 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v78 : Index := Scalar.indexCast v34
  let c1408 : Index := 1408#32
  ![v78.toNat, 1408]
def k0_off13 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v82 : Index := Scalar.indexCast v34
  let c1536 : Index := 1536#32
  ![v82.toNat, 1536]
def k0_off14 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v86 : Index := Scalar.indexCast v34
  let c1664 : Index := 1664#32
  ![v86.toNat, 1664]
def k0_off15 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v90 : Index := Scalar.indexCast v34
  let c1792 : Index := 1792#32
  ![v90.toNat, 1792]
def k0_off16 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v94 : Index := Scalar.indexCast v34
  let c1920 : Index := 1920#32
  ![v94.toNat, 1920]
def k0_off17 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v98 : Index := Scalar.indexCast v34
  let c2048 : Index := 2048#32
  ![v98.toNat, 2048]
def k0_off18 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v102 : Index := Scalar.indexCast v34
  let c2176 : Index := 2176#32
  ![v102.toNat, 2176]
def k0_off19 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v106 : Index := Scalar.indexCast v34
  let c2304 : Index := 2304#32
  ![v106.toNat, 2304]
def k0_off20 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v110 : Index := Scalar.indexCast v34
  let c2432 : Index := 2432#32
  ![v110.toNat, 2432]
def k0_off21 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v114 : Index := Scalar.indexCast v34
  let c2560 : Index := 2560#32
  ![v114.toNat, 2560]
def k0_off22 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v118 : Index := Scalar.indexCast v34
  let c2688 : Index := 2688#32
  ![v118.toNat, 2688]
def k0_off23 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v122 : Index := Scalar.indexCast v34
  let c2816 : Index := 2816#32
  ![v122.toNat, 2816]
def k0_off24 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v126 : Index := Scalar.indexCast v34
  let c2944 : Index := 2944#32
  ![v126.toNat, 2944]
def k0_off25 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32_15 : BitVec 32 := 32#32
  let v33 : BitVec 32 := Scalar.muli arg7 c32_i32_15
  let v34 : BitVec 32 := v33
  let v231 : Index := Scalar.indexCast v34
  let c0_44 : Index := 0#32
  ![v231.toNat, 0]
def k0_off26 (k0_t1 : Fin k0_t1_loop.trips) (c0_i32_114 : BitVec 32) : Fin 4 → Nat :=
  let c4_i32_113 : BitVec 32 := 4#32
  let c0_i32 : BitVec 32 := 0#32
  let c1_i32 : BitVec 32 := 1#32
  let arg7 : BitVec 32 := Scf.iv c0_i32 c1_i32 k0_t1
  let v452 : BitVec 32 := Scalar.muli c4_i32_113 arg7
  let v453 : BitVec 32 := Scalar.addi v452 c0_i32_114
  let v454 : Index := Scalar.indexCast v453
  let c0_115 : Index := 0#32
  let c0_116 : Index := 0#32
  let c0_117 : Index := 0#32
  ![v454.toNat, 0, 0, 0]
def k0_off27 (k0_t1 : Fin k0_t1_loop.trips) (c0_i32_206 : BitVec 32) : Fin 4 → Nat :=
  let c4_i32_205 : BitVec 32 := 4#32
  let c0_i32 : BitVec 32 := 0#32
  let c1_i32 : BitVec 32 := 1#32
  let arg7 : BitVec 32 := Scf.iv c0_i32 c1_i32 k0_t1
  let v684 : BitVec 32 := Scalar.muli c4_i32_205 arg7
  let v685 : BitVec 32 := Scalar.addi v684 c0_i32_206
  let v686 : Index := Scalar.indexCast v685
  let c1 : Index := 1#32
  let c0_207 : Index := 0#32
  let c0_208 : Index := 0#32
  ![v686.toNat, 1, 0, 0]
def k0_off28 (k0_t1 : Fin k0_t1_loop.trips) (c0_i32_297 : BitVec 32) : Fin 4 → Nat :=
  let c4_i32_296 : BitVec 32 := 4#32
  let c0_i32 : BitVec 32 := 0#32
  let c1_i32 : BitVec 32 := 1#32
  let arg7 : BitVec 32 := Scf.iv c0_i32 c1_i32 k0_t1
  let v916 : BitVec 32 := Scalar.muli c4_i32_296 arg7
  let v917 : BitVec 32 := Scalar.addi v916 c0_i32_297
  let v918 : Index := Scalar.indexCast v917
  let c2 : Index := 2#32
  let c0_298 : Index := 0#32
  let c0_299 : Index := 0#32
  ![v918.toNat, 2, 0, 0]
def k0_off29 (k0_t1 : Fin k0_t1_loop.trips) (c0_i32_388 : BitVec 32) : Fin 4 → Nat :=
  let c4_i32_387 : BitVec 32 := 4#32
  let c0_i32 : BitVec 32 := 0#32
  let c1_i32 : BitVec 32 := 1#32
  let arg7 : BitVec 32 := Scf.iv c0_i32 c1_i32 k0_t1
  let v1148 : BitVec 32 := Scalar.muli c4_i32_387 arg7
  let v1149 : BitVec 32 := Scalar.addi v1148 c0_i32_388
  let v1150 : Index := Scalar.indexCast v1149
  let c3 : Index := 3#32
  let c0_389 : Index := 0#32
  let c0_390 : Index := 0#32
  ![v1150.toNat, 3, 0, 0]
def k0_off30 (k0_t1 : Fin k0_t1_loop.trips) (c0_i32_479 : BitVec 32) : Fin 4 → Nat :=
  let c4_i32_478 : BitVec 32 := 4#32
  let c0_i32 : BitVec 32 := 0#32
  let c1_i32 : BitVec 32 := 1#32
  let arg7 : BitVec 32 := Scf.iv c0_i32 c1_i32 k0_t1
  let v1380 : BitVec 32 := Scalar.muli c4_i32_478 arg7
  let v1381 : BitVec 32 := Scalar.addi v1380 c0_i32_479
  let v1382 : Index := Scalar.indexCast v1381
  let c4 : Index := 4#32
  let c0_480 : Index := 0#32
  let c0_481 : Index := 0#32
  ![v1382.toNat, 4, 0, 0]
def k0_off31 (k0_t1 : Fin k0_t1_loop.trips) (c0_i32_570 : BitVec 32) : Fin 4 → Nat :=
  let c4_i32_569 : BitVec 32 := 4#32
  let c0_i32 : BitVec 32 := 0#32
  let c1_i32 : BitVec 32 := 1#32
  let arg7 : BitVec 32 := Scf.iv c0_i32 c1_i32 k0_t1
  let v1612 : BitVec 32 := Scalar.muli c4_i32_569 arg7
  let v1613 : BitVec 32 := Scalar.addi v1612 c0_i32_570
  let v1614 : Index := Scalar.indexCast v1613
  let c5 : Index := 5#32
  let c0_571 : Index := 0#32
  let c0_572 : Index := 0#32
  ![v1614.toNat, 5, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x6x8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QuantReferenceIdeal.lean ====
abbrev S24576x3072 : Shape := ⟨2, ![24576, 3072]⟩
abbrev S128x3072 : Shape := ⟨2, ![128, 3072]⟩
abbrev S1x24576 : Shape := ⟨2, ![1, 24576]⟩
abbrev S24576 : Shape := ⟨1, ![24576]⟩
abbrev S24576x1 : Shape := ⟨2, ![24576, 1]⟩
abbrev S1x252 : Shape := ⟨2, ![1, 252]⟩
abbrev S24576x252 : Shape := ⟨2, ![24576, 252]⟩

abbrev nBuf : Space → Nat
  | .hbm => 4
  | .vmem => 3
  | .smem => 0
  | _ => 0

abbrev bufTy : (tb : Table) → Fin (tcTables nBuf tb) → BufTy
  | .hbm, ⟨0, _⟩ => ⟨S24576x3072, .bf16⟩
  | .hbm, ⟨1, _⟩ => ⟨S128x3072, .bf16⟩
  | .hbm, ⟨2, _⟩ => ⟨S24576x3072, .fp8e4m3⟩
  | .hbm, ⟨3, _⟩ => ⟨S1x24576, .f32⟩
  | .local _ .vmem, ⟨0, _⟩ => ⟨S24576x3072, .bf16⟩
  | .local _ .vmem, ⟨1, _⟩ => ⟨S24576x3072, .fp8e4m3⟩
  | .local _ .vmem, ⟨2, _⟩ => ⟨S1x24576, .f32⟩
  | _, _ => ⟨S24576x3072, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S24576x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x24576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.DownBlock.lean ====
module

public import proofs.«01_k».proof.Proof.Gen.DownIdeal.Value
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
namespace Cert.DownIdeal.Value
open Cert.DownIdeal Cert.DownIdeal.Gen
variable (m : (ℓ : Loc nD τ sig) → Buf (Elt Ideal) ℓ)

/-- The windows' block indices, in the number of the grid point. -/
theorem idx : ∀ t : Fin cfg0.N, win0_0.index t = ![t.val / 6, 0] ∧ win0_1.index t = ![t.val / 6, 0] ∧ win0_2.index t = ![t.val / 6, 0]
    ∧ win0_3.index t = ![t.val / 6, t.val % 6, 0] ∧ win0_4.index t = ![t.val / 6, 0, t.val % 6] ∧ win0_5.index t = ![t.val / 6, t.val % 6, 0, 0]
    ∧ (grid0.coords t 0).val = t.val / 6 ∧ t.val / 6 < 16 :=
  (by decide +kernel : ∀ t : Fin grid0.N, _)

/-- A lane index of the auxiliary rows is the one the kernel keeps for its expert iff it is sixteen more than the expert's number. -/
theorem lane_eq : ∀ (x : Fin 128) (e : Fin 16),
    IntOp.cmpi CmpIPredicate.eq (BitVec.ofNat 32 x.val) (Scalar.addi (BitVec.ofNat 32 e.val) 16#32) = if x.val = 16 + e.val then 1#1 else 0#1 := by
  decide +kernel

/-- The scratch of row probabilities after the first point of an expert: lane `16 + e` of the auxiliary block, in every lane. -/
theorem fill (c : Dev nD) (t : Fin cfg0.N) (r : Fin 1536) (l : Fin 128) :
    k0_pay4 (F := Ideal) (grid0.coords t) (iblk m c 2 t) (ix2 r l)
      = (iblk m c 2 t (ix2 r ⟨16 + t.val / 6, by have := (idx t).2.2.2.2.2.2.2; omega⟩) : EReal) := by
  obtain ⟨-, -, -, -, -, -, h0, h1⟩ := idx t
  pointwise [k0_pay4]
  rw [h0, Finset.sum_eq_single (⟨16 + t.val / 6, by omega⟩ : Fin 128)]
  · rw [lane_eq ⟨16 + t.val / 6, by omega⟩ ⟨t.val / 6, h1⟩, if_pos rfl]; rfl
  · intro x _ hx
    rw [lane_eq x ⟨t.val / 6, h1⟩, if_neg (fun h => hx (Fin.ext h))]; rfl
  · intro h; exact absurd (Finset.mem_univ _) h

/-- One entry of a block of the result: the product of a row of codes with a row of weights, times the row's scale,
    the output channel's scale and the row's probability. -/
def entry (X0 : FVec Ideal S1536x4096 .fp8e4m3) (X1 R : FVec Ideal S1536x128 .f32) (X3 : FVec Ideal S1x512x4096 .fp8e4m3)
    (X4 : FVec Ideal S1x1x512 .f32) (r : Fin 1536) (d : Fin 512) : EReal :=
  (∑ k : Fin 4096, X0 (ix2 r k) * X3 (ix3 0 d k)) * X1 (ix2 r 0) * X4 (ix3 0 0 d) * R (ix2 r 0)

set_option maxHeartbeats 1600000 in
/-- The block a first point of an expert leaves: the entries, laid out in tiles of eight rows and 128 lanes. -/
theorem block_first (c : Dev nD) (t : Fin cfg0.N) (h : t.val % 6 = 0) (y0 : Fin 192) (y1 : Fin 4) (y2 : Fin 8) (y3 : Fin 128) :
    (outsAt0 m c t.val t.isLt).1 (ix4 y0 y1 y2 y3) = entry (iblk m c 0 t) (iblk m c 1 t) (k0_pay4 (F := Ideal) (grid0.coords t) (iblk m c 2 t))
      (iblk m c 3 t) (iblk m c 4 t) ⟨8 * y0.val + y2.val, by omega⟩ ⟨128 * y1.val + y3.val, by omega⟩ := by
  rw [outsAt0_A m c t h]; frame_out
  simp (disch := exact (by decide : ∀ a : Fin 2, (![0, 0] : Fin 2 → ℕ) a = 0)) only [View.readCov_fill]
  generalize k0_pay4 (F := Ideal) (grid0.coords t) (iblk m c 2 t) = R
  canon_tiles y hy
  all_goals (simp only [ix4_0, ix4_1, ix4_2, ix4_3] at hy0 hy1 hy2 hy3; open_payloads; unfold entry; pointwise; blk_point [])

set_option maxHeartbeats 1600000 in
/-- The block a later point of an expert leaves: the same entries, over the row probabilities in the scratch. -/
theorem block_later (c : Dev nD) (t : Fin cfg0.N) (h : ¬ t.val % 6 = 0) (y0 : Fin 192) (y1 : Fin 4) (y2 : Fin 8) (y3 : Fin 128) :
    (outsAt0 m c t.val t.isLt).1 (ix4 y0 y1 y2 y3) = entry (iblk m c 0 t) (iblk m c 1 t) (outsAt0 m c (t.val - 1) (by omega)).2
      (iblk m c 3 t) (iblk m c 4 t) ⟨8 * y0.val + y2.val, by omega⟩ ⟨128 * y1.val + y3.val, by omega⟩ := by
  rw [outsAt0_B m c t h]; frame_out
  have hr : ∀ X : Vec Ideal S1536x128 .f32, View.read (Elt Ideal) (View.whole cc0_scratch0) ((Memref.isWhole_whole cc0_scratch0).unread X) = X :=
    fun X => Memref.IsWhole.read_unread _ X
  simp only [hr]
  generalize (outsAt0 m c (t.val - 1) _).2 = R
  canon_tiles y hy
  all_goals (simp only [ix4_0, ix4_1, ix4_2, ix4_3] at hy0 hy1 hy2 hy3; open_payloads; unfold entry; pointwise; blk_point [])

/-- A later point leaves the scratch as it was. -/
theorem keep (c : Dev nD) (t : Fin cfg0.N) (h : ¬ t.val % 6 = 0) :
    (outsAt0 m c t.val t.isLt).2 = (outsAt0 m c (t.val - 1) (by omega)).2 := by
  rw [outsAt0_B m c t h]; unfold sout0_B_0; rfl

/-- What the scratch holds after any point: the row probabilities of the point's expert. -/
theorem probs (c : Dev nD) : ∀ (n : ℕ) (hn : n < cfg0.N) (r : Fin 1536) (l : Fin 128),
    (outsAt0 m c n hn).2 (ix2 r l) = (m ((c : Thread nD τ).loc main_arg2)
      (ix2 ⟨1536 * (n / 6) + r.val, by have := (idx ⟨n, hn⟩).2.2.2.2.2.2.2; simp only at this; omega⟩
        ⟨16 + n / 6, by have := (idx ⟨n, hn⟩).2.2.2.2.2.2.2; simp only at this; omega⟩) : EReal) := by
  have first : ∀ (t : Fin cfg0.N) (h : t.val % 6 = 0) (r : Fin 1536) (l : Fin 128),
      (outsAt0 m c t.val t.isLt).2 (ix2 r l) = (m ((c : Thread nD τ).loc main_arg2)
        (ix2 ⟨1536 * (t.val / 6) + r.val, by have := (idx t).2.2.2.2.2.2.2; omega⟩
          ⟨16 + t.val / 6, by have := (idx t).2.2.2.2.2.2.2; omega⟩) : EReal) := by
    intro t h r l
    rw [outsAt0_A m c t h]; frame_out
    rw [fill]
    blk_point [iblk, V, idx t]
  intro n
  induction n with
  | zero => intro hn r l; exact first ⟨0, hn⟩ rfl r l
  | succ n ih =>
    intro hn r l
    by_cases h : (n + 1) % 6 = 0
    · exact first ⟨n + 1, hn⟩ h r l
    · have hd : (n + 1) / 6 = n / 6 := by omega
      have e : (outsAt0 m c (n + 1) hn).2 = (outsAt0 m c n (by omega)).2 := keep m c ⟨n + 1, hn⟩ h
      rw [e, ih (by omega) r l]
      simp only [hd]

end Cert.DownIdeal.Value
end
-- ==== Proof.DownValue.lean ====
module

public import proofs.«01_k».proof.Proof.DownBlock
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
namespace Cert.DownIdeal.Value
open Cert.DownIdeal Cert.DownIdeal.Gen
variable (m : (ℓ : Loc nD τ sig) → Buf (Elt Ideal) ℓ)

/-- One entry of the whole result: row `n` of the codes against row `d` of the weights of expert `e`, times the
    row's scale, the channel's scale and the row's probability, kept at lane `16 + e` of the auxiliary rows. -/
def resultAt (HC : FVec Ideal S24576x4096 .fp8e4m3) (HS AUX : FVec Ideal S24576x128 .f32) (W : FVec Ideal S16x3072x4096 .fp8e4m3)
    (S : FVec Ideal S16x3072 .f32) (n : Fin 24576) (e : Fin 16) (d : Fin 3072) : EReal :=
  (∑ k : Fin 4096, HC (ix2 n k) * W (ix3 e d k)) * HS (ix2 n 0) * S (ix2 e d) * AUX (ix2 n ⟨16 + e.val, by omega⟩)

/-- The whole result, laid out in tiles of eight rows and 128 lanes: the rows of an expert fill 192 tile rows. -/
def result (HC : FVec Ideal S24576x4096 .fp8e4m3) (HS AUX : FVec Ideal S24576x128 .f32) (W : FVec Ideal S16x3072x4096 .fp8e4m3)
    (S : FVec Ideal S16x3072 .f32) (j : S3072x24x8x128.Idx) : EReal :=
  have h0 : (j 0).val < 3072 := (j 0).isLt
  have h1 : (j 1).val < 24 := (j 1).isLt
  have h2 : (j 2).val < 8 := (j 2).isLt
  have h3 : (j 3).val < 128 := (j 3).isLt
  resultAt HC HS AUX W S ⟨8 * (j 0).val + (j 2).val, by omega⟩ ⟨(j 0).val / 192, by omega⟩ ⟨128 * (j 1).val + (j 3).val, by omega⟩

/-- The entries of a point's block are entries of the result. -/
theorem entry_eq (c : Dev nD) (t : Fin cfg0.N) (R : FVec Ideal S1536x128 .f32) (r : Fin 1536) (d : Fin 512) (n : Fin 24576) (e : Fin 16) (d' : Fin 3072)
    (hn : n.val = 1536 * (t.val / 6) + r.val) (he : e.val = t.val / 6) (hd : d'.val = 512 * (t.val % 6) + d.val)
    (hR : R (ix2 r 0) = (m ((c : Thread nD τ).loc main_arg2) (ix2 n ⟨16 + e.val, by omega⟩) : EReal)) :
    entry (iblk m c 0 t) (iblk m c 1 t) R (iblk m c 3 t) (iblk m c 4 t) r d
      = resultAt (m ((c : Thread nD τ).loc main_arg0)) (m ((c : Thread nD τ).loc main_arg1)) (m ((c : Thread nD τ).loc main_arg2))
            (m ((c : Thread nD τ).loc main_arg3)) (m ((c : Thread nD τ).loc main_arg4)) n e d' := by
  unfold entry resultAt
  rw [hR]
  blk_point [iblk, V, idx t]

/-- The block any point leaves holds the entries of the result at its place in the array. -/
theorem point (c : Dev nD) (t : Fin cfg0.N) (y0 : Fin 192) (y1 : Fin 4) (y2 : Fin 8) (y3 : Fin 128) (n : Fin 24576) (e : Fin 16) (d' : Fin 3072)
    (hn : n.val = 1536 * (t.val / 6) + (8 * y0.val + y2.val)) (he : e.val = t.val / 6) (hd : d'.val = 512 * (t.val % 6) + (128 * y1.val + y3.val)) :
    (outsAt0 m c t.val t.isLt).1 (ix4 y0 y1 y2 y3)
      = resultAt (m ((c : Thread nD τ).loc main_arg0)) (m ((c : Thread nD τ).loc main_arg1)) (m ((c : Thread nD τ).loc main_arg2))
          (m ((c : Thread nD τ).loc main_arg3)) (m ((c : Thread nD τ).loc main_arg4)) n e d' := by
  have hp := probs m c t.val t.isLt ⟨8 * y0.val + y2.val, by omega⟩ 0
  have hi : (ix2 ⟨1536 * (t.val / 6) + (8 * y0.val + y2.val), by omega⟩ ⟨16 + t.val / 6, by omega⟩ : S24576x128.Idx) = ix2 n ⟨16 + e.val, by omega⟩ := by
    refine (ix2_inj ..).2 ⟨Fin.ext hn.symm, Fin.ext ?_⟩
    simp only [he]
  by_cases h : t.val % 6 = 0
  · rw [block_first m c t h]
    refine entry_eq m c t _ _ _ n e d' hn he hd ?_
    rw [← hi, ← hp, outsAt0_A m c t h]; frame_out
  · rw [block_later m c t h]
    refine entry_eq m c t _ _ _ n e d' hn he hd ?_
    rw [← hi, ← hp, ← keep m c t h]

/-- The array after the run holds the result. -/
theorem final (c : Dev nD) : (dats m 0 c).arrAt 5 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  have e0 : ((((cfg0.win 5).blk t).view.emb y) 0).val = 192 * (t.val / 6) + (y 0).val := by blk_simp [idx t]; omega
  have e1 : ((((cfg0.win 5).blk t).view.emb y) 1).val = 4 * (t.val % 6) + (y 1).val := by blk_simp [idx t]; omega
  have e2 : ((((cfg0.win 5).blk t).view.emb y) 2).val = (y 2).val := by blk_simp [idx t]
  have e3 : ((((cfg0.win 5).blk t).view.emb y) 3).val = (y 3).val := by blk_simp [idx t]
  have h0 : (y 0).val < 192 := (y 0).isLt
  blk_simp
  rw [after0_5]
  refine (congrArg _ (eq_ix4 y)).trans (point m c t (y 0) (y 1) (y 2) (y 3) _ _ _ ?_ ?_ ?_)
  · show 8 * ((((cfg0.win 5).blk t).view.emb y) 0).val + ((((cfg0.win 5).blk t).view.emb y) 2).val = _
    rw [e0, e2]; omega
  · show ((((cfg0.win 5).blk t).view.emb y) 0).val / 192 = _
    rw [e0]; omega
  · show 128 * ((((cfg0.win 5).blk t).view.emb y) 1).val + ((((cfg0.win 5).blk t).view.emb y) 3).val = _
    rw [e1, e3]; omega

end Cert.DownIdeal.Value
end
-- ==== Proof.DownRef.lean ====
module

public import proofs.«01_k».proof.Proof.Gen.DownReferenceIdeal.Value
public import Idealize.ShloMosaic.Lib.Pipeline.ValueKit
public import Idealize.ShloMosaic.Lib.Claim
public import proofs.«01_k».proof.Proof.DownValue

@[expose] public section
set_option maxRecDepth 16384
noncomputable section
open Idealize.ShloMosaic Idealize.ShloMosaic.TcCoe Idealize.SL.Sem
open Idealize.ShloMosaic.Pipeline (Dat)
namespace Cert.DownReferenceIdeal.Value
open Cert.DownReferenceIdeal Cert.DownReferenceIdeal.Gen
variable (m : (ℓ : Loc nD τ sig) → Buf (Elt Ideal) ℓ)

/-- Every window is its whole array. -/
theorem idx : ∀ t : Fin cfg0.N, win0_0.index t = ![0, 0] ∧ win0_1.index t = ![0, 0] ∧ win0_2.index t = ![0, 0, 0]
    ∧ win0_3.index t = ![0, 0, 0] ∧ win0_4.index t = ![0, 0] ∧ win0_5.index t = ![0, 0, 0, 0] :=
  (by decide +kernel : ∀ t : Fin grid0.N, _)

/-- Two expert numbers are equal as words iff they are equal. -/
theorem expert_eq : ∀ x e : Fin 16, IntOp.cmpi CmpIPredicate.eq (BitVec.ofNat 32 x.val) (BitVec.ofNat 32 e.val) = if x = e then 1#1 else 0#1 := by
  decide +kernel

/-- The row probabilities the reference picks: for row `r` of expert `e`, lane `16 + e` of the auxiliary rows. -/
theorem probs (c : Dev nD) (e : Fin 16) (r : Fin 1536) (l : Fin 1) : (V m c main_v11 : FVec Ideal S16x1536x1 .f32) (ix3 e r l)
    = (m ((c : Thread nD τ).loc main_arg2) (ix2 ⟨1536 * e.val + r.val, by omega⟩ ⟨16 + e.val, by omega⟩) : EReal) := by
  entry_read
  pointwise
  rw [Finset.sum_eq_single e]
  · rw [expert_eq, if_pos rfl]
    refine (show ∀ a b : EReal, Scalar.select 1#1 a b = a from fun _ _ => rfl) _ _ |>.trans ?_
    blk_ext []
  · intro x _ hx
    rw [expert_eq, if_neg hx]; rfl
  · intro h; exact absurd (Finset.mem_univ _) h

/-- The row scales the reference takes: lane 0 of the scale rows. -/
theorem scales (c : Dev nD) (n : Fin 24576) (l : Fin 1) : (V m c main_v0 : FVec Ideal S24576x1 .f32) (ix2 n l)
    = (m ((c : Thread nD τ).loc main_arg1) (ix2 n 0) : EReal) := by
  entry_read
  pointwise
  blk_ext []

/-- The array after the run is the body's value over the arguments. -/
theorem final (c : Dev nD) : (dats m 0 c).arrAt 5 cfg0.N = k0_pay1 (F := Ideal) (m ((c : Thread nD τ).loc main_arg0)) (V m c main_v0)
     (m ((c : Thread nD τ).loc main_arg3))  (m ((c : Thread nD τ).loc main_arg4)) (V m c main_v11) := by
  refine (dats m 0 c).arrAt_eq_of_after_last 5 t0_0 (by decide +kernel) _ fun j => ?_
  blk_simp
  rw [after0_5]; frame_out
  blk_point [iblk, V, idx t0_0]

/-- One entry of what the reference's body computes, from its arguments. -/
theorem pay (HC : FVec Ideal S24576x4096 .fp8e4m3) (HS : FVec Ideal S24576x1 .f32) (W : FVec Ideal S16x3072x4096 .fp8e4m3)
    (S : FVec Ideal S16x3072 .f32) (R : FVec Ideal S16x1536x1 .f32) (a : Fin 3072) (b : Fin 24) (s : Fin 8) (l : Fin 128)
    (n : Fin 24576) (e : Fin 16) (d : Fin 3072) (r : Fin 1536)
    (hn : n.val = 8 * a.val + s.val) (he : e.val = a.val / 192) (hd : d.val = 128 * b.val + l.val) (hr : r.val = a.val % 192 * 8 + s.val) :
    k0_pay1 (F := Ideal) HC HS W S R (ix4 a b s l)
      = (∑ k : Fin 4096, HC (ix2 n k) * W (ix3 e d k)) * HS (ix2 n 0) * S (ix2 e d) * R (ix3 e r 0) := by
  pointwise [k0_pay1]
  blk_point []

/-- The reference's array after its run holds the same result as the kernel's, read from the same arguments. -/
theorem final_eq (c : Dev nD) : (dats m 0 c).arrAt 5 cfg0.N
    = Cert.DownIdeal.Value.result (m ((c : Thread nD τ).loc main_arg0)) (m ((c : Thread nD τ).loc main_arg1)) (m ((c : Thread nD τ).loc main_arg2))
        (m ((c : Thread nD τ).loc main_arg3)) (m ((c : Thread nD τ).loc main_arg4)) := by
  rw [final]
  funext j
  have h0 : (j 0).val < 3072 := (j 0).isLt
  have h1 : (j 1).val < 24 := (j 1).isLt
  have h2 : (j 2).val < 8 := (j 2).isLt
  have h3 : (j 3).val < 128 := (j 3).isLt
  refine (congrArg _ (eq_ix4 j)).trans ((pay _ _ _ _ _ (j 0) (j 1) (j 2) (j 3) ⟨8 * (j 0).val + (j 2).val, by omega⟩ ⟨(j 0).val / 192, by omega⟩
    ⟨128 * (j 1).val + (j 3).val, by omega⟩ ⟨(j 0).val % 192 * 8 + (j 2).val, by omega⟩ rfl rfl rfl rfl).trans ?_)
  rw [scales, probs]
  unfold Cert.DownIdeal.Value.result Cert.DownIdeal.Value.resultAt
  refine congrArg _ (congrArg _ ((ix2_inj ..).2 ⟨Fin.ext ?_, rfl⟩))
  show 1536 * ((j 0).val / 192) + ((j 0).val % 192 * 8 + (j 2).val) = 8 * (j 0).val + (j 2).val
  omega

end Cert.DownReferenceIdeal.Value
end
-- ==== Proof.GateUpSetup.lean ====
module

public import proofs.«01_k».proof.Proof.Gen.GateUp.Frame
public import proofs.«01_k».proof.Proof.Gen.GateUp.Skeleton
public import proofs.«01_k».proof.Proof.Gen.GateUp.Loops
public import Idealize.ShloMosaic.Lib.Pipeline.FrameBody
public import Idealize.ShloMosaic.Lib.WordCmp

@[expose] public section

set_option maxRecDepth 16384

noncomputable section

/-! What the runs of the gate-up kernel are stated over: the branch conditions of its body in closed form over
the grid points (a point is `8·e + f`), its staging and scratch memrefs, and the resources of the region's
invariant. -/

namespace Cert.GateUp.Run

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points whose coordinates have 16·i1 + 1 ≤ i0 — decided over the grid. -/
theorem hcond0_0 : ∀ t : Fin cfg0.N, cond0_0 (grid0.coords t) ↔ 16 * (t.val % 8) + 1 ≤ t.val / 8 % 17 :=
  (by decide +kernel : ∀ t : Fin grid0.N, cond0_0 (grid0.coords t) ↔ 16 * (t.val % 8) + 1 ≤ t.val / 8 % 17)

/-- The condition of the body's `scf.if` 1 (`k0_h2`), from the grid coordinates (the skeleton's scalar
    chain substituted). -/
abbrev cond0_1 (i : grid0.Coords) : Prop := k0_cond2 i = 1#1
/-- It holds at the points ≡ 0 (mod 8) — by arithmetic of the point. -/
theorem hcond0_1 : ∀ t : Fin cfg0.N, cond0_1 (grid0.coords t) ↔ t.val % 8 = 0 :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 8 = 0)

/-- The condition of the body's `scf.if` 2 (`k0_h3`), from the grid coordinates (the skeleton's scalar
    chain substituted). -/
abbrev cond0_2 (i : grid0.Coords) : Prop := k0_cond3 i = 1#1
/-- It holds at the points before point 8 — by arithmetic of the point. -/
theorem hcond0_2 : ∀ t : Fin cfg0.N, cond0_2 (grid0.coords t) ↔ t.val < 8 :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ t.val < 8)

/-- The condition of the body's `scf.if` 3 (`k0_h4`), from the grid coordinates (the skeleton's scalar
    chain substituted). -/
abbrev cond0_3 (i : grid0.Coords) : Prop := k0_cond4 i = 1#1
/-- It holds at the points whose coordinates have 1 ≤ i0 and i0 ≤ 15 — decided over the grid. -/
theorem hcond0_3 : ∀ t : Fin cfg0.N, cond0_3 (grid0.coords t) ↔ (1 ≤ t.val / 8 % 17 ∧ t.val / 8 % 17 ≤ 15) :=
  (by decide +kernel : ∀ t : Fin grid0.N, cond0_3 (grid0.coords t) ↔ (1 ≤ t.val / 8 % 17 ∧ t.val / 8 % 17 ≤ 15))

/-- The condition of the body's `scf.if` 4 (`k0_h5`), from the grid coordinates (the skeleton's scalar
    chain substituted). -/
abbrev cond0_4 (i : grid0.Coords) : Prop := k0_cond5 i = 1#1
/-- It holds at the points from point 128 on — by arithmetic of the point. -/
theorem hcond0_4 : ∀ t : Fin cfg0.N, cond0_4 (grid0.coords t) ↔ 128 ≤ t.val :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [cond0_4, k0_cond5, e0, e1]
    word_cmp
   : ∀ t : Fin grid0.N, cond0_4 (grid0.coords t) ↔ 128 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S192x6x8x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x3072 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x3072 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1536x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1536x3072 .fp8e4m3 := Memref.whole cc0_scratch0
abbrev scM0_1 : Memref sig .tc .vmem S1536x128 .f32 := Memref.whole cc0_scratch1
abbrev scM0_2 : Memref sig .tc .vmem S1536x4096 .f32 := Memref.whole cc0_scratch2
abbrev scM0_3 : Memref sig .tc .vmem S1536x128 .f32 := Memref.whole cc0_scratch3
abbrev scM0_4 : Memref sig .tc .vmem S1536x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.GateUp.Run

end
-- ==== Proof.GateUpFrame.lean ====
module

public import proofs.«01_k».proof.Proof.GateUpSetup
public import Idealize.ShloMosaic.Lib.Claim

@[expose] public section

set_option maxRecDepth 16384

noncomputable section

namespace Cert.GateUp.Run

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The six cases of the body: expert 0, a middle expert, or the last round, each at its first column block or a later one. -/
def Cases (i : grid0.Coords) : Prop :=
  (¬cond0_0 i ∧ cond0_1 i ∧ cond0_2 i ∧ ¬cond0_3 i ∧ ¬cond0_4 i)
  ∨ (¬cond0_0 i ∧ ¬cond0_1 i ∧ cond0_2 i ∧ ¬cond0_3 i ∧ ¬cond0_4 i)
  ∨ (cond0_0 i ∧ cond0_1 i ∧ ¬cond0_2 i ∧ cond0_3 i ∧ ¬cond0_4 i)
  ∨ (¬cond0_0 i ∧ ¬cond0_1 i ∧ ¬cond0_2 i ∧ cond0_3 i ∧ ¬cond0_4 i)
  ∨ (cond0_0 i ∧ cond0_1 i ∧ ¬cond0_2 i ∧ ¬cond0_3 i ∧ cond0_4 i)
  ∨ (¬cond0_0 i ∧ ¬cond0_1 i ∧ ¬cond0_2 i ∧ ¬cond0_3 i ∧ cond0_4 i)

theorem cases_at (t : Fin cfg0.N) : Cases (grid0.coords t) := by
  have hN : t.val < 136 := lt_of_lt_of_eq t.isLt (show cfg0.N = 136 from N_0)
  unfold Cases
  rw [hcond0_0 t, hcond0_1 t, hcond0_2 t, hcond0_3 t, hcond0_4 t]
  omega

set_option maxHeartbeats 4000000 in
/-- The body runs at any point from the inputs' buffers at their contents and every other buffer at any, and gives them back so. -/
theorem body_run (c : Dev nD) (i : grid0.Coords) (arg2 : Memref sig .tc .vmem S192x6x8x128 .i32) (harg2 : arg2.IsWhole) (arg3 : Memref sig .tc .vmem S1536x128 .f32) (harg3 : arg3.IsWhole) (arg4 : Memref sig .tc .vmem S1x512x3072 .fp8e4m3) (harg4 : arg4.IsWhole) (arg5 : Memref sig .tc .vmem S1x512x3072 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1536x512 .fp8e4m3) (harg8 : arg8.IsWhole) (arg9 : Memref sig .tc .vmem S1536x128 .f32) (harg9 : arg9.IsWhole) (arg10 : Memref sig .tc .vmem S1536x3072 .fp8e4m3) (harg10 : arg10.IsWhole) (arg11 : Memref sig .tc .vmem S1536x128 .f32) (harg11 : arg11.IsWhole) (arg12 : Memref sig .tc .vmem S1536x4096 .f32) (harg12 : arg12.IsWhole) (arg13 : Memref sig .tc .vmem S1536x128 .f32) (harg13 : arg13.IsWhole) (arg14 : Memref sig .tc .vmem S1536x128 .f32) (harg14 : arg14.IsWhole) (hc : Cases i)
    (x0 : Vec F S192x6x8x128 .i32) (x1 : Vec F S1536x128 .f32) (x2 : Vec F S1x512x3072 .fp8e4m3) (x3 : Vec F S1x512x3072 .fp8e4m3) (x4 : Vec F S1x1x512 .f32) (x5 : Vec F S1x1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14) K := by
  simp only [cc0_gate_up_eq_skeleton]; unfold cc0_gate_up_skel
  simp only [k0_part1_eq_skeleton, k0_part2_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  rcases hc with ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩
  all_goals
    sl_exec (disch := first | sl_exact hc0 | sl_exact hc1 | sl_exact hc2 | sl_exact hc3 | sl_exact hc4)
    sl_step
    iapply Hk
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_GateUp`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 3 rfl).trans ((hA c 3).trans (V_main_arg2 m c)),
      ((h c).2 main_arg3 (Pipeline.mem_restRefs_of main_arg3 (by decide) (by decide))).trans (V_main_arg3 m c)⟩) h

/-- The outputs the certificate forgets: nothing reads what the kernel leaves in them. -/
def forgets0 : Fin 8 → Bool := fun w => w.val == 6 || w.val == 7

/-- The proof data on core `c`: the arrays as the region finds them, each input's buffer at its block, the outputs
    unnamed, every scratch buffer at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d))

set_option maxHeartbeats 4000000 in
/-- The body at any point, by its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, H6, H7⟩
  iapply (body_run c (grid0.coords t) _ _ _ _ _ _ _ _ _ _ _ _ _ _ _ _ _ _ _ _ _ _ _ _ _ _ (cases_at t) (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := Idealize.SL.BI.Entails.refl _

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_forget m ρ (fun c => (dats m 0 c).toRForget forgets0) (A_eq m) (run_main m ρ)

/-- The frame: the run terminates with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.GateUp.Run

end
-- ==== Proof.GateUpIdealSetup.lean ====
module

public import proofs.«01_k».proof.Proof.Gen.GateUpIdeal.Frame
public import proofs.«01_k».proof.Proof.Gen.GateUpIdeal.Skeleton
public import proofs.«01_k».proof.Proof.Gen.GateUpIdeal.Loops
public import Idealize.ShloMosaic.Lib.Pipeline.FrameBody
public import Idealize.ShloMosaic.Lib.WordCmp

@[expose] public section

set_option maxRecDepth 16384

noncomputable section

/-! What the runs of the gate-up kernel are stated over: the branch conditions of its body in closed form over
the grid points (a point is `8·e + f`), its staging and scratch memrefs, and the resources of the region's
invariant. -/

namespace Cert.GateUpIdeal.Run

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points whose coordinates have 16·i1 + 1 ≤ i0 — decided over the grid. -/
theorem hcond0_0 : ∀ t : Fin cfg0.N, cond0_0 (grid0.coords t) ↔ 16 * (t.val % 8) + 1 ≤ t.val / 8 % 17 :=
  (by decide +kernel : ∀ t : Fin grid0.N, cond0_0 (grid0.coords t) ↔ 16 * (t.val % 8) + 1 ≤ t.val / 8 % 17)

/-- The condition of the body's `scf.if` 1 (`k0_h2`), from the grid coordinates (the skeleton's scalar
    chain substituted). -/
abbrev cond0_1 (i : grid0.Coords) : Prop := k0_cond2 i = 1#1
/-- It holds at the points ≡ 0 (mod 8) — by arithmetic of the point. -/
theorem hcond0_1 : ∀ t : Fin cfg0.N, cond0_1 (grid0.coords t) ↔ t.val % 8 = 0 :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 8 = 0)

/-- The condition of the body's `scf.if` 2 (`k0_h3`), from the grid coordinates (the skeleton's scalar
    chain substituted). -/
abbrev cond0_2 (i : grid0.Coords) : Prop := k0_cond3 i = 1#1
/-- It holds at the points before point 8 — by arithmetic of the point. -/
theorem hcond0_2 : ∀ t : Fin cfg0.N, cond0_2 (grid0.coords t) ↔ t.val < 8 :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ t.val < 8)

/-- The condition of the body's `scf.if` 3 (`k0_h4`), from the grid coordinates (the skeleton's scalar
    chain substituted). -/
abbrev cond0_3 (i : grid0.Coords) : Prop := k0_cond4 i = 1#1
/-- It holds at the points whose coordinates have 1 ≤ i0 and i0 ≤ 15 — decided over the grid. -/
theorem hcond0_3 : ∀ t : Fin cfg0.N, cond0_3 (grid0.coords t) ↔ (1 ≤ t.val / 8 % 17 ∧ t.val / 8 % 17 ≤ 15) :=
  (by decide +kernel : ∀ t : Fin grid0.N, cond0_3 (grid0.coords t) ↔ (1 ≤ t.val / 8 % 17 ∧ t.val / 8 % 17 ≤ 15))

/-- The condition of the body's `scf.if` 4 (`k0_h5`), from the grid coordinates (the skeleton's scalar
    chain substituted). -/
abbrev cond0_4 (i : grid0.Coords) : Prop := k0_cond5 i = 1#1
/-- It holds at the points from point 128 on — by arithmetic of the point. -/
theorem hcond0_4 : ∀ t : Fin cfg0.N, cond0_4 (grid0.coords t) ↔ 128 ≤ t.val :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [cond0_4, k0_cond5, e0, e1]
    word_cmp
   : ∀ t : Fin grid0.N, cond0_4 (grid0.coords t) ↔ 128 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S192x6x8x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x3072 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x3072 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1536x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1536x3072 .fp8e4m3 := Memref.whole cc0_scratch0
abbrev scM0_1 : Memref sig .tc .vmem S1536x128 .f32 := Memref.whole cc0_scratch1
abbrev scM0_2 : Memref sig .tc .vmem S1536x4096 .f32 := Memref.whole cc0_scratch2
abbrev scM0_3 : Memref sig .tc .vmem S1536x128 .f32 := Memref.whole cc0_scratch3
abbrev scM0_4 : Memref sig .tc .vmem S1536x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.GateUpIdeal.Run

end
-- ==== Proof.GateUpBlock.lean ====
module

public import proofs.«01_k».proof.Proof.GateUpIdealSetup
public import Idealize.ShloMosaic.Lib.Pipeline.ValueKit
public import Idealize.ShloMosaic.Lib.Pipeline.ReadBack

/-! # What one block of the gate-up kernel computes, entry by entry

The tiles that the body stores are stated as tiles of five functions on whole buffers: the hidden
buffer with one column block replaced, the running lane maxima, the quantised block, and the blocks
of scales and of inverse scales. -/

@[expose] public section
set_option maxRecDepth 16384
noncomputable section
open Idealize.ShloMosaic Idealize.ShloMosaic.TcCoe Idealize.SL.Sem
namespace Cert.GateUpIdeal.Value
open Cert.GateUpIdeal Cert.GateUpIdeal.Gen

/-- The gated product of two scaled sums: `g · logistic g · u`, with `g = a · s · sg` and `u = b · s · su`. -/
def gated (a b s sg su : EReal) : EReal := a * s * sg * Ideal.logistic (a * s * sg) * (b * s * su)

/-- The magnitude of an extended real. -/
def mag (x : EReal) : EReal := max x (-x)

/-- The larger of the running maximum and the magnitudes of the four columns of one lane in a block of 512. -/
def maxStep (a : EReal) (h : Fin 512 → EReal) (l : Fin 128) : EReal :=
  max (max (max (max a (mag (h ⟨l.val, by omega⟩))) (mag (h ⟨128 + l.val, by omega⟩)))
    (mag (h ⟨256 + l.val, by omega⟩))) (mag (h ⟨384 + l.val, by omega⟩))

/-- Clipping to the range of the eight-bit format, ±448. -/
def clip448 (x : EReal) : EReal := min (Ideal.ofBits FTy.f32 1138753536#32) (max (Ideal.ofBits FTy.f32 3286237184#32) x)

/-- One entry of the hidden block of 1536 rows: products summed over the model width, scaled, gated. -/
def hid (X : Vec Ideal S1536x3072 .fp8e4m3) (S : Vec Ideal S1536x128 .f32) (WG WU : Vec Ideal S1x512x3072 .fp8e4m3) (SG SU : Vec Ideal S1x1x512 .f32)
    (r : Fin 1536) (q : Fin 512) : EReal :=
  gated (∑ d : Fin 3072, X (ix2 r d) * WG (ix3 0 q d)) (∑ d : Fin 3072, X (ix2 r d) * WU (ix3 0 q d)) (S (ix2 r 0)) (SG (ix3 0 0 q)) (SU (ix3 0 0 q))

/-- The hidden buffer `H` with column block `f` replaced by `blk`. -/
def updH (H : Vec Ideal S1536x4096 .f32) (f : ℕ) (blk : Fin 1536 → Fin 512 → EReal) : Vec Ideal S1536x4096 .f32 := fun y =>
  if (y 1).val / 512 = f then blk (y 0) ⟨(y 1).val % 512, Nat.mod_lt _ (by decide)⟩ else H y

/-- The running lane maxima after one more block of columns. -/
def stepA (A : Vec Ideal S1536x128 .f32) (blk : Fin 1536 → Fin 512 → EReal) : Vec Ideal S1536x128 .f32 := fun y =>
  maxStep (A y) (blk (y 0)) (y 1)

/-- Column block `f` of the hidden buffer times the inverse scale of its row, clipped. -/
def quantB (H : Vec Ideal S1536x4096 .f32) (I : Vec Ideal S1536x128 .f32) (f : Fin 8) : Vec Ideal S1536x512 .fp8e4m3 := fun y =>
  clip448 (H (ix2 (y 0) ⟨512 * f.val + (y 1).val, by have h : (y 1).val < 512 := (y 1).isLt; omega⟩) * I (ix2 (y 0) ⟨(y 1).val % 128, Nat.mod_lt _ (by decide)⟩))

/-- The block of scales that the kernel derives from the lane maxima `A`. -/
def scaleB (A : Vec Ideal S1536x128 .f32) : Vec Ideal S1536x128 .f32 :=
  k0_pay2 (F := Ideal) (k0_pay16 (k0_pay14 A) (k0_pay15 A) 8#32) (k0_pay17 (k0_pay14 A) (k0_pay15 A) 8#32)

/-- The block of inverse scales that the kernel derives from the lane maxima `A`. -/
def invB (A : Vec Ideal S1536x128 .f32) : Vec Ideal S1536x128 .f32 :=
  k0_pay3 (F := Ideal) (k0_pay16 (k0_pay14 A) (k0_pay15 A) 8#32) (k0_pay17 (k0_pay14 A) (k0_pay15 A) 8#32)

/-- The block of activation scales: column 0 of the input on every lane. -/
def xsB (x1 : Vec Ideal S1536x128 .f32) : Vec Ideal S1536x128 .f32 := fun y => x1 (ix2 (y 0) 0)

/-- The block of zeros. -/
def zeroB : Vec Ideal S1536x128 .f32 := fun _ => 0

/-- A load of a rectangle reads the entry at the offset. -/
theorem ld2 {m n : ℕ} {e : EltTy} (X : Vec Ideal ⟨2, ![m, n]⟩ e) (off size : Fin 2 → ℕ) (inb : ∀ a, off a + size a ≤ (⟨2, ![m, n]⟩ : Shape).size a)
    (x : (⟨2, size⟩ : Shape).Idx) (p : Fin m) (q : Fin n) (hp : p.val = off 0 + (x 0).val) (hq : q.val = off 1 + (x 1).val) :
    View.ld (Val := Elt Ideal) (e' := e) X (Rect.unit (s := (⟨2, ![m, n]⟩ : Shape)) off size inb) x = X (ix2 p q) := by
  refine congrArg X (funext fun a => Fin.ext ?_)
  match a with
  | 0 => exact (congrArg (off 0 + ·) (Nat.one_mul _)).trans hp.symm
  | 1 => exact (congrArg (off 1 + ·) (Nat.one_mul _)).trans hq.symm

/-- One entry of the hidden block of 512 rows. -/
theorem hidden_pay (X : Vec Ideal S512x3072 .fp8e4m3) (S : Vec Ideal S512x1 .f32) (WG WU : Vec Ideal S1x512x3072 .fp8e4m3) (SG SU : Vec Ideal S1x1x512 .f32)
    (p q : Fin 512) : k0_pay107 (F := Ideal) X S WG WU SG SU (ix2 p q)
      = gated (∑ d : Fin 3072, X (ix2 p d) * WG (ix3 0 q d)) (∑ d : Fin 3072, X (ix2 p d) * WU (ix3 0 q d)) (S (ix2 p 0)) (SG (ix3 0 0 q)) (SU (ix3 0 0 q)) := by
  pointwise [k0_pay107]
  rfl

/-- A tile of 512 rows of the hidden block. -/
theorem hid_tile (X : Vec Ideal S1536x3072 .fp8e4m3) (S : Vec Ideal S1536x128 .f32) (WG WU : Vec Ideal S1x512x3072 .fp8e4m3) (SG SU : Vec Ideal S1x1x512 .f32)
    (a : ℕ) (inb) (inb') (p q : Fin 512) (r : Fin 1536) (hr : r.val = a + p.val) :
    k0_pay107 (F := Ideal) (View.ld (Val := Elt Ideal) (e' := .fp8e4m3) X (Rect.unit (s := S1536x3072) ![a, 0] ![512, 3072] inb))
      (View.ld (Val := Elt Ideal) (e' := .f32) S (Rect.unit (s := S1536x128) ![a, 0] ![512, 1] inb')) WG WU SG SU (ix2 p q) = hid X S WG WU SG SU r q := by
  rw [hidden_pay]
  have hx : ∀ d : Fin 3072, View.ld (Val := Elt Ideal) (e' := .fp8e4m3) X (Rect.unit (s := S1536x3072) ![a, 0] ![512, 3072] inb) (ix2 p d) = X (ix2 r d) :=
    fun d => ld2 X _ _ _ _ _ _ hr (Nat.zero_add _).symm
  have hs : View.ld (Val := Elt Ideal) (e' := .f32) S (Rect.unit (s := S1536x128) ![a, 0] ![512, 1] inb') (ix2 p 0) = S (ix2 r 0) :=
    ld2 S _ _ _ _ _ _ hr rfl
  unfold hid
  simp only [hx]
  rw [hs]

/-- One entry of a quantised tile. -/
theorem quant_pay (I H : Vec Ideal S512x128 .f32)
    (p : Fin 512) (l : Fin 128) : k0_pay119 (F := Ideal) I H (ix2 p l) = clip448 (H (ix2 p l) * I (ix2 p l)) := by
  pointwise [k0_pay119]
  rfl

/-- A tile of 512 rows and 128 columns of the quantised block. -/
theorem quant_tile (H : Vec Ideal S1536x4096 .f32) (I : Vec Ideal S1536x128 .f32) (f : Fin 8) (a b : ℕ) (hb : b % 128 = 0) (offH : Fin 2 → ℕ)
    (h0 : offH 0 = a) (h1 : offH 1 = 512 * f.val + b) (inb) (inb') (y : S1536x512.Idx) (x : S512x128.Idx) (hy0 : (y 0).val = a + (x 0).val) (hy1 : (y 1).val = b + (x 1).val) :
    k0_pay119 (F := Ideal) (View.ld (Val := Elt Ideal) (e' := .f32) I (Rect.unit (s := S1536x128) ![a, 0] ![512, 128] inb))
      (View.ld (Val := Elt Ideal) (e' := .f32) H (Rect.unit (s := S1536x4096) offH ![512, 128] inb')) x = quantB H I f y := by
  refine (congrArg _ (eq_ix2 x)).trans ((quant_pay _ _ _ _).trans ?_)
  unfold quantB
  have hx : (x 1).val < 128 := (x 1).isLt
  refine congrArg clip448 (congrArg₂ (· * ·) ?_ ?_)
  · refine ld2 H _ _ _ _ _ _ ?_ ?_
    · rw [h0]; exact hy0
    · rw [h1]; show 512 * f.val + (y 1).val = 512 * f.val + b + (x 1).val; omega
  · refine ld2 I _ _ _ _ _ _ hy0 ?_
    show (y 1).val % 128 = 0 + (x 1).val
    omega

/-- One entry of a tile of running maxima. -/
theorem max_pay (H : Vec Ideal S512x512 .f32) (A : Vec Ideal S512x128 .f32)
    (p : Fin 512) (l : Fin 128) : k0_pay12 (F := Ideal) H A (ix2 p l) = maxStep (A (ix2 p l)) (fun q => H (ix2 p q)) l := by
  pointwise [k0_pay12]
  unfold maxStep
  rfl

/-- A tile of 512 rows of the running maxima. -/
theorem max_tile (h : Vec Ideal S512x512 .f32) (M : Vec Ideal S512x128 .f32) (A : Vec Ideal S1536x128 .f32) (blk : Fin 1536 → Fin 512 → EReal)
    (x : S512x128.Idx) (y : S1536x128.Idx) (hl : (y 1).val = (x 1).val) (hh : ∀ q, h (ix2 (x 0) q) = blk (y 0) q) (hM : M x = A y) :
    k0_pay12 (F := Ideal) h M x = stepA A blk y := by
  have e1 : y 1 = x 1 := Fin.ext hl
  have ex : x = ix2 (x 0) (x 1) := eq_ix2 x
  have e : k0_pay12 (F := Ideal) h M x = maxStep (M x) (fun q => h (ix2 (x 0) q)) (x 1) :=
    (congrArg _ ex).trans ((max_pay h M (x 0) (x 1)).trans (congrArg (fun z => maxStep (M z) (fun q => h (ix2 (x 0) q)) (x 1)) ex.symm))
  refine e.trans ?_
  unfold stepA
  rw [hM, e1]
  exact congrArg (fun g => maxStep (A y) g (x 1)) (funext hh)

theorem xs_eq (x1 : Vec Ideal S1536x128 .f32) (inb) :
    k0_pay5 (F := Ideal) (View.ld (Val := Elt Ideal) (e' := .f32) x1 (Rect.unit (s := S1536x128) ![0, 0] ![1536, 1] inb)) = xsB x1 := by
  funext y
  rw [View.ld_unit]
  obtain ⟨p, q, rfl⟩ : ∃ p q, y = ix2 p q := ⟨_, _, eq_ix2 y⟩
  pointwise [k0_pay5]
  rfl

theorem zero_eq : k0_pay4 (F := Ideal) = zeroB := by
  funext y
  obtain ⟨p, q, rfl⟩ : ∃ p q, y = ix2 p q := ⟨_, _, eq_ix2 y⟩
  pointwise [k0_pay4]
  rfl

end Cert.GateUpIdeal.Value
end
-- ==== Proof.GateUpScale.lean ====
module

public import proofs.«01_k».proof.Proof.GateUpBlock

/-! # The exponent of a row's scale

The kernel finds the exponent of `t` by a binary search over powers of two, each built from its bit
pattern. The exponent found is the number of those powers that are at most `t`. -/

@[expose] public section
set_option maxRecDepth 16384
noncomputable section
open Idealize.ShloMosaic Idealize.ShloMosaic.TcCoe Idealize.SL.Sem
namespace Cert.GateUpIdeal.Value
open Cert.GateUpIdeal Cert.GateUpIdeal.Gen

/-- An integer power of two. -/
def pow2 (z : ℤ) : EReal := (((2 : ℝ) ^ z : ℝ) : EReal)

theorem pow2_mono {a b : ℤ} (h : a ≤ b) : pow2 a ≤ pow2 b :=
  EReal.coe_le_coe_iff.2 (zpow_le_zpow_right₀ (by norm_num) h)

/-- Words with an exponent field and no fraction read as powers of two. -/
theorem field_parts : ∀ a : Fin 255, ((BitVec.ofNat 32 a.val <<< 23).extractLsb' 23 8).toNat = a.val
    ∧ ((BitVec.ofNat 32 a.val <<< 23).extractLsb' 0 23).toNat = 0 ∧ ((BitVec.ofNat 32 a.val <<< 23).extractLsb' 31 1 == 1#1) = false := by
  decide +kernel

theorem ofBits_parts (w : BitVec 32) (a : ℕ) (h1 : 1 ≤ a) (h2 : a < 255) (e1 : (w.extractLsb' 23 8).toNat = a)
    (e2 : (w.extractLsb' 0 23).toNat = 0) (e3 : (w.extractLsb' 31 1 == 1#1) = false) : Ideal.ofBits .f32 w = pow2 (a - 127) := by
  have h3 : (a : ℕ) ≠ 2 ^ 8 - 1 := by norm_num; omega
  have h4 : (a : ℕ) ≠ 0 := by omega
  have : Ideal.ofBits .f32 w = Ideal.ieee 8 23 w := rfl
  rw [this]
  unfold Ideal.ieee
  simp only [e1, e2, e3, if_neg h3, if_neg h4]
  unfold pow2
  refine congrArg Real.toEReal ?_
  rw [show ((a : ℤ) - (2 ^ (8 - 1) - 1) - (23 : ℕ)) = ((a : ℤ) - 127) - 23 by norm_num, zpow_sub₀ (by norm_num)]
  norm_num
  exact mul_div_cancel₀ _ (by norm_num)

theorem ofBits_field (a : ℕ) (h1 : 1 ≤ a) (h2 : a < 255) : Ideal.ofBits .f32 (BitVec.ofNat 32 a <<< 23) = pow2 (a - 127) := by
  obtain ⟨e1, e2, e3⟩ := field_parts ⟨a, h2⟩
  exact ofBits_parts _ a h1 h2 e1 e2 e3

/-- The number of powers `2 ^ (n - 126)`, `n < 252`, that are at most `t`. -/
def count (t : EReal) : ℕ := by
  classical exact Nat.findGreatest (fun k => 1 ≤ k ∧ pow2 (k - 127) ≤ t) 252

theorem count_le (t : EReal) : count t ≤ 252 := by
  classical exact Nat.findGreatest_le _

theorem le_count (t : EReal) (k : ℕ) (h1 : 1 ≤ k) (h2 : k ≤ 252) : k ≤ count t ↔ pow2 (k - 127) ≤ t := by
  classical
  constructor
  · intro h
    have hp : count t ≠ 0 := by omega
    have := (Nat.findGreatest_of_ne_zero (P := fun k : ℕ => 1 ≤ k ∧ pow2 (k - 127) ≤ t) (m := count t) (n := 252) rfl hp).2
    exact (pow2_mono (by omega)).trans this
  · intro h
    exact Nat.le_findGreatest h2 ⟨h1, h⟩

/-- The count as a sum of ones. -/
theorem sum_count (t : EReal) : ∑ n : Fin 252, (if pow2 ((n.val : ℤ) - 126) ≤ t then (1 : EReal) else 0) = ((count t : ℝ) : EReal) := by
  have hc := count_le t
  have hk : ∀ n : Fin 252, pow2 ((n.val : ℤ) - 126) ≤ t ↔ n.val < count t := fun n => by
    have := le_count t (n.val + 1) (by omega) (by omega)
    rw [show (((n.val + 1 : ℕ) : ℤ) - 127) = (n.val : ℤ) - 126 by push_cast; ring] at this
    rw [← this]; omega
  have : ∀ n : Fin 252, (if pow2 ((n.val : ℤ) - 126) ≤ t then (1 : EReal) else 0) = (((if n.val < count t then (1 : ℝ) else 0) : ℝ) : EReal) := fun n => by
    by_cases h : n.val < count t
    · rw [if_pos ((hk n).2 h), if_pos h]; rfl
    · rw [if_neg (mt (hk n).1 h), if_neg h]; rfl
  simp only [this]
  have hsum : ∀ f : Fin 252 → ℝ, ∑ n, ((f n : ℝ) : EReal) = ((∑ n, f n : ℝ) : EReal) := fun f =>
    (map_sum (⟨⟨Real.toEReal, rfl⟩, EReal.coe_add⟩ : ℝ →+ EReal) f _).symm
  rw [hsum]
  refine congrArg Real.toEReal ?_
  rw [Fin.sum_univ_eq_sum_range (fun n => if n < count t then (1 : ℝ) else 0) 252, Finset.sum_ite, Finset.sum_const_zero, add_zero, Finset.sum_const,
    nsmul_eq_mul, mul_one]
  refine congrArg Nat.cast ?_
  rw [show (Finset.range 252).filter (fun n => n < count t) = Finset.range (count t) by ext n; simp; omega, Finset.card_range]

/-- The exponent of the scale of a row with `t`: `count t - 126`, or `0` for a row of zeros or an infinite one. -/
def expo (t : EReal) : ℤ := if t = 0 ∨ t = ⊤ then 0 else (count t : ℤ) - 126

/-- One step of the search on words. -/
def stepW (t : EReal) (cur s : BitVec 32) : BitVec 32 :=
  Scalar.select (Ideal.cmp .oge t (Ideal.ofBits .f32 (Scalar.minsi (cur + s) 252#32 <<< 23))) (Scalar.minsi (cur + s) 252#32) cur

theorem minsi_words : ∀ a : Fin 253, ∀ j : Fin 8,
    Scalar.minsi (BitVec.ofNat 32 a.val + BitVec.ofNat 32 (2 ^ j.val)) 252#32 = BitVec.ofNat 32 (min (a.val + 2 ^ j.val) 252) := by
  decide +kernel

/-- The search narrows down on the count. -/
theorem stepW_spec (t : EReal) (a s : ℕ) (h1 : a ≤ count t) (h2 : count t < a + 2 * s) (j : Fin 8) (hs : s = 2 ^ j.val) :
    ∃ b, stepW t (BitVec.ofNat 32 a) (BitVec.ofNat 32 s) = BitVec.ofNat 32 b ∧ b ≤ count t ∧ count t < b + s := by
  have hc := count_le t
  have hs1 : 1 ≤ s := hs ▸ Nat.one_le_two_pow
  have hm : Scalar.minsi (BitVec.ofNat 32 a + BitVec.ofNat 32 s) 252#32 = BitVec.ofNat 32 (min (a + s) 252) := by
    subst hs; exact minsi_words ⟨a, by omega⟩ j
  unfold stepW
  rw [hm, ofBits_field _ (by omega) (by omega)]
  by_cases h : pow2 ((min (a + s) 252 : ℕ) - 127) ≤ t
  · refine ⟨min (a + s) 252, ?_, (le_count t _ (by omega) (by omega)).2 h, by omega⟩
    have : Ideal.cmp .oge t (pow2 ((min (a + s) 252 : ℕ) - 127)) = 1#1 := by unfold Ideal.cmp; simp only [h, decide_true]; rfl
    simp only [this]; rfl
  · refine ⟨a, ?_, h1, ?_⟩
    · have : Ideal.cmp .oge t (pow2 ((min (a + s) 252 : ℕ) - 127)) = 0#1 := by unfold Ideal.cmp; simp only [h, decide_false]; rfl
      simp only [this]; rfl
    · have := mt (le_count t (min (a + s) 252) (by omega) (by omega)).1 h
      omega

/-- The whole search finds the count. -/
theorem search (t : EReal) :
    stepW t (stepW t (stepW t (stepW t (stepW t (stepW t (stepW t (stepW t 0#32 128#32) 64#32) 32#32) 16#32) 8#32) 4#32) 2#32) 1#32 = BitVec.ofNat 32 (count t) := by
  have hc := count_le t
  obtain ⟨a1, e1, l1, u1⟩ := stepW_spec t 0 128 (by omega) (by omega) 7 rfl
  obtain ⟨a2, e2, l2, u2⟩ := stepW_spec t a1 64 l1 (by omega) 6 rfl
  obtain ⟨a3, e3, l3, u3⟩ := stepW_spec t a2 32 l2 (by omega) 5 rfl
  obtain ⟨a4, e4, l4, u4⟩ := stepW_spec t a3 16 l3 (by omega) 4 rfl
  obtain ⟨a5, e5, l5, u5⟩ := stepW_spec t a4 8 l4 (by omega) 3 rfl
  obtain ⟨a6, e6, l6, u6⟩ := stepW_spec t a5 4 l5 (by omega) 2 rfl
  obtain ⟨a7, e7, l7, u7⟩ := stepW_spec t a6 2 l6 (by omega) 1 rfl
  obtain ⟨a8, e8, l8, u8⟩ := stepW_spec t a7 1 l7 (by omega) 0 rfl
  rw [e1, e2, e3, e4, e5, e6, e7, e8, show a8 = count t by omega]

/-- The largest of the lane maxima of a row, scaled. -/
def rowT (A : Vec Ideal S1536x128 .f32) (r : Fin 1536) : EReal :=
  (Finset.univ.sup fun l : Fin 128 => A (ix2 r l)) * Ideal.ofBits .f32 0x3B124925#32

theorem fold_max_bot {n : ℕ} (f : Fin n → EReal) : Finset.univ.fold max (⊥ : EReal) f = Finset.univ.sup f := rfl

theorem negInf_f32 : Ideal.ofBits .f32 0xFF800000#32 = ⊥ := by
  simp [Ideal.ofBits, Ideal.ieee]

theorem posInf_f32 : Ideal.ofBits .f32 0x7F800000#32 = ⊤ := by
  simp [Ideal.ofBits, Ideal.ieee]

theorem zero_f32 : Ideal.ofBits .f32 0x00000000#32 = 0 := by
  simp [Ideal.ofBits, Ideal.ieee]

theorem pay14_at (A : Vec Ideal S1536x128 .f32) (r : Fin 1536) (z : Fin 1) : k0_pay14 (F := Ideal) A (ix2 r z) = rowT A r := by
  pointwise [k0_pay14]
  unfold rowT
  rw [negInf_f32, fold_max_bot]

/-- One step of the search on the kernel's vectors. -/
def stepV (t : FVec Ideal S1536x1 .f32) (cur : IVec S1536x1 32) (s : BitVec 32) : IVec S1536x1 32 :=
  select (cmpf .oge t (bitcastToFloat .f32 (shli (minsi (addi cur (broadcast S1536x1 s)) (broadcast S1536x1 252#32)) (broadcast S1536x1 23#32))))
    (minsi (addi cur (broadcast S1536x1 s)) (broadcast S1536x1 252#32)) cur

theorem stepV_at (t : FVec Ideal S1536x1 .f32) (cur : IVec S1536x1 32) (s : BitVec 32) (i : S1536x1.Idx) :
    stepV t cur s i = stepW (t i) (cur i) s := rfl

theorem pay15_eq (A : Vec Ideal S1536x128 .f32) :
    k0_pay15 (F := Ideal) A = stepV (k0_pay14 A) (stepV (k0_pay14 A) (stepV (k0_pay14 A) (stepV (k0_pay14 A) (broadcast S1536x1 0#32) 128#32) 64#32) 32#32) 16#32 := rfl

theorem pay16_eq (t : FVec Ideal S1536x1 .f32) (v : IVec S1536x1 32) :
    k0_pay16 (F := Ideal) t v 8#32 = select (cmpf .olt t (broadcast S1536x1 (Scalar.ofBits .f32 0x7F800000#32)))
      (stepV t (stepV t (stepV t (stepV t v 8#32) 4#32) 2#32) 1#32) (broadcast S1536x1 255#32) := rfl

theorem olt_at (t : FVec Ideal S1536x1 .f32) (b : BitVec 32) (i : S1536x1.Idx) :
    cmpf .olt t (broadcast S1536x1 (Scalar.ofBits .f32 b)) i = Ideal.cmp .olt (t i) (Ideal.ofBits .f32 b) := rfl

theorem pay17_eq (t : FVec Ideal S1536x1 .f32) (v : IVec S1536x1 32) (i : S1536x1.Idx) :
    k0_pay17 (F := Ideal) t v 8#32 i = Ideal.cmp .oeq (t i) (Ideal.ofBits .f32 0x00000000#32) |||
        IntOp.cmpi .eq (k0_pay16 (F := Ideal) t v 8#32 i) 255#32 := rfl

/-- The exponent field found: the count, or 255 for an infinite `t`. -/
theorem pay16_at (A : Vec Ideal S1536x128 .f32) (r : Fin 1536) (z : Fin 1) :
    k0_pay16 (F := Ideal) (k0_pay14 A) (k0_pay15 A) 8#32 (ix2 r z) = if rowT A r < ⊤ then BitVec.ofNat 32 (count (rowT A r)) else 255#32 := by
  have hs := search (rowT A r)
  rw [pay16_eq, pay15_eq]
  have e : ∀ (c : IVec S1536x1 1) (a b : IVec S1536x1 32) (i : S1536x1.Idx), select c a b i = Scalar.select (c i) (a i) (b i) := fun _ _ _ _ => rfl
  rw [e, stepV_at, stepV_at, stepV_at, stepV_at, stepV_at, stepV_at, stepV_at, stepV_at, pay14_at A r z]
  rw [show broadcast S1536x1 0#32 (ix2 r z) = 0#32 from rfl, show broadcast S1536x1 255#32 (ix2 r z) = 255#32 from rfl, hs]
  have hc : cmpf .olt (k0_pay14 (F := Ideal) A) (broadcast S1536x1 (Scalar.ofBits .f32 0x7F800000#32)) (ix2 r z)
      = BitVec.ofBool (decide (rowT A r < ⊤)) := by
    rw [olt_at, pay14_at A r z, posInf_f32]; unfold Ideal.cmp; rfl
  rw [hc]
  by_cases h : rowT A r < ⊤
  · simp only [h, decide_true, if_true]; rfl
  · simp only [h, decide_false, if_false]; rfl

theorem pay17_at (A : Vec Ideal S1536x128 .f32) (r : Fin 1536) (z : Fin 1) :
    k0_pay17 (F := Ideal) (k0_pay14 A) (k0_pay15 A) 8#32 (ix2 r z) = if rowT A r = 0 ∨ rowT A r = ⊤ then 1#1 else 0#1 := by
  rw [pay17_eq, pay16_at, pay14_at, zero_f32]
  simp only [Ideal.cmp, IntOp.cmpi]
  have hc := count_le (rowT A r)
  by_cases h0 : rowT A r = 0
  · simp only [h0, decide_true, true_or, if_true]; generalize BitVec.ofBool (_ == 255#32) = b; revert b; decide
  · by_cases ht : rowT A r = ⊤
    · simp [ht]
    · have hne : ¬ (BitVec.ofNat 32 (count (rowT A r)) = 255#32) := by
        intro h; have := congrArg BitVec.toNat h; simp at this; omega
      have hb : (BitVec.ofNat 32 (count (rowT A r)) == 255#32) = false := by simpa using hne
      simp [h0, ht, lt_top_iff_ne_top, hb]

theorem sub126 : ∀ n : Fin 253, BitVec.ofNat 32 n.val - 126#32 + 127#32 = BitVec.ofNat 32 (n.val + 1)
    ∧ 127#32 - (BitVec.ofNat 32 n.val - 126#32) = BitVec.ofNat 32 (253 - n.val) := by decide +kernel

theorem pay1_eq (f : IVec S1536x1 32) (p : IVec S1536x1 1) (i : S1536x1.Idx) :
    k0_pay1 f p i = Scalar.select (p i) 0#32 (f i - 126#32) := rfl

theorem pay1_at (A : Vec Ideal S1536x128 .f32) (r : Fin 1536) (z : Fin 1) :
    k0_pay1 (k0_pay16 (F := Ideal) (k0_pay14 A) (k0_pay15 A) 8#32) (k0_pay17 (F := Ideal) (k0_pay14 A) (k0_pay15 A) 8#32) (ix2 r z)
      = if rowT A r = 0 ∨ rowT A r = ⊤ then 0#32 else BitVec.ofNat 32 (count (rowT A r)) - 126#32 := by
  rw [pay1_eq, pay16_at, pay17_at]
  by_cases h : rowT A r = 0 ∨ rowT A r = ⊤
  · simp only [h, if_true]; rfl
  · simp only [h, if_false]
    rw [if_pos (lt_top_iff_ne_top.2 fun h' => h (Or.inr h'))]; rfl

/-- The scale stored: the power of two of the exponent. -/
theorem scaleB_at (A : Vec Ideal S1536x128 .f32) (r : Fin 1536) (l : Fin 128) : scaleB A (ix2 r l) = pow2 (expo (rowT A r)) := by
  have e : scaleB A (ix2 r l) = Ideal.ofBits .f32 ((k0_pay1 (k0_pay16 (F := Ideal) (k0_pay14 A) (k0_pay15 A) 8#32)
      (k0_pay17 (F := Ideal) (k0_pay14 A) (k0_pay15 A) 8#32) (ix2 r 0) + 127#32) <<< 23) := by
    unfold scaleB
    pointwise [k0_pay2]
    rfl
  have hc := count_le (rowT A r)
  rw [e, pay1_at]
  unfold expo
  split
  · rw [show (0#32 + 127#32 : BitVec 32) = BitVec.ofNat 32 127 from rfl, ofBits_field 127 (by omega) (by omega)]; norm_num
  · rw [(sub126 ⟨count (rowT A r), by omega⟩).1, ofBits_field _ (by simp) (by simp; omega)]
    congr 1; push_cast; ring

/-- Its inverse. -/
theorem invB_at (A : Vec Ideal S1536x128 .f32) (r : Fin 1536) (l : Fin 128) : invB A (ix2 r l) = pow2 (- expo (rowT A r)) := by
  have e : invB A (ix2 r l) = Ideal.ofBits .f32 ((127#32 - k0_pay1 (k0_pay16 (F := Ideal) (k0_pay14 A) (k0_pay15 A) 8#32)
      (k0_pay17 (F := Ideal) (k0_pay14 A) (k0_pay15 A) 8#32) (ix2 r 0)) <<< 23) := by
    unfold invB
    pointwise [k0_pay3]
    rfl
  have hc := count_le (rowT A r)
  rw [e, pay1_at]
  unfold expo
  split
  · rw [show (127#32 - 0#32 : BitVec 32) = BitVec.ofNat 32 127 from rfl, ofBits_field 127 (by omega) (by omega)]; norm_num
  · rw [(sub126 ⟨count (rowT A r), by omega⟩).2, ofBits_field _ (by simp; omega) (by simp; omega)]
    congr 1; simp only; omega

end Cert.GateUpIdeal.Value
end
-- ==== Proof.GateUpSpec.lean ====
module

public import proofs.«01_k».proof.Proof.GateUpScale

/-! # What the gate-up call computes

The two results as functions of the four arguments: `XG` the packed activation codes (the four codes of one word are
four blocks of 128 columns; a tile of 32 rows takes four rows of words), `AX` the auxiliary rows with the activation
scale in lane 0, `W` the weights with the gate rows before the up rows, `S` their scales. -/

@[expose] public section
set_option maxRecDepth 16384
noncomputable section
open Idealize.ShloMosaic Idealize.ShloMosaic.TcCoe Idealize.SL.Sem
open Idealize.ShloMosaic.Pipeline (Dat)
namespace Cert.GateUpIdeal.Value
open Cert.GateUpIdeal Cert.GateUpIdeal.Gen
variable (XG : IVec S147456x128 32) (AX : FVec Ideal S24576x128 .f32) (W : FVec Ideal S16x8192x3072 .fp8e4m3) (S : FVec Ideal S16x8192 .f32)

/-- The activation code of row `n`, column `d`, unpacked from its word. -/
def byteAt (n : Fin 24576) (d : Fin 3072) : EReal :=
  Ideal.ofBits .fp8e4m3 (BitVec.extractLsb' (8 * (d.val % 512 / 128)) 8
    (XG (ix2 (n0 := 147456) (n1 := 128) ⟨48 * (4 * (n.val / 32) + n.val % 4) + 8 * (d.val / 512) + n.val % 32 / 4, by omega⟩ ⟨d.val % 128, by omega⟩) : BitVec 32))

/-- The hidden value of row `n`, column `q`: the gated product of the row's gate and up projections by its expert. -/
def hidAt (n : Fin 24576) (q : Fin 4096) : EReal :=
  gated (∑ d : Fin 3072, byteAt XG n d * W (ix3 (n0 := 16) (n1 := 8192) (n2 := 3072) ⟨n.val / 1536, by omega⟩ ⟨q.val, by omega⟩ d))
    (∑ d : Fin 3072, byteAt XG n d * W (ix3 (n0 := 16) (n1 := 8192) (n2 := 3072) ⟨n.val / 1536, by omega⟩ ⟨4096 + q.val, by omega⟩ d))
    (AX (ix2 (n0 := 24576) (n1 := 128) n 0)) (S (ix2 (n0 := 16) (n1 := 8192) ⟨n.val / 1536, by omega⟩ ⟨q.val, by omega⟩))
    (S (ix2 (n0 := 16) (n1 := 8192) ⟨n.val / 1536, by omega⟩ ⟨4096 + q.val, by omega⟩))

/-- The largest magnitude of row `n`, over 448. -/
def topAt (n : Fin 24576) : EReal := (Finset.univ.sup fun q : Fin 4096 => mag (hidAt XG AX W S n q)) * Ideal.ofBits .f32 0x3B124925#32

/-- The quantised hidden value of row `n`, column `q`. -/
def codeAt (n : Fin 24576) (q : Fin 4096) : EReal := clip448 (hidAt XG AX W S n q * pow2 (- expo (topAt XG AX W S n)))

/-- The scale of row `n`. -/
def rowScale (n : Fin 24576) : EReal := pow2 (expo (topAt XG AX W S n))

/-- The codes of all rows. -/
def codesOut : FVec Ideal S24576x4096 .fp8e4m3 := fun y => codeAt XG AX W S (y 0) (y 1)

/-- The scales of all rows, repeated over 128 lanes. -/
def scalesOut : FVec Ideal S24576x128 .f32 := fun y => rowScale XG AX W S (y 0)

end Cert.GateUpIdeal.Value
end
-- ==== Proof.GateUpUnpack.lean ====
module

public import proofs.«01_k».proof.Proof.GateUpIdealSetup
public import Idealize.ShloMosaic.Lib.Pipeline.ValueKit
public import Idealize.ShloMosaic.Lib.Pipeline.ReadBack
public import Idealize.ShloMosaic.Lib.BitcastPair

/-! # The packed rows unpacked: what the loop over groups of 32 rows leaves in the scratch block of codes -/

@[expose] public section
set_option maxRecDepth 16384
noncomputable section
open Idealize.ShloMosaic Idealize.ShloMosaic.TcCoe Idealize.SL.Sem
namespace Cert.GateUpIdeal.Value
open Cert.GateUpIdeal Cert.GateUpIdeal.Gen

/-- Words read at eight bits: row `4 s + j` of a column is byte `j` of the word in row `s`. -/
theorem bitcast_32_8_ix2 (x : S8x128.Idx → BitVec 32) (h : S8x128.Bitcasts 32 S32x128 8) (p : Fin 32) (l : Fin 128)
    (s : Fin 8) (j : Fin 4) (hp : p.val = 4 * s.val + j.val) :
    bitcast S32x128 8 x h (ix2 p l) = (x (ix2 s l)).extractLsb' (8 * j.val) 8 := by
  apply BitVec.eq_of_getLsbD_eq
  intro i hi
  rw [bitcast_getLsbD x h _ i hi (by decide), BitVec.getLsbD_extractLsb']
  have hr : S32x128.row (ix2 p l) = p.val := rfl
  have ep : (S32x128.row (ix2 p l) * 8 + i) / 32 = s.val := by rw [hr]; have := j.isLt; omega
  have eq : (S32x128.row (ix2 p l) * 8 + i) % 32 = 8 * j.val + i := by rw [hr]; have := j.isLt; omega
  rw [eq]
  simp only [hi, decide_true, Bool.true_and]
  congr 2
  funext c
  match c with
  | ⟨0, _⟩ => exact Fin.ext ((h.srcIdx_row _ _ _ ⟨0, Nat.zero_lt_two⟩ rfl).trans ep)
  | ⟨1, _⟩ => exact Fin.ext (h.srcIdx_other _ _ _ ⟨1, Nat.one_lt_two⟩ (by show ¬ 1 + 2 = 2; omega))

/-- Masks and shifts of four words: byte `j` of the result is byte 0 of the `j`-th word. -/
theorem byte0 (w : Fin 4 → BitVec 32) (j : Fin 4) :
    (((w 0 &&& 16711935#32) ||| ((w 1 &&& 16711935#32) <<< 8)) &&& 65535#32 ||| (((w 2 &&& 16711935#32) ||| ((w 3 &&& 16711935#32) <<< 8)) <<< 16)).extractLsb' (8 * j.val) 8 = (w j).extractLsb' 0 8 := by
  apply BitVec.eq_of_getLsbD_eq
  intro i hi
  match j with
  | 0 => interval_cases i <;> simp
  | 1 => interval_cases i <;> simp
  | 2 => interval_cases i <;> simp
  | 3 => interval_cases i <;> simp

/-- Masks and shifts of four words: byte `j` of the result is byte 1 of the `j`-th word. -/
theorem byte1 (w : Fin 4 → BitVec 32) (j : Fin 4) :
    ((((w 0 >>> 8) &&& 16711935#32) ||| (w 1 &&& 4278255360#32)) &&& 65535#32 ||| ((((w 2 >>> 8) &&& 16711935#32) ||| (w 3 &&& 4278255360#32)) <<< 16)).extractLsb' (8 * j.val) 8 = (w j).extractLsb' 8 8 := by
  apply BitVec.eq_of_getLsbD_eq
  intro i hi
  match j with
  | 0 => interval_cases i <;> simp
  | 1 => interval_cases i <;> simp
  | 2 => interval_cases i <;> simp
  | 3 => interval_cases i <;> simp

/-- Masks and shifts of four words: byte `j` of the result is byte 2 of the `j`-th word. -/
theorem byte2 (w : Fin 4 → BitVec 32) (j : Fin 4) :
    ((((w 0 &&& 16711935#32) ||| ((w 1 &&& 16711935#32) <<< 8)) >>> 16) ||| ((w 2 &&& 16711935#32) ||| ((w 3 &&& 16711935#32) <<< 8)) &&& 4294901760#32).extractLsb' (8 * j.val) 8 = (w j).extractLsb' 16 8 := by
  apply BitVec.eq_of_getLsbD_eq
  intro i hi
  match j with
  | 0 => interval_cases i <;> simp
  | 1 => interval_cases i <;> simp
  | 2 => interval_cases i <;> simp
  | 3 => interval_cases i <;> simp

/-- Masks and shifts of four words: byte `j` of the result is byte 3 of the `j`-th word. -/
theorem byte3 (w : Fin 4 → BitVec 32) (j : Fin 4) :
    (((((w 0 >>> 8) &&& 16711935#32) ||| (w 1 &&& 4278255360#32)) >>> 16) ||| (((w 2 >>> 8) &&& 16711935#32) ||| (w 3 &&& 4278255360#32)) &&& 4294901760#32).extractLsb' (8 * j.val) 8 = (w j).extractLsb' 24 8 := by
  apply BitVec.eq_of_getLsbD_eq
  intro i hi
  match j with
  | 0 => interval_cases i <;> simp
  | 1 => interval_cases i <;> simp
  | 2 => interval_cases i <;> simp
  | 3 => interval_cases i <;> simp

/-- Block 0 of 32 rows stored for four groups of words: row `4 s + j` is byte 0 of the `j`-th group's word in row `s`. -/
theorem rows0 (A B C D : Vec Ideal S1x1x8x128 .i32) (p : Fin 32) (l : Fin 128) (s : Fin 8) (j : Fin 4) (hp : p.val = 4 * s.val + j.val) :
    k0_pay6 (F := Ideal) (k0_pay104 (k0_pay96 (F := Ideal) A) (k0_pay97 (F := Ideal) B) (k0_pay98 (F := Ideal) C) D) (ix2 p l)
      = Ideal.ofBits .fp8e4m3 ((match j with | 0 => A (ix4 0 0 s l) | 1 => B (ix4 0 0 s l) | 2 => C (ix4 0 0 s l) | 3 => D (ix4 0 0 s l) : BitVec 32).extractLsb' 0 8) := by
  open_payloads
  pointwise
  rw [bitcast_32_8_ix2 _ _ p l s j hp]
  pointwise
  refine congrArg _ (Eq.trans ?_ ((byte0 ![A (ix4 0 0 s l), B (ix4 0 0 s l), C (ix4 0 0 s l), D (ix4 0 0 s l)] j).trans ?_))
  · rfl
  · match j with
    | 0 => rfl
    | 1 => rfl
    | 2 => rfl
    | 3 => rfl

/-- Block 1 of 32 rows stored for four groups of words: row `4 s + j` is byte 1 of the `j`-th group's word in row `s`. -/
theorem rows1 (A B C D : Vec Ideal S1x1x8x128 .i32) (p : Fin 32) (l : Fin 128) (s : Fin 8) (j : Fin 4) (hp : p.val = 4 * s.val + j.val) :
    k0_pay7 (F := Ideal) (k0_pay101 (k0_pay96 (F := Ideal) A) (k0_pay97 (F := Ideal) B)) (k0_pay103 (F := Ideal) (k0_pay98 (F := Ideal) C) D) k0_pay106 (ix2 p l)
      = Ideal.ofBits .fp8e4m3 ((match j with | 0 => A (ix4 0 0 s l) | 1 => B (ix4 0 0 s l) | 2 => C (ix4 0 0 s l) | 3 => D (ix4 0 0 s l) : BitVec 32).extractLsb' 8 8) := by
  open_payloads
  pointwise
  rw [bitcast_32_8_ix2 _ _ p l s j hp]
  pointwise
  refine congrArg _ (Eq.trans ?_ ((byte1 ![A (ix4 0 0 s l), B (ix4 0 0 s l), C (ix4 0 0 s l), D (ix4 0 0 s l)] j).trans ?_))
  · rfl
  · match j with
    | 0 => rfl
    | 1 => rfl
    | 2 => rfl
    | 3 => rfl

/-- Block 2 of 32 rows stored for four groups of words: row `4 s + j` is byte 2 of the `j`-th group's word in row `s`. -/
theorem rows2 (A B C D : Vec Ideal S1x1x8x128 .i32) (p : Fin 32) (l : Fin 128) (s : Fin 8) (j : Fin 4) (hp : p.val = 4 * s.val + j.val) :
    k0_pay8 (F := Ideal) (k0_pay105 (k0_pay96 (F := Ideal) A) (k0_pay97 (F := Ideal) B) (k0_pay98 (F := Ideal) C) D) (ix2 p l)
      = Ideal.ofBits .fp8e4m3 ((match j with | 0 => A (ix4 0 0 s l) | 1 => B (ix4 0 0 s l) | 2 => C (ix4 0 0 s l) | 3 => D (ix4 0 0 s l) : BitVec 32).extractLsb' 16 8) := by
  open_payloads
  pointwise
  rw [bitcast_32_8_ix2 _ _ p l s j hp]
  pointwise
  refine congrArg _ (Eq.trans ?_ ((byte2 ![A (ix4 0 0 s l), B (ix4 0 0 s l), C (ix4 0 0 s l), D (ix4 0 0 s l)] j).trans ?_))
  · rfl
  · match j with
    | 0 => rfl
    | 1 => rfl
    | 2 => rfl
    | 3 => rfl

/-- Block 3 of 32 rows stored for four groups of words: row `4 s + j` is byte 3 of the `j`-th group's word in row `s`. -/
theorem rows3 (A B C D : Vec Ideal S1x1x8x128 .i32) (p : Fin 32) (l : Fin 128) (s : Fin 8) (j : Fin 4) (hp : p.val = 4 * s.val + j.val) :
    k0_pay9 (F := Ideal) (k0_pay101 (k0_pay96 (F := Ideal) A) (k0_pay97 (F := Ideal) B)) (k0_pay103 (F := Ideal) (k0_pay98 (F := Ideal) C) D) (ix2 p l)
      = Ideal.ofBits .fp8e4m3 ((match j with | 0 => A (ix4 0 0 s l) | 1 => B (ix4 0 0 s l) | 2 => C (ix4 0 0 s l) | 3 => D (ix4 0 0 s l) : BitVec 32).extractLsb' 24 8) := by
  open_payloads
  pointwise
  rw [bitcast_32_8_ix2 _ _ p l s j hp]
  pointwise
  refine congrArg _ (Eq.trans ?_ ((byte3 ![A (ix4 0 0 s l), B (ix4 0 0 s l), C (ix4 0 0 s l), D (ix4 0 0 s l)] j).trans ?_))
  · rfl
  · match j with
    | 0 => rfl
    | 1 => rfl
    | 2 => rfl
    | 3 => rfl

/-- Where the loop's loads and stores of its trip `k` are. -/
theorem load_off : ∀ k : Fin k0_t1_loop.trips, k0_off1 k 0#32 = ![4 * k.val + 0, 0, 0, 0] ∧ k0_off1 k 1#32 = ![4 * k.val + 1, 0, 0, 0] ∧ k0_off1 k 2#32 = ![4 * k.val + 2, 0, 0, 0] ∧ k0_off1 k 3#32 = ![4 * k.val + 3, 0, 0, 0] ∧ k0_off6 k 0#32 = ![4 * k.val + 0, 1, 0, 0] ∧ k0_off6 k 1#32 = ![4 * k.val + 1, 1, 0, 0] ∧ k0_off6 k 2#32 = ![4 * k.val + 2, 1, 0, 0] ∧ k0_off6 k 3#32 = ![4 * k.val + 3, 1, 0, 0] ∧ k0_off11 k 0#32 = ![4 * k.val + 0, 2, 0, 0] ∧ k0_off11 k 1#32 = ![4 * k.val + 1, 2, 0, 0] ∧ k0_off11 k 2#32 = ![4 * k.val + 2, 2, 0, 0] ∧ k0_off11 k 3#32 = ![4 * k.val + 3, 2, 0, 0] ∧ k0_off16 k 0#32 = ![4 * k.val + 0, 3, 0, 0] ∧ k0_off16 k 1#32 = ![4 * k.val + 1, 3, 0, 0] ∧ k0_off16 k 2#32 = ![4 * k.val + 2, 3, 0, 0] ∧ k0_off16 k 3#32 = ![4 * k.val + 3, 3, 0, 0] ∧ k0_off21 k 0#32 = ![4 * k.val + 0, 4, 0, 0] ∧ k0_off21 k 1#32 = ![4 * k.val + 1, 4, 0, 0] ∧ k0_off21 k 2#32 = ![4 * k.val + 2, 4, 0, 0] ∧ k0_off21 k 3#32 = ![4 * k.val + 3, 4, 0, 0] ∧ k0_off26 k 0#32 = ![4 * k.val + 0, 5, 0, 0] ∧ k0_off26 k 1#32 = ![4 * k.val + 1, 5, 0, 0] ∧ k0_off26 k 2#32 = ![4 * k.val + 2, 5, 0, 0] ∧ k0_off26 k 3#32 = ![4 * k.val + 3, 5, 0, 0] :=
  (by decide +kernel : ∀ k : Fin 48, _)
/-- Where the loop's stores of its trip `k` are: the first three column blocks. -/
theorem store_off0 : ∀ k : Fin k0_t1_loop.trips, (k0_off2 k 0 = 32 * k.val ∧ k0_off2 k 1 = 0) ∧ (k0_off3 k 0 = 32 * k.val ∧ k0_off3 k 1 = 128) ∧ (k0_off4 k 0 = 32 * k.val ∧ k0_off4 k 1 = 256) ∧ (k0_off5 k 0 = 32 * k.val ∧ k0_off5 k 1 = 384) ∧ (k0_off7 k 0 = 32 * k.val ∧ k0_off7 k 1 = 512) ∧ (k0_off8 k 0 = 32 * k.val ∧ k0_off8 k 1 = 640) ∧ (k0_off9 k 0 = 32 * k.val ∧ k0_off9 k 1 = 768) ∧ (k0_off10 k 0 = 32 * k.val ∧ k0_off10 k 1 = 896) ∧ (k0_off12 k 0 = 32 * k.val ∧ k0_off12 k 1 = 1024) ∧ (k0_off13 k 0 = 32 * k.val ∧ k0_off13 k 1 = 1152) ∧ (k0_off14 k 0 = 32 * k.val ∧ k0_off14 k 1 = 1280) ∧ (k0_off15 k 0 = 32 * k.val ∧ k0_off15 k 1 = 1408) :=
  (by decide +kernel : ∀ k : Fin 48, _)
/-- Where the loop's stores of its trip `k` are: the last three column blocks. -/
theorem store_off1 : ∀ k : Fin k0_t1_loop.trips, (k0_off17 k 0 = 32 * k.val ∧ k0_off17 k 1 = 1536) ∧ (k0_off18 k 0 = 32 * k.val ∧ k0_off18 k 1 = 1664) ∧ (k0_off19 k 0 = 32 * k.val ∧ k0_off19 k 1 = 1792) ∧ (k0_off20 k 0 = 32 * k.val ∧ k0_off20 k 1 = 1920) ∧ (k0_off22 k 0 = 32 * k.val ∧ k0_off22 k 1 = 2048) ∧ (k0_off23 k 0 = 32 * k.val ∧ k0_off23 k 1 = 2176) ∧ (k0_off24 k 0 = 32 * k.val ∧ k0_off24 k 1 = 2304) ∧ (k0_off25 k 0 = 32 * k.val ∧ k0_off25 k 1 = 2432) ∧ (k0_off27 k 0 = 32 * k.val ∧ k0_off27 k 1 = 2560) ∧ (k0_off28 k 0 = 32 * k.val ∧ k0_off28 k 1 = 2688) ∧ (k0_off29 k 0 = 32 * k.val ∧ k0_off29 k 1 = 2816) ∧ (k0_off30 k 0 = 32 * k.val ∧ k0_off30 k 1 = 2944) :=
  (by decide +kernel : ∀ k : Fin 48, _)

/-- A code of the packed block: row `r`, column `d` is byte `d % 512 / 128` of the word of lane `d % 128`, sublane `r % 32 / 4`, column block
    `d / 512`, in row `4 (r / 32) + r % 4` of the packed rows. -/
def code (X : Vec Ideal S192x6x8x128 .i32) (r : Fin 1536) (d : Fin 3072) : EReal :=
  Ideal.ofBits .fp8e4m3 (BitVec.extractLsb' (8 * (d.val % 512 / 128)) 8
    (X (ix4 (n0 := 192) (n1 := 6) (n2 := 8) (n3 := 128) ⟨4 * (r.val / 32) + r.val % 4, by omega⟩ ⟨d.val / 512, by omega⟩ ⟨r.val % 32 / 4, by omega⟩ ⟨d.val % 128, by omega⟩) : BitVec 32))

/-- The block of codes unpacked. -/
def codes (X : Vec Ideal S192x6x8x128 .i32) : FVec Ideal S1536x3072 .fp8e4m3 := fun y => code X (y 0) (y 1)

/-- A load of eight packed sublanes at a row and a column block. -/
theorem ld_at (X : Vec Ideal S192x6x8x128 .i32) (off : Fin 4 → ℕ) (inb : ∀ a, off a + S1x1x8x128.size a ≤ S192x6x8x128.size a) (a : ℕ) (b : ℕ)
    (ha : a < 192) (hb : b < 6) (h : off = ![a, b, 0, 0]) (s : Fin 8) (l : Fin 128) :
    View.ld (Val := Elt Ideal) (e' := .i32) X (Rect.unit off S1x1x8x128.size inb) (ix4 0 0 s l) = X (ix4 ⟨a, ha⟩ ⟨b, hb⟩ s l) := by
  subst h
  rw [View.ld_unit]
  pointwise

/-- A block of 32 rows that holds, of the words of its trip and column block, byte `q`, holds the codes. -/
theorem tile (y : S1536x3072.Idx) (x : S32x128.Idx) (k : ℕ) (b : ℕ) (q : ℕ) (hk : k < 48) (off : Fin 2 → ℕ) (hx : ∀ a, (y a : ℕ) = off a + x a)
    (hoff : off 0 = 32 * k ∧ off 1 = 512 * b + 128 * q) (hb : b < 6) (hq : q < 4) (X : Vec Ideal S192x6x8x128 .i32) (w : FVec Ideal S32x128 .fp8e4m3)
    (hw : ∀ (s : Fin 8) (l : Fin 128) (j : Fin 4) (p : Fin 32), p.val = 4 * s.val + j.val →
      w (ix2 p l) = Ideal.ofBits .fp8e4m3 (BitVec.extractLsb' (8 * q) 8 (X (ix4 (n0 := 192) (n1 := 6) (n2 := 8) (n3 := 128) ⟨4 * k + j.val, by omega⟩ ⟨b, hb⟩ s l) : BitVec 32))) :
    w x = codes X y := by
  have h0 : (y 0 : ℕ) = 32 * k + x 0 := (hx 0).trans (congrArg (· + _) hoff.1)
  have h1 : (y 1 : ℕ) = 512 * b + 128 * q + x 1 := (hx 1).trans (congrArg (· + _) hoff.2)
  have x0 : (x 0).val < 32 := (x 0).isLt
  have x1 : (x 1).val < 128 := (x 1).isLt
  rw [eq_ix2 x, hw ⟨(x 0).val / 4, by omega⟩ (x 1) ⟨(x 0).val % 4, by omega⟩ (x 0) (by show (x 0).val = 4 * ((x 0).val / 4) + (x 0).val % 4; omega)]
  have e : (y 1 : ℕ) % 512 / 128 = q := by omega
  unfold codes code
  rw [e]
  refine congrArg _ (congrArg _ (congrArg X ?_))
  refine (ix4_inj ..).2 ⟨Fin.ext ?_, Fin.ext ?_, Fin.ext ?_, Fin.ext ?_⟩
  · show 4 * k + (x 0).val % 4 = 4 * ((y 0 : ℕ) / 32) + (y 0 : ℕ) % 4; omega
  · show b = (y 1 : ℕ) / 512; omega
  · show (x 0).val / 4 = (y 0 : ℕ) % 32 / 4; omega
  · show (x 1).val = (y 1 : ℕ) % 128; omega

/-- A place is in some piece when it is in the first, or else in one of the others. -/
theorem cover_cons (y : S1536x3072.Idx) (off : Fin 2 → ℕ) (inb : ∀ a, off a + S32x128.size a ≤ S1536x3072.size a) (w : S32x128.Idx → Elt Ideal .fp8e4m3)
    (L : List (View.Piece (Elt Ideal) S1536x3072 .fp8e4m3))
    (h : ¬ (off 0 ≤ (y 0 : ℕ) ∧ (y 0 : ℕ) < off 0 + 32 ∧ off 1 ≤ (y 1 : ℕ) ∧ (y 1 : ℕ) < off 1 + 128) → ∃ p ∈ L, y ∈ p.1.set) :
    ∃ p ∈ (⟨Rect.unit off S32x128.size inb, w⟩ : View.Piece (Elt Ideal) S1536x3072 .fp8e4m3) :: L, y ∈ p.1.set := by
  by_cases hm : off 0 ≤ (y 0 : ℕ) ∧ (y 0 : ℕ) < off 0 + 32 ∧ off 1 ≤ (y 1 : ℕ) ∧ (y 1 : ℕ) < off 1 + 128
  · exact ⟨_, List.mem_cons_self, (Rect.mem_set_unit (inb := inb)).2 fun a => by
      match a with
      | ⟨0, _⟩ => exact ⟨hm.1, hm.2.1⟩
      | ⟨1, _⟩ => exact ⟨hm.2.2.1, hm.2.2.2⟩⟩
  · obtain ⟨p, hp, hy⟩ := h hm
    exact ⟨p, List.mem_cons_of_mem _ hp, hy⟩

set_option maxHeartbeats 2000000 in
/-- Every piece that a trip of the loop stores holds the codes it is the place of. -/
theorem trip_all (𝒱 : Variants) (c : Dev nD) (bd : Option 𝒱.V) (i : grid0.Coords) (arg2 : Memref sig .tc .vmem S192x6x8x128 .i32) (harg2 : arg2.IsWhole) (arg3 : Memref sig .tc .vmem S1536x128 .f32) (harg3 : arg3.IsWhole) (arg4 : Memref sig .tc .vmem S1x512x3072 .fp8e4m3) (harg4 : arg4.IsWhole) (arg5 : Memref sig .tc .vmem S1x512x3072 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1536x512 .fp8e4m3) (harg8 : arg8.IsWhole) (arg9 : Memref sig .tc .vmem S1536x128 .f32) (harg9 : arg9.IsWhole) (arg10 : Memref sig .tc .vmem S1536x3072 .fp8e4m3) (harg10 : arg10.IsWhole) (arg11 : Memref sig .tc .vmem S1536x128 .f32) (harg11 : arg11.IsWhole) (arg12 : Memref sig .tc .vmem S1536x4096 .f32) (harg12 : arg12.IsWhole) (arg13 : Memref sig .tc .vmem S1536x128 .f32) (harg13 : arg13.IsWhole) (arg14 : Memref sig .tc .vmem S1536x128 .f32) (harg14 : arg14.IsWhole)
    (k0_h2 : k0_cond2 i = 1#1) (X : Vec Ideal S192x6x8x128 .i32) (k : Fin k0_t1_loop.trips) (y : S1536x3072.Idx) :
    View.AllAt (Val := Elt Ideal) (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h2 (harg2.unread X) k).1 y (codes X y) := by
  have hk : k.val < 48 := k.isLt
  obtain ⟨l00, l01, l02, l03, l10, l11, l12, l13, l20, l21, l22, l23, l30, l31, l32, l33, l40, l41, l42, l43, l50, l51, l52, l53⟩ := load_off k
  obtain ⟨s00, s01, s02, s03, s10, s11, s12, s13, s20, s21, s22, s23⟩ := store_off0 k
  obtain ⟨s30, s31, s32, s33, s40, s41, s42, s43, s50, s51, s52, s53⟩ := store_off1 k
  unfold trip_k0_t1
  frame_out
  refine View.allAt_cons_unit _ _ _ _ _ ?_ ?_
  · intro x hx
    exact tile y x k.val 5 3 hk _ hx s53 (by omega) (by omega) X _ fun s l j p hp => (rows3 _ _ _ _ p l s j hp).trans (congrArg _ (by
      match j with
      | 0 => exact congrArg _ (ld_at X _ _ _ _ (by omega) (by omega) l50 s l)
      | 1 => exact congrArg _ (ld_at X _ _ _ _ (by omega) (by omega) l51 s l)
      | 2 => exact congrArg _ (ld_at X _ _ _ _ (by omega) (by omega) l52 s l)
      | 3 => exact congrArg _ (ld_at X _ _ _ _ (by omega) (by omega) l53 s l)))
  refine View.allAt_cons_unit _ _ _ _ _ ?_ ?_
  · intro x hx
    exact tile y x k.val 5 2 hk _ hx s52 (by omega) (by omega) X _ fun s l j p hp => (rows2 _ _ _ _ p l s j hp).trans (congrArg _ (by
      match j with
      | 0 => exact congrArg _ (ld_at X _ _ _ _ (by omega) (by omega) l50 s l)
      | 1 => exact congrArg _ (ld_at X _ _ _ _ (by omega) (by omega) l51 s l)
      | 2 => exact congrArg _ (ld_at X _ _ _ _ (by omega) (by omega) l52 s l)
      | 3 => exact congrArg _ (ld_at X _ _ _ _ (by omega) (by omega) l53 s l)))
  refine View.allAt_cons_unit _ _ _ _ _ ?_ ?_
  · intro x hx
    exact tile y x k.val 5 1 hk _ hx s51 (by omega) (by omega) X _ fun s l j p hp => (rows1 _ _ _ _ p l s j hp).trans (congrArg _ (by
      match j with
      | 0 => exact congrArg _ (ld_at X _ _ _ _ (by omega) (by omega) l50 s l)
      | 1 => exact congrArg _ (ld_at X _ _ _ _ (by omega) (by omega) l51 s l)
      | 2 => exact congrArg _ (ld_at X _ _ _ _ (by omega) (by omega) l52 s l)
      | 3 => exact congrArg _ (ld_at X _ _ _ _ (by omega) (by omega) l53 s l)))
  refine View.allAt_cons_unit _ _ _ _ _ ?_ ?_
  · intro x hx
    exact tile y x k.val 5 0 hk _ hx s50 (by omega) (by omega) X _ fun s l j p hp => (rows0 _ _ _ _ p l s j hp).trans (congrArg _ (by
      match j with
      | 0 => exact congrArg _ (ld_at X _ _ _ _ (by omega) (by omega) l50 s l)
      | 1 => exact congrArg _ (ld_at X _ _ _ _ (by omega) (by omega) l51 s l)
      | 2 => exact congrArg _ (ld_at X _ _ _ _ (by omega) (by omega) l52 s l)
      | 3 => exact congrArg _ (ld_at X _ _ _ _ (by omega) (by omega) l53 s l)))
  refine View.allAt_cons_unit _ _ _ _ _ ?_ ?_
  · intro x hx
    exact tile y x k.val 4 3 hk _ hx s43 (by omega) (by omega) X _ fun s l j p hp => (rows3 _ _ _ _ p l s j hp).trans (congrArg _ (by
      match j with
      | 0 => exact congrArg _ (ld_at X _ _ _ _ (by omega) (by omega) l40 s l)
      | 1 => exact congrArg _ (ld_at X _ _ _ _ (by omega) (by omega) l41 s l)
      | 2 => exact congrArg _ (ld_at X _ _ _ _ (by omega) (by omega) l42 s l)
      | 3 => exact congrArg _ (ld_at X _ _ _ _ (by omega) (by omega) l43 s l)))
  refine View.allAt_cons_unit _ _ _ _ _ ?_ ?_
  · intro x hx
    exact tile y x k.val 4 2 hk _ hx s42 (by omega) (by omega) X _ fun s l j p hp => (rows2 _ _ _ _ p l s j hp).trans (congrArg _ (by
      match j with
      | 0 => exact congrArg _ (ld_at X _ _ _ _ (by omega) (by omega) l40 s l)
      | 1 => exact congrArg _ (ld_at X _ _ _ _ (by omega) (by omega) l41 s l)
      | 2 => exact congrArg _ (ld_at X _ _ _ _ (by omega) (by omega) l42 s l)
      | 3 => exact congrArg _ (ld_at X _ _ _ _ (by omega) (by omega) l43 s l)))
  refine View.allAt_cons_unit _ _ _ _ _ ?_ ?_
  · intro x hx
    exact tile y x k.val 4 1 hk _ hx s41 (by omega) (by omega) X _ fun s l j p hp => (rows1 _ _ _ _ p l s j hp).trans (congrArg _ (by
      match j with
      | 0 => exact congrArg _ (ld_at X _ _ _ _ (by omega) (by omega) l40 s l)
      | 1 => exact congrArg _ (ld_at X _ _ _ _ (by omega) (by omega) l41 s l)
      | 2 => exact congrArg _ (ld_at X _ _ _ _ (by omega) (by omega) l42 s l)
      | 3 => exact congrArg _ (ld_at X _ _ _ _ (by omega) (by omega) l43 s l)))
  refine View.allAt_cons_unit _ _ _ _ _ ?_ ?_
  · intro x hx
    exact tile y x k.val 4 0 hk _ hx s40 (by omega) (by omega) X _ fun s l j p hp => (rows0 _ _ _ _ p l s j hp).trans (congrArg _ (by
      match j with
      | 0 => exact congrArg _ (ld_at X _ _ _ _ (by omega) (by omega) l40 s l)
      | 1 => exact congrArg _ (ld_at X _ _ _ _ (by omega) (by omega) l41 s l)
      | 2 => exact congrArg _ (ld_at X _ _ _ _ (by omega) (by omega) l42 s l)
      | 3 => exact congrArg _ (ld_at X _ _ _ _ (by omega) (by omega) l43 s l)))
  refine View.allAt_cons_unit _ _ _ _ _ ?_ ?_
  · intro x hx
    exact tile y x k.val 3 3 hk _ hx s33 (by omega) (by omega) X _ fun s l j p hp => (rows3 _ _ _ _ p l s j hp).trans (congrArg _ (by
      match j with
      | 0 => exact congrArg _ (ld_at X _ _ _ _ (by omega) (by omega) l30 s l)
      | 1 => exact congrArg _ (ld_at X _ _ _ _ (by omega) (by omega) l31 s l)
      | 2 => exact congrArg _ (ld_at X _ _ _ _ (by omega) (by omega) l32 s l)
      | 3 => exact congrArg _ (ld_at X _ _ _ _ (by omega) (by omega) l33 s l)))
  refine View.allAt_cons_unit _ _ _ _ _ ?_ ?_
  · intro x hx
    exact tile y x k.val 3 2 hk _ hx s32 (by omega) (by omega) X _ fun s l j p hp => (rows2 _ _ _ _ p l s j hp).trans (congrArg _ (by
      match j with
      | 0 => exact congrArg _ (ld_at X _ _ _ _ (by omega) (by omega) l30 s l)
      | 1 => exact congrArg _ (ld_at X _ _ _ _ (by omega) (by omega) l31 s l)
      | 2 => exact congrArg _ (ld_at X _ _ _ _ (by omega) (by omega) l32 s l)
      | 3 => exact congrArg _ (ld_at X _ _ _ _ (by omega) (by omega) l33 s l)))
  refine View.allAt_cons_unit _ _ _ _ _ ?_ ?_
  · intro x hx
    exact tile y x k.val 3 1 hk _ hx s31 (by omega) (by omega) X _ fun s l j p hp => (rows1 _ _ _ _ p l s j hp).trans (congrArg _ (by
      match j with
      | 0 => exact congrArg _ (ld_at X _ _ _ _ (by omega) (by omega) l30 s l)
      | 1 => exact congrArg _ (ld_at X _ _ _ _ (by omega) (by omega) l31 s l)
      | 2 => exact congrArg _ (ld_at X _ _ _ _ (by omega) (by omega) l32 s l)
      | 3 => exact congrArg _ (ld_at X _ _ _ _ (by omega) (by omega) l33 s l)))
  refine View.allAt_cons_unit _ _ _ _ _ ?_ ?_
  · intro x hx
    exact tile y x k.val 3 0 hk _ hx s30 (by omega) (by omega) X _ fun s l j p hp => (rows0 _ _ _ _ p l s j hp).trans (congrArg _ (by
      match j with
      | 0 => exact congrArg _ (ld_at X _ _ _ _ (by omega) (by omega) l30 s l)
      | 1 => exact congrArg _ (ld_at X _ _ _ _ (by omega) (by omega) l31 s l)
      | 2 => exact congrArg _ (ld_at X _ _ _ _ (by omega) (by omega) l32 s l)
      | 3 => exact congrArg _ (ld_at X _ _ _ _ (by omega) (by omega) l33 s l)))
  refine View.allAt_cons_unit _ _ _ _ _ ?_ ?_
  · intro x hx
    exact tile y x k.val 2 3 hk _ hx s23 (by omega) (by omega) X _ fun s l j p hp => (rows3 _ _ _ _ p l s j hp).trans (congrArg _ (by
      match j with
      | 0 => exact congrArg _ (ld_at X _ _ _ _ (by omega) (by omega) l20 s l)
      | 1 => exact congrArg _ (ld_at X _ _ _ _ (by omega) (by omega) l21 s l)
      | 2 => exact congrArg _ (ld_at X _ _ _ _ (by omega) (by omega) l22 s l)
      | 3 => exact congrArg _ (ld_at X _ _ _ _ (by omega) (by omega) l23 s l)))
  refine View.allAt_cons_unit _ _ _ _ _ ?_ ?_
  · intro x hx
    exact tile y x k.val 2 2 hk _ hx s22 (by omega) (by omega) X _ fun s l j p hp => (rows2 _ _ _ _ p l s j hp).trans (congrArg _ (by
      match j with
      | 0 => exact congrArg _ (ld_at X _ _ _ _ (by omega) (by omega) l20 s l)
      | 1 => exact congrArg _ (ld_at X _ _ _ _ (by omega) (by omega) l21 s l)
      | 2 => exact congrArg _ (ld_at X _ _ _ _ (by omega) (by omega) l22 s l)
      | 3 => exact congrArg _ (ld_at X _ _ _ _ (by omega) (by omega) l23 s l)))
  refine View.allAt_cons_unit _ _ _ _ _ ?_ ?_
  · intro x hx
    exact tile y x k.val 2 1 hk _ hx s21 (by omega) (by omega) X _ fun s l j p hp => (rows1 _ _ _ _ p l s j hp).trans (congrArg _ (by
      match j with
      | 0 => exact congrArg _ (ld_at X _ _ _ _ (by omega) (by omega) l20 s l)
      | 1 => exact congrArg _ (ld_at X _ _ _ _ (by omega) (by omega) l21 s l)
      | 2 => exact congrArg _ (ld_at X _ _ _ _ (by omega) (by omega) l22 s l)
      | 3 => exact congrArg _ (ld_at X _ _ _ _ (by omega) (by omega) l23 s l)))
  refine View.allAt_cons_unit _ _ _ _ _ ?_ ?_
  · intro x hx
    exact tile y x k.val 2 0 hk _ hx s20 (by omega) (by omega) X _ fun s l j p hp => (rows0 _ _ _ _ p l s j hp).trans (congrArg _ (by
      match j with
      | 0 => exact congrArg _ (ld_at X _ _ _ _ (by omega) (by omega) l20 s l)
      | 1 => exact congrArg _ (ld_at X _ _ _ _ (by omega) (by omega) l21 s l)
      | 2 => exact congrArg _ (ld_at X _ _ _ _ (by omega) (by omega) l22 s l)
      | 3 => exact congrArg _ (ld_at X _ _ _ _ (by omega) (by omega) l23 s l)))
  refine View.allAt_cons_unit _ _ _ _ _ ?_ ?_
  · intro x hx
    exact tile y x k.val 1 3 hk _ hx s13 (by omega) (by omega) X _ fun s l j p hp => (rows3 _ _ _ _ p l s j hp).trans (congrArg _ (by
      match j with
      | 0 => exact congrArg _ (ld_at X _ _ _ _ (by omega) (by omega) l10 s l)
      | 1 => exact congrArg _ (ld_at X _ _ _ _ (by omega) (by omega) l11 s l)
      | 2 => exact congrArg _ (ld_at X _ _ _ _ (by omega) (by omega) l12 s l)
      | 3 => exact congrArg _ (ld_at X _ _ _ _ (by omega) (by omega) l13 s l)))
  refine View.allAt_cons_unit _ _ _ _ _ ?_ ?_
  · intro x hx
    exact tile y x k.val 1 2 hk _ hx s12 (by omega) (by omega) X _ fun s l j p hp => (rows2 _ _ _ _ p l s j hp).trans (congrArg _ (by
      match j with
      | 0 => exact congrArg _ (ld_at X _ _ _ _ (by omega) (by omega) l10 s l)
      | 1 => exact congrArg _ (ld_at X _ _ _ _ (by omega) (by omega) l11 s l)
      | 2 => exact congrArg _ (ld_at X _ _ _ _ (by omega) (by omega) l12 s l)
      | 3 => exact congrArg _ (ld_at X _ _ _ _ (by omega) (by omega) l13 s l)))
  refine View.allAt_cons_unit _ _ _ _ _ ?_ ?_
  · intro x hx
    exact tile y x k.val 1 1 hk _ hx s11 (by omega) (by omega) X _ fun s l j p hp => (rows1 _ _ _ _ p l s j hp).trans (congrArg _ (by
      match j with
      | 0 => exact congrArg _ (ld_at X _ _ _ _ (by omega) (by omega) l10 s l)
      | 1 => exact congrArg _ (ld_at X _ _ _ _ (by omega) (by omega) l11 s l)
      | 2 => exact congrArg _ (ld_at X _ _ _ _ (by omega) (by omega) l12 s l)
      | 3 => exact congrArg _ (ld_at X _ _ _ _ (by omega) (by omega) l13 s l)))
  refine View.allAt_cons_unit _ _ _ _ _ ?_ ?_
  · intro x hx
    exact tile y x k.val 1 0 hk _ hx s10 (by omega) (by omega) X _ fun s l j p hp => (rows0 _ _ _ _ p l s j hp).trans (congrArg _ (by
      match j with
      | 0 => exact congrArg _ (ld_at X _ _ _ _ (by omega) (by omega) l10 s l)
      | 1 => exact congrArg _ (ld_at X _ _ _ _ (by omega) (by omega) l11 s l)
      | 2 => exact congrArg _ (ld_at X _ _ _ _ (by omega) (by omega) l12 s l)
      | 3 => exact congrArg _ (ld_at X _ _ _ _ (by omega) (by omega) l13 s l)))
  refine View.allAt_cons_unit _ _ _ _ _ ?_ ?_
  · intro x hx
    exact tile y x k.val 0 3 hk _ hx s03 (by omega) (by omega) X _ fun s l j p hp => (rows3 _ _ _ _ p l s j hp).trans (congrArg _ (by
      match j with
      | 0 => exact congrArg _ (ld_at X _ _ _ _ (by omega) (by omega) l00 s l)
      | 1 => exact congrArg _ (ld_at X _ _ _ _ (by omega) (by omega) l01 s l)
      | 2 => exact congrArg _ (ld_at X _ _ _ _ (by omega) (by omega) l02 s l)
      | 3 => exact congrArg _ (ld_at X _ _ _ _ (by omega) (by omega) l03 s l)))
  refine View.allAt_cons_unit _ _ _ _ _ ?_ ?_
  · intro x hx
    exact tile y x k.val 0 2 hk _ hx s02 (by omega) (by omega) X _ fun s l j p hp => (rows2 _ _ _ _ p l s j hp).trans (congrArg _ (by
      match j with
      | 0 => exact congrArg _ (ld_at X _ _ _ _ (by omega) (by omega) l00 s l)
      | 1 => exact congrArg _ (ld_at X _ _ _ _ (by omega) (by omega) l01 s l)
      | 2 => exact congrArg _ (ld_at X _ _ _ _ (by omega) (by omega) l02 s l)
      | 3 => exact congrArg _ (ld_at X _ _ _ _ (by omega) (by omega) l03 s l)))
  refine View.allAt_cons_unit _ _ _ _ _ ?_ ?_
  · intro x hx
    exact tile y x k.val 0 1 hk _ hx s01 (by omega) (by omega) X _ fun s l j p hp => (rows1 _ _ _ _ p l s j hp).trans (congrArg _ (by
      match j with
      | 0 => exact congrArg _ (ld_at X _ _ _ _ (by omega) (by omega) l00 s l)
      | 1 => exact congrArg _ (ld_at X _ _ _ _ (by omega) (by omega) l01 s l)
      | 2 => exact congrArg _ (ld_at X _ _ _ _ (by omega) (by omega) l02 s l)
      | 3 => exact congrArg _ (ld_at X _ _ _ _ (by omega) (by omega) l03 s l)))
  refine View.allAt_cons_unit _ _ _ _ _ ?_ ?_
  · intro x hx
    exact tile y x k.val 0 0 hk _ hx s00 (by omega) (by omega) X _ fun s l j p hp => (rows0 _ _ _ _ p l s j hp).trans (congrArg _ (by
      match j with
      | 0 => exact congrArg _ (ld_at X _ _ _ _ (by omega) (by omega) l00 s l)
      | 1 => exact congrArg _ (ld_at X _ _ _ _ (by omega) (by omega) l01 s l)
      | 2 => exact congrArg _ (ld_at X _ _ _ _ (by omega) (by omega) l02 s l)
      | 3 => exact congrArg _ (ld_at X _ _ _ _ (by omega) (by omega) l03 s l)))
  exact View.allAt_nil _ _

set_option maxHeartbeats 2000000 in
/-- Every place in the 32 rows of a trip is in a piece that the trip stores. -/
theorem trip_cover (𝒱 : Variants) (c : Dev nD) (bd : Option 𝒱.V) (i : grid0.Coords) (arg2 : Memref sig .tc .vmem S192x6x8x128 .i32) (harg2 : arg2.IsWhole) (arg3 : Memref sig .tc .vmem S1536x128 .f32) (harg3 : arg3.IsWhole) (arg4 : Memref sig .tc .vmem S1x512x3072 .fp8e4m3) (harg4 : arg4.IsWhole) (arg5 : Memref sig .tc .vmem S1x512x3072 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1536x512 .fp8e4m3) (harg8 : arg8.IsWhole) (arg9 : Memref sig .tc .vmem S1536x128 .f32) (harg9 : arg9.IsWhole) (arg10 : Memref sig .tc .vmem S1536x3072 .fp8e4m3) (harg10 : arg10.IsWhole) (arg11 : Memref sig .tc .vmem S1536x128 .f32) (harg11 : arg11.IsWhole) (arg12 : Memref sig .tc .vmem S1536x4096 .f32) (harg12 : arg12.IsWhole) (arg13 : Memref sig .tc .vmem S1536x128 .f32) (harg13 : arg13.IsWhole) (arg14 : Memref sig .tc .vmem S1536x128 .f32) (harg14 : arg14.IsWhole)
    (k0_h2 : k0_cond2 i = 1#1) (X : BufTy.Contents (Elt Ideal) arg2.view.ty) (k : Fin k0_t1_loop.trips) (y : S1536x3072.Idx) (hy : (y 0 : ℕ) / 32 = k.val) :
    ∃ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h2 X k).1, y ∈ p.1.set := by
  have hk : k.val < 48 := k.isLt
  have y1 : (y 1).val < 3072 := (y 1).isLt
  obtain ⟨s00, s01, s02, s03, s10, s11, s12, s13, s20, s21, s22, s23⟩ := store_off0 k
  obtain ⟨s30, s31, s32, s33, s40, s41, s42, s43, s50, s51, s52, s53⟩ := store_off1 k
  unfold trip_k0_t1
  frame_open
  refine cover_cons y _ _ _ _ fun h53 => ?_
  refine cover_cons y _ _ _ _ fun h52 => ?_
  refine cover_cons y _ _ _ _ fun h51 => ?_
  refine cover_cons y _ _ _ _ fun h50 => ?_
  refine cover_cons y _ _ _ _ fun h43 => ?_
  refine cover_cons y _ _ _ _ fun h42 => ?_
  refine cover_cons y _ _ _ _ fun h41 => ?_
  refine cover_cons y _ _ _ _ fun h40 => ?_
  refine cover_cons y _ _ _ _ fun h33 => ?_
  refine cover_cons y _ _ _ _ fun h32 => ?_
  refine cover_cons y _ _ _ _ fun h31 => ?_
  refine cover_cons y _ _ _ _ fun h30 => ?_
  refine cover_cons y _ _ _ _ fun h23 => ?_
  refine cover_cons y _ _ _ _ fun h22 => ?_
  refine cover_cons y _ _ _ _ fun h21 => ?_
  refine cover_cons y _ _ _ _ fun h20 => ?_
  refine cover_cons y _ _ _ _ fun h13 => ?_
  refine cover_cons y _ _ _ _ fun h12 => ?_
  refine cover_cons y _ _ _ _ fun h11 => ?_
  refine cover_cons y _ _ _ _ fun h10 => ?_
  refine cover_cons y _ _ _ _ fun h03 => ?_
  refine cover_cons y _ _ _ _ fun h02 => ?_
  refine cover_cons y _ _ _ _ fun h01 => ?_
  refine cover_cons y _ _ _ _ fun h00 => ?_
  exfalso
  omega

/-- After `n` trips every piece stored holds the codes it is the place of, and every place of the first `32 n` rows is in one. -/
theorem trips_all (𝒱 : Variants) (c : Dev nD) (bd : Option 𝒱.V) (i : grid0.Coords) (arg2 : Memref sig .tc .vmem S192x6x8x128 .i32) (harg2 : arg2.IsWhole) (arg3 : Memref sig .tc .vmem S1536x128 .f32) (harg3 : arg3.IsWhole) (arg4 : Memref sig .tc .vmem S1x512x3072 .fp8e4m3) (harg4 : arg4.IsWhole) (arg5 : Memref sig .tc .vmem S1x512x3072 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1536x512 .fp8e4m3) (harg8 : arg8.IsWhole) (arg9 : Memref sig .tc .vmem S1536x128 .f32) (harg9 : arg9.IsWhole) (arg10 : Memref sig .tc .vmem S1536x3072 .fp8e4m3) (harg10 : arg10.IsWhole) (arg11 : Memref sig .tc .vmem S1536x128 .f32) (harg11 : arg11.IsWhole) (arg12 : Memref sig .tc .vmem S1536x4096 .f32) (harg12 : arg12.IsWhole) (arg13 : Memref sig .tc .vmem S1536x128 .f32) (harg13 : arg13.IsWhole) (arg14 : Memref sig .tc .vmem S1536x128 .f32) (harg14 : arg14.IsWhole)
    (k0_h2 : k0_cond2 i = 1#1) (X : Vec Ideal S192x6x8x128 .i32) (y : S1536x3072.Idx) : ∀ n : ℕ, n ≤ 48 →
    View.AllAt (Val := Elt Ideal) (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h2 (harg2.unread X) n) y (codes X y)
      ∧ ((y 0 : ℕ) < 32 * n → ∃ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h2 (harg2.unread X) n, y ∈ p.1.set)
  | 0, _ => ⟨View.allAt_nil _ _, fun h => absurd h (by omega)⟩
  | n + 1, hn => by
    obtain ⟨ha, hc⟩ := trips_all 𝒱 c bd i arg2 harg2 arg3 harg3 arg4 harg4 arg5 harg5 arg6 harg6 arg7 harg7 arg8 harg8 arg9 harg9 arg10 harg10 arg11 harg11 arg12 harg12 arg13 harg13 arg14 harg14 k0_h2 X y n (by omega)
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h2 (harg2.unread X) (⟨n, hn⟩ : Fin k0_t1_loop.trips)]
    refine ⟨fun p hp => ?_, fun h => ?_⟩
    · rcases List.mem_append.1 hp with hp | hp
      · exact trip_all 𝒱 c bd i arg2 harg2 arg3 harg3 arg4 harg4 arg5 harg5 arg6 harg6 arg7 harg7 arg8 harg8 arg9 harg9 arg10 harg10 arg11 harg11 arg12 harg12 arg13 harg13 arg14 harg14 k0_h2 X ⟨n, hn⟩ y p hp
      · exact ha p hp
    · by_cases hlt : (y 0 : ℕ) < 32 * n
      · obtain ⟨p, hp, hy⟩ := hc hlt
        exact ⟨p, List.mem_append_right _ hp, hy⟩
      · obtain ⟨p, hp, hy⟩ := trip_cover 𝒱 c bd i arg2 harg2 arg3 harg3 arg4 harg4 arg5 harg5 arg6 harg6 arg7 harg7 arg8 harg8 arg9 harg9 arg10 harg10 arg11 harg11 arg12 harg12 arg13 harg13 arg14 harg14 k0_h2 (harg2.unread X) ⟨n, hn⟩ y (by show (y 0 : ℕ) / 32 = n; omega)
        exact ⟨p, List.mem_append_left _ hp, hy⟩

/-- What the block of codes reads after the loop, whatever it held before: the codes unpacked. -/
theorem unpacked (𝒱 : Variants) (c : Dev nD) (bd : Option 𝒱.V) (i : grid0.Coords) (arg2 : Memref sig .tc .vmem S192x6x8x128 .i32) (harg2 : arg2.IsWhole) (arg3 : Memref sig .tc .vmem S1536x128 .f32) (harg3 : arg3.IsWhole) (arg4 : Memref sig .tc .vmem S1x512x3072 .fp8e4m3) (harg4 : arg4.IsWhole) (arg5 : Memref sig .tc .vmem S1x512x3072 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1536x512 .fp8e4m3) (harg8 : arg8.IsWhole) (arg9 : Memref sig .tc .vmem S1536x128 .f32) (harg9 : arg9.IsWhole) (arg10 : Memref sig .tc .vmem S1536x3072 .fp8e4m3) (harg10 : arg10.IsWhole) (arg11 : Memref sig .tc .vmem S1536x128 .f32) (harg11 : arg11.IsWhole) (arg12 : Memref sig .tc .vmem S1536x4096 .f32) (harg12 : arg12.IsWhole) (arg13 : Memref sig .tc .vmem S1536x128 .f32) (harg13 : arg13.IsWhole) (arg14 : Memref sig .tc .vmem S1536x128 .f32) (harg14 : arg14.IsWhole)
    (k0_h2 : k0_cond2 i = 1#1) (X : Vec Ideal S192x6x8x128 .i32) (f : BufTy.Contents (Elt Ideal) arg10.view.ty) :
    arg10.view.read (Elt Ideal) (arg10.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 k0_h2 (harg2.unread X) k0_t1_loop.trips)) = codes X := by
  funext y
  have hy : (y 0).val < 1536 := (y 0).isLt
  obtain ⟨ha, hc⟩ := trips_all 𝒱 c bd i arg2 harg2 arg3 harg3 arg4 harg4 arg5 harg5 arg6 harg6 arg7 harg7 arg8 harg8 arg9 harg9 arg10 harg10 arg11 harg11 arg12 harg12 arg13 harg13 arg14 harg14 k0_h2 X y 48 (le_refl _)
  have hc := hc (by omega)
  exact (View.read_writes_apply_eq_canon arg10.view f y _ hc).trans (View.canon_eq_of_allAt _ y _ hc ha)

end Cert.GateUpIdeal.Value
end
-- ==== Proof.GateUpInv.lean ====
module

public import proofs.«01_k».proof.Proof.GateUpBlock
public import proofs.«01_k».proof.Proof.GateUpUnpack

/-! # What the scratch buffers hold between grid points

Point `8 e + f` works on expert `e`, column block `f`. While it computes the hidden block of expert
`e` it still quantises the same column block of expert `e - 1`: the hidden buffer therefore holds the
new expert's columns up to block `f` and the previous expert's columns after it. -/

@[expose] public section
set_option maxRecDepth 16384
noncomputable section
open Idealize.ShloMosaic Idealize.ShloMosaic.TcCoe Idealize.SL.Sem
namespace Cert.GateUpIdeal.Value
open Cert.GateUpIdeal Cert.GateUpIdeal.Gen Cert.GateUpIdeal.Run
variable (m : (ℓ : Loc nD τ sig) → Buf (Elt Ideal) ℓ) (c : Dev nD)

/-- The grid point of a number. -/
def pt (n : ℕ) : Fin cfg0.N := ⟨n % 136, lt_of_lt_of_eq (Nat.mod_lt _ (by decide)) (show cfg0.N = 136 from N_0).symm⟩

theorem pt_val (t : Fin cfg0.N) : pt t.val = t := Fin.ext (Nat.mod_eq_of_lt (lt_of_lt_of_eq t.isLt (show cfg0.N = 136 from N_0)))

/-- The activation codes of expert `e`. -/
def codesE (e : ℕ) : Vec Ideal S1536x3072 .fp8e4m3 := codes (iblk m c 0 (pt (8 * e)))

/-- The activation scales of expert `e`. -/
def xsE (e : ℕ) : Vec Ideal S1536x128 .f32 := xsB (iblk m c 1 (pt (8 * e)))

/-- The hidden block that point `n` computes. -/
def blkAt (n : ℕ) : Fin 1536 → Fin 512 → EReal :=
  hid (codesE m c (n / 8)) (xsE m c (n / 8)) (iblk m c 2 (pt n)) (iblk m c 3 (pt n)) (iblk m c 4 (pt n)) (iblk m c 5 (pt n))

/-- The hidden rows of expert `e`, all columns. -/
def hidE (e : ℕ) : Vec Ideal S1536x4096 .f32 := fun y => blkAt m c (8 * e + (y 1).val / 512) (y 0) ⟨(y 1).val % 512, Nat.mod_lt _ (by decide)⟩

/-- The running lane maxima of expert `e` after column block `f`. -/
def maxE (e : ℕ) : ℕ → Vec Ideal S1536x128 .f32
  | 0 => stepA zeroB (blkAt m c (8 * e))
  | f + 1 => stepA (maxE e f) (blkAt m c (8 * e + (f + 1)))

/-- The block of codes that point `n` leaves: one column block of the previous expert, quantised. -/
def quantAt (n : ℕ) : Vec Ideal S1536x512 .fp8e4m3 :=
  quantB (hidE m c (n / 8 - 1)) (invB (maxE m c (n / 8 - 1) 7)) ⟨n % 8, Nat.mod_lt _ (by decide)⟩

/-- The block of scales of point `n`: the previous expert's. -/
def scaleAt (n : ℕ) : Vec Ideal S1536x128 .f32 := scaleB (maxE m c (n / 8 - 1) 7)

/-- What the scratch buffers hold after point `t`. -/
structure Known (t : ℕ) (X : Vec Ideal S1536x3072 .fp8e4m3) (S : Vec Ideal S1536x128 .f32) (H : Vec Ideal S1536x4096 .f32)
    (A I : Vec Ideal S1536x128 .f32) : Prop where
  x : t / 8 < 16 → X = codesE m c (t / 8)
  s : t / 8 < 16 → S = xsE m c (t / 8)
  new : t / 8 < 16 → ∀ y : S1536x4096.Idx, (y 1).val / 512 ≤ t % 8 → H y = hidE m c (t / 8) y
  old : 1 ≤ t / 8 → ∀ y : S1536x4096.Idx, t % 8 < (y 1).val / 512 ∨ 16 ≤ t / 8 → H y = hidE m c (t / 8 - 1) y
  a : t / 8 < 16 → A = maxE m c (t / 8) (t % 8)
  i : 1 ≤ t / 8 → I = invB (maxE m c (t / 8 - 1) 7)

/-- What the scratch buffers hold before point `n`: anything before the first. -/
def Inv (n : ℕ) (X : Vec Ideal S1536x3072 .fp8e4m3) (S : Vec Ideal S1536x128 .f32) (H : Vec Ideal S1536x4096 .f32)
    (A I : Vec Ideal S1536x128 .f32) : Prop := ∀ t, n = t + 1 → Known m c t X S H A I

variable {m c} {t : Fin cfg0.N} {X : Vec Ideal S1536x3072 .fp8e4m3} {S : Vec Ideal S1536x128 .f32} {H : Vec Ideal S1536x4096 .f32}
  {A I : Vec Ideal S1536x128 .f32}

theorem t_lt (t : Fin cfg0.N) : t.val < 136 := lt_of_lt_of_eq t.isLt (show cfg0.N = 136 from N_0)

/-- At the first point of a later round the hidden buffer is the previous expert's. -/
theorem prev_first (hI : Inv m c t.val X S H A I) (hf : t.val % 8 = 0) (he : 1 ≤ t.val / 8) : H = hidE m c (t.val / 8 - 1) ∧ A = maxE m c (t.val / 8 - 1) 7 := by
  have ht := t_lt t
  have hk := hI (t.val - 1) (by omega)
  have e1 : (t.val - 1) / 8 = t.val / 8 - 1 := by omega
  have e2 : (t.val - 1) % 8 = 7 := by omega
  refine ⟨funext fun y => ?_, ?_⟩
  · rw [hk.new (by omega) y (by have h : (y 1).val < 4096 := (y 1).isLt; omega), e1]
  · rw [hk.a (by omega), e1, e2]

/-- The hidden block computed at a round's first point. -/
theorem blk_first (hf : t.val % 8 = 0) :
    hid (codes (iblk m c 0 t)) (xsB (iblk m c 1 t)) (iblk m c 2 t) (iblk m c 3 t) (iblk m c 4 t) (iblk m c 5 t) = blkAt m c t.val := by
  have e : pt (8 * (t.val / 8)) = t := by rw [show 8 * (t.val / 8) = t.val by omega, pt_val]
  unfold blkAt codesE xsE
  rw [e, pt_val]

/-- The hidden block computed at a round's later points. -/
theorem blk_later (hX : X = codesE m c (t.val / 8)) (hS : S = xsE m c (t.val / 8)) :
    hid X S (iblk m c 2 t) (iblk m c 3 t) (iblk m c 4 t) (iblk m c 5 t) = blkAt m c t.val := by
  unfold blkAt
  rw [hX, hS, pt_val]

/-- After the first point of an expert. -/
theorem known_first (hI : Inv m c t.val X S H A I) (hf : t.val % 8 = 0) (he : t.val / 8 < 16) (I' : Vec Ideal S1536x128 .f32) (hI' : 1 ≤ t.val / 8 → I' = invB A) (k : ℕ) (hk : k = t.val % 8) :
    Known m c t.val (codes (iblk m c 0 t)) (xsB (iblk m c 1 t))
      (updH H k (hid (codes (iblk m c 0 t)) (xsB (iblk m c 1 t)) (iblk m c 2 t) (iblk m c 3 t) (iblk m c 4 t) (iblk m c 5 t)))
      (stepA zeroB (hid (codes (iblk m c 0 t)) (xsB (iblk m c 1 t)) (iblk m c 2 t) (iblk m c 3 t) (iblk m c 4 t) (iblk m c 5 t))) I' := by
  have e : pt (8 * (t.val / 8)) = t := by rw [show 8 * (t.val / 8) = t.val by omega, pt_val]
  rw [blk_first hf]
  refine ⟨fun _ => ?_, fun _ => ?_, fun _ y hy => ?_, fun h y hy => ?_, fun _ => ?_, fun h => ?_⟩
  · unfold codesE; rw [e]
  · unfold xsE; rw [e]
  · unfold updH hidE
    rw [if_pos (by omega), show 8 * (t.val / 8) + (y 1).val / 512 = t.val by omega]
  · unfold updH
    rw [if_neg (by omega), (prev_first hI hf h).1]
  · rw [hf]; unfold maxE; rw [show 8 * (t.val / 8) = t.val by omega]
  · rw [hI' h, (prev_first hI hf h).2]

/-- After a later point of an expert. -/
theorem known_later (hI : Inv m c t.val X S H A I) (hf : t.val % 8 ≠ 0) (he : t.val / 8 < 16) (k : ℕ) (hk : k = t.val % 8) :
    Known m c t.val X S (updH H k (hid X S (iblk m c 2 t) (iblk m c 3 t) (iblk m c 4 t) (iblk m c 5 t)))
      (stepA A (hid X S (iblk m c 2 t) (iblk m c 3 t) (iblk m c 4 t) (iblk m c 5 t))) I := by
  have h := hI (t.val - 1) (by omega)
  have e1 : (t.val - 1) / 8 = t.val / 8 := by omega
  have hX : X = codesE m c (t.val / 8) := e1 ▸ h.x (by omega)
  have hS : S = xsE m c (t.val / 8) := e1 ▸ h.s (by omega)
  rw [blk_later hX hS]
  refine ⟨fun _ => hX, fun _ => hS, fun _ y hy => ?_, fun h1 y hy => ?_, fun _ => ?_, fun h1 => ?_⟩
  · unfold updH
    by_cases hq : (y 1).val / 512 = k
    · unfold hidE
      rw [if_pos hq, show 8 * (t.val / 8) + (y 1).val / 512 = t.val by omega]
    · rw [if_neg hq, h.new (by omega) y (by omega), e1]
  · unfold updH
    rw [if_neg (by omega), h.old (by omega) y (by omega), e1]
  · rw [h.a (by omega), e1]
    obtain ⟨k', hk'⟩ : ∃ k', t.val % 8 = k' + 1 := ⟨t.val % 8 - 1, by omega⟩
    rw [hk', show (t.val - 1) % 8 = k' by omega, maxE, show 8 * (t.val / 8) + (k' + 1) = t.val by omega]
  · rw [h.i (by omega), e1]

/-- After the first point of the closing round. -/
theorem known_close_first (hI : Inv m c t.val X S H A I) (hf : t.val % 8 = 0) (he : 16 ≤ t.val / 8) (X' : Vec Ideal S1536x3072 .fp8e4m3) (S' A' : Vec Ideal S1536x128 .f32) :
    Known m c t.val X' S' H A' (invB A) := by
  refine ⟨fun h => ?_, fun h => ?_, fun h => ?_, fun h y hy => ?_, fun h => ?_, fun h => ?_⟩
  · omega
  · omega
  · omega
  · rw [(prev_first hI hf h).1]
  · omega
  · rw [(prev_first hI hf h).2]

/-- After a later point of the closing round. -/
theorem known_close_later (hI : Inv m c t.val X S H A I) (hf : t.val % 8 ≠ 0) (he : 16 ≤ t.val / 8) : Known m c t.val X S H A I := by
  have h := hI (t.val - 1) (by omega)
  have e1 : (t.val - 1) / 8 = t.val / 8 := by omega
  refine ⟨fun h => ?_, fun h => ?_, fun h => ?_, fun h1 y hy => ?_, fun h => ?_, fun h1 => ?_⟩
  · omega
  · omega
  · omega
  · rw [h.old (by omega) y (by omega), e1]
  · omega
  · rw [h.i (by omega), e1]

/-- The block of codes left at a round's first point. -/
theorem quant_first (hI : Inv m c t.val X S H A I) (hf : t.val % 8 = 0) (he : 1 ≤ t.val / 8) (f : Fin 8) (hk : f.val = t.val % 8) :
    quantB H (invB A) f = quantAt m c t.val := by
  obtain ⟨h1, h2⟩ := prev_first hI hf he
  obtain rfl : f = ⟨t.val % 8, Nat.mod_lt _ (by decide)⟩ := Fin.ext hk
  rw [h1, h2]; rfl

/-- The block of scales left at a round's first point. -/
theorem scale_first (hI : Inv m c t.val X S H A I) (hf : t.val % 8 = 0) (he : 1 ≤ t.val / 8) : scaleB A = scaleAt m c t.val := by
  rw [(prev_first hI hf he).2]; rfl

/-- The block of codes left at a round's later points. -/
theorem quant_later (hI : Inv m c t.val X S H A I) (hf : t.val % 8 ≠ 0) (he : 1 ≤ t.val / 8) (f : Fin 8) (hk : f.val = t.val % 8) :
    quantB H I f = quantAt m c t.val := by
  have h := hI (t.val - 1) (by omega)
  have e1 : (t.val - 1) / 8 = t.val / 8 := by omega
  obtain rfl : f = ⟨t.val % 8, Nat.mod_lt _ (by decide)⟩ := Fin.ext hk
  unfold quantAt quantB
  funext y
  rw [h.i (by omega), e1]
  have hy : (y 1).val < 512 := (y 1).isLt
  rw [h.old (by omega) (ix2 (y 0) ⟨512 * (t.val % 8) + (y 1).val, _⟩) (Or.inl (by show (t.val - 1) % 8 < (512 * (t.val % 8) + (y 1).val) / 512; omega)), e1]

end Cert.GateUpIdeal.Value
end
-- ==== Proof.GateUpRowMax.lean ====
module

public import proofs.«01_k».proof.Proof.GateUpScale
public import proofs.«01_k».proof.Proof.GateUpInv

/-! # The largest magnitude of a row

The kernel keeps 128 running maxima per row, one for each lane, over the eight column blocks of an expert. The largest
of the 128 is the largest magnitude of the 4096 columns of the row. -/

@[expose] public section
set_option maxRecDepth 16384
noncomputable section
open Idealize.ShloMosaic Idealize.ShloMosaic.TcCoe Idealize.SL.Sem
namespace Cert.GateUpIdeal.Value
open Cert.GateUpIdeal Cert.GateUpIdeal.Gen Cert.GateUpIdeal.Run
variable (m : (ℓ : Loc nD τ sig) → Buf (Elt Ideal) ℓ) (c : Dev nD)

theorem mag_nonneg (x : EReal) : 0 ≤ mag x := by
  unfold mag
  rcases le_total 0 x with h | h
  · exact le_max_of_le_left h
  · exact le_max_of_le_right (EReal.neg_nonneg.2 h)

theorem maxStep_le (a : EReal) (h : Fin 512 → EReal) (l : Fin 128) (x : EReal) :
    maxStep a h l ≤ x ↔ a ≤ x ∧ ∀ k : Fin 4, mag (h ⟨128 * k.val + l.val, by omega⟩) ≤ x := by
  unfold maxStep
  simp only [max_le_iff]
  constructor
  · rintro ⟨⟨⟨⟨h0, h1⟩, h2⟩, h3⟩, h4⟩
    refine ⟨h0, fun k => ?_⟩
    fin_cases k
    · exact le_trans (le_of_eq (congrArg (fun i => mag (h i)) (Fin.ext (by simp)))) h1
    · exact le_trans (le_of_eq (congrArg (fun i => mag (h i)) (Fin.ext (by simp)))) h2
    · exact le_trans (le_of_eq (congrArg (fun i => mag (h i)) (Fin.ext (by simp)))) h3
    · exact le_trans (le_of_eq (congrArg (fun i => mag (h i)) (Fin.ext (by simp)))) h4
  · rintro ⟨h0, h1⟩
    refine ⟨⟨⟨⟨h0, ?_⟩, ?_⟩, ?_⟩, ?_⟩
    · exact le_trans (le_of_eq (congrArg (fun i => mag (h i)) (Fin.ext (by simp)))) (h1 0)
    · exact le_trans (le_of_eq (congrArg (fun i => mag (h i)) (Fin.ext (by simp)))) (h1 1)
    · exact le_trans (le_of_eq (congrArg (fun i => mag (h i)) (Fin.ext (by simp)))) (h1 2)
    · exact le_trans (le_of_eq (congrArg (fun i => mag (h i)) (Fin.ext (by simp)))) (h1 3)

/-- The running maximum of a lane after column block `f`. -/
theorem maxE_le (e f : ℕ) (r : Fin 1536) (l : Fin 128) (x : EReal) : maxE m c e f (ix2 r l) ≤ x ↔
    0 ≤ x ∧ ∀ g : ℕ, g ≤ f → ∀ k : Fin 4, mag (blkAt m c (8 * e + g) r ⟨128 * k.val + l.val, by omega⟩) ≤ x := by
  induction f with
  | zero =>
    refine (maxStep_le _ _ _ _).trans ?_
    refine and_congr Iff.rfl ⟨fun h g hg => ?_, fun h => h 0 le_rfl⟩
    obtain rfl : g = 0 := by omega
    exact h
  | succ f ih =>
    refine (maxStep_le _ _ _ _).trans ?_
    rw [show ((ix2 r l : S1536x128.Idx)) = ix2 r l from rfl]
    refine (and_congr ih Iff.rfl).trans ?_
    constructor
    · rintro ⟨⟨h0, h1⟩, h2⟩
      refine ⟨h0, fun g hg => ?_⟩
      rcases Nat.lt_or_ge f g with h | h
      · obtain rfl : g = f + 1 := by omega
        exact h2
      · exact h1 g h
    · rintro ⟨h0, h1⟩
      exact ⟨⟨h0, fun g hg => h1 g (by omega)⟩, h1 (f + 1) le_rfl⟩

/-- The largest magnitude of a row of the hidden values of expert `e`, scaled. -/
theorem rowT_eq (e : ℕ) (r : Fin 1536) : rowT (maxE m c e 7) r
    = (Finset.univ.sup fun q : Fin 4096 => mag (hidE m c e (ix2 r q))) * Ideal.ofBits .f32 0x3B124925#32 := by
  unfold rowT
  refine congrArg (· * _) (eq_of_forall_ge_iff fun x => ?_)
  simp only [Finset.sup_le_iff, Finset.mem_univ, true_implies]
  constructor
  · intro h q
    have hq := q.isLt
    have := ((maxE_le m c e 7 r ⟨q.val % 128, by omega⟩ x).1 (h _)).2 (q.val / 512) (by omega) ⟨q.val % 512 / 128, by omega⟩
    refine le_trans (le_of_eq ?_) this
    refine congrArg mag ?_
    show blkAt m c (8 * e + q.val / 512) r ⟨q.val % 512, _⟩ = _
    exact congrArg _ (Fin.ext (by simp only; omega))
  · intro h l
    refine (maxE_le m c e 7 r l x).2 ⟨(mag_nonneg _).trans (h 0), fun g hg k => ?_⟩
    have hl := l.isLt
    have hk := k.isLt
    refine le_trans (le_of_eq ?_) (h ⟨512 * g + (128 * k.val + l.val), by omega⟩)
    refine congrArg mag ?_
    have e1 : (512 * g + (128 * k.val + l.val)) / 512 = g := by omega
    have e2 : (512 * g + (128 * k.val + l.val)) % 512 = 128 * k.val + l.val := by omega
    show _ = blkAt m c (8 * e + (512 * g + (128 * k.val + l.val)) / 512) r ⟨(512 * g + (128 * k.val + l.val)) % 512, _⟩
    simp only [e1, e2]

end Cert.GateUpIdeal.Value
end
-- ==== Proof.GateUpTiles.lean ====
module

public import proofs.«01_k».proof.Proof.GateUpBlock
public import Idealize.ShloMosaic.Lib.Writes
public import Idealize.ShloMosaic.Lib.WritesUnit

/-! # Buffers of the gate-up kernel after a list of stores of tiles -/

@[expose] public section
set_option maxRecDepth 16384
noncomputable section
open Idealize.ShloMosaic Idealize.ShloMosaic.TcCoe Idealize.SL.Sem
namespace Cert.GateUpIdeal.Value
open Cert.GateUpIdeal Cert.GateUpIdeal.Gen

/-! The printed offsets, by coordinates: the row group and the column block of the grid point. -/

theorem off31 (i : grid0.Coords) : k0_off31 i = ![0, 512 * (i 1).val] :=
  funext fun a => (by decide +kernel : ∀ f : Fin 8, ∀ a : Fin 2, k0_off31 (fun | 0 => ⟨0, by decide⟩ | 1 => f) a = (![0, 512 * f.val] : Fin 2 → ℕ) a) (i 1) a

theorem off32 (i : grid0.Coords) : k0_off32 i = ![512, 512 * (i 1).val] :=
  funext fun a => (by decide +kernel : ∀ f : Fin 8, ∀ a : Fin 2, k0_off32 (fun | 0 => ⟨0, by decide⟩ | 1 => f) a = (![512, 512 * f.val] : Fin 2 → ℕ) a) (i 1) a

theorem off33 (i : grid0.Coords) : k0_off33 i = ![1024, 512 * (i 1).val] :=
  funext fun a => (by decide +kernel : ∀ f : Fin 8, ∀ a : Fin 2, k0_off33 (fun | 0 => ⟨0, by decide⟩ | 1 => f) a = (![1024, 512 * f.val] : Fin 2 → ℕ) a) (i 1) a

theorem off35 (i : grid0.Coords) : k0_off35 i = ![0, 512 * (i 1).val] := off31 i
theorem off37 (i : grid0.Coords) : k0_off37 i = ![512, 512 * (i 1).val] := off32 i
theorem off39 (i : grid0.Coords) : k0_off39 i = ![1024, 512 * (i 1).val] := off33 i

/-- The column offset of a lane block `j` of column block `i 1`. -/
theorem off34 (i : grid0.Coords) (j : Fin 4) : k0_off34 i (BitVec.ofNat 32 (128 * j.val)) 1 = 512 * (i 1).val + 128 * j.val :=
  (by decide +kernel : ∀ f : Fin 8, ∀ j : Fin 4, k0_off34 (fun | 0 => ⟨0, by decide⟩ | 1 => f) (BitVec.ofNat 32 (128 * j.val)) 1 = 512 * f.val + 128 * j.val) (i 1) j

theorem off36 (i : grid0.Coords) (j : Fin 4) : k0_off36 i (BitVec.ofNat 32 (128 * j.val)) 1 = 512 * (i 1).val + 128 * j.val := off34 i j
theorem off38 (i : grid0.Coords) (j : Fin 4) : k0_off38 i (BitVec.ofNat 32 (128 * j.val)) 1 = 512 * (i 1).val + 128 * j.val := off34 i j
theorem off40 (i : grid0.Coords) (j : Fin 4) : k0_off40 i (BitVec.ofNat 32 (128 * j.val)) 1 = 512 * (i 1).val + 128 * j.val := off34 i j
theorem off41 (i : grid0.Coords) (j : Fin 4) : k0_off41 i (BitVec.ofNat 32 (128 * j.val)) 1 = 512 * (i 1).val + 128 * j.val := off34 i j
theorem off42 (i : grid0.Coords) (j : Fin 4) : k0_off42 i (BitVec.ofNat 32 (128 * j.val)) 1 = 512 * (i 1).val + 128 * j.val := off34 i j

/-- Three tiles of 512 rows stored into column block `f` of the hidden buffer replace that block. -/
theorem read_h (v : Memref sig .tc .vmem S1536x4096 .f32) (hv : v.IsWhole) (H : Vec Ideal S1536x4096 .f32) (f : ℕ) (off0 off1 off2 : Fin 2 → ℕ) (i0) (i1) (i2)
    (w0 w1 w2 : Vec Ideal S512x512 .f32) (blk : Fin 1536 → Fin 512 → EReal)
    (h0 : off0 = ![0, 512 * f]) (h1 : off1 = ![512, 512 * f]) (h2 : off2 = ![1024, 512 * f])
    (e0 : ∀ p q r, r.val = 0 + p.val → w0 (ix2 p q) = blk r q) (e1 : ∀ p q r, r.val = 512 + p.val → w1 (ix2 p q) = blk r q)
    (e2 : ∀ p q r, r.val = 1024 + p.val → w2 (ix2 p q) = blk r q) (y : S1536x4096.Idx) :
    v.view.read (Elt Ideal) (v.view.writes (Elt Ideal) (hv.unread H)
      [⟨Rect.unit off2 ![512, 512] i2, w2⟩, ⟨Rect.unit off1 ![512, 512] i1, w1⟩, ⟨Rect.unit off0 ![512, 512] i0, w0⟩]) y = updH H f blk y := by
  have hr : (y 0).val < 1536 := (y 0).isLt
  unfold updH
  by_cases hf : (y 1).val / 512 = f
  · rw [if_pos hf]
    have hm : (y 1).val = 512 * f + (y 1).val % 512 := by omega
    have hq : (y 1).val % 512 < 512 := Nat.mod_lt _ (by decide)
    have coords : ∀ (o : ℕ) (k : ℕ) (hk : k < 512), (y 0).val = o + k →
        ∀ a : Fin 2, (y a).val = (![o, 512 * f] : Fin 2 → ℕ) a + ((ix2 (⟨k, hk⟩ : Fin 512) (⟨(y 1).val % 512, hq⟩ : Fin 512)) a).val := fun o k hk ho a =>
      match a with
      | 0 => ho
      | 1 => hm
    by_cases c2 : 1024 ≤ (y 0).val
    · refine (View.read_writes_cons_unit_of_mem _ _ i2 w2 _ y (ix2 (⟨(y 0).val - 1024, by omega⟩ : Fin 512) (⟨(y 1).val % 512, hq⟩ : Fin 512)) h2 (coords 1024 _ _ (by omega))).trans ?_
      exact e2 _ _ _ (by show (y 0).val = 1024 + ((y 0).val - 1024); omega)
    · refine (View.read_writes_cons_unit_of_not_mem _ _ i2 w2 _ y h2 (0 : Fin 2) (Or.inl (by show (y 0).val < 1024; omega))).trans ?_
      by_cases c1 : 512 ≤ (y 0).val
      · refine (View.read_writes_cons_unit_of_mem _ _ i1 w1 _ y (ix2 (⟨(y 0).val - 512, by omega⟩ : Fin 512) (⟨(y 1).val % 512, hq⟩ : Fin 512)) h1 (coords 512 _ _ (by omega))).trans ?_
        exact e1 _ _ _ (by show (y 0).val = 512 + ((y 0).val - 512); omega)
      · refine (View.read_writes_cons_unit_of_not_mem _ _ i1 w1 _ y h1 (0 : Fin 2) (Or.inl (by show (y 0).val < 512; omega))).trans ?_
        refine (View.read_writes_cons_unit_of_mem _ _ i0 w0 _ y (ix2 (⟨(y 0).val, by omega⟩ : Fin 512) (⟨(y 1).val % 512, hq⟩ : Fin 512)) h0 (coords 0 _ _ (by omega))).trans ?_
        exact e0 _ _ _ (by show (y 0).val = 0 + (y 0).val; omega)
  · rw [if_neg hf]
    have miss : (y 1).val < 512 * f ∨ 512 * f + 512 ≤ (y 1).val := by omega
    refine (View.read_writes_cons_unit_of_not_mem _ _ i2 w2 _ y h2 (1 : Fin 2) miss).trans ?_
    refine (View.read_writes_cons_unit_of_not_mem _ _ i1 w1 _ y h1 (1 : Fin 2) miss).trans ?_
    refine (View.read_writes_cons_unit_of_not_mem _ _ i0 w0 _ y h0 (1 : Fin 2) miss).trans ?_
    exact congrFun (hv.read_unread H) y

/-- Three tiles of 512 rows, newer than anything else stored, decide what a buffer of lanes holds. -/
theorem read_lanes (v : Memref sig .tc .vmem S1536x128 .f32) (g : v.view.ty.Contents (Elt Ideal)) (L : List (View.Piece (Elt Ideal) S1536x128 .f32)) (i0) (i1) (i2)
    (w0 w1 w2 : Vec Ideal S512x128 .f32) (A : Vec Ideal S1536x128 .f32)
    (e0 : ∀ (x : S512x128.Idx) (y : S1536x128.Idx), (y 0).val = 0 + (x 0).val → (y 1).val = (x 1).val → w0 x = A y)
    (e1 : ∀ (x : S512x128.Idx) (y : S1536x128.Idx), (y 0).val = 512 + (x 0).val → (y 1).val = (x 1).val → w1 x = A y)
    (e2 : ∀ (x : S512x128.Idx) (y : S1536x128.Idx), (y 0).val = 1024 + (x 0).val → (y 1).val = (x 1).val → w2 x = A y) (y : S1536x128.Idx) :
    v.view.read (Elt Ideal) (v.view.writes (Elt Ideal) g
      (⟨Rect.unit ![1024, 0] ![512, 128] i2, w2⟩ :: ⟨Rect.unit ![512, 0] ![512, 128] i1, w1⟩ :: ⟨Rect.unit ![0, 0] ![512, 128] i0, w0⟩ :: L)) y = A y := by
  have hr : (y 0).val < 1536 := (y 0).isLt
  have coords : ∀ (o : ℕ) (k : ℕ) (hk : k < 512), (y 0).val = o + k →
      ∀ a : Fin 2, (y a).val = (![o, 0] : Fin 2 → ℕ) a + ((ix2 (⟨k, hk⟩ : Fin 512) (y 1)) a).val := fun o k hk ho a =>
    match a with
    | 0 => ho
    | 1 => (Nat.zero_add _).symm
  by_cases c2 : 1024 ≤ (y 0).val
  · refine (View.read_writes_cons_unit_of_mem _ _ i2 w2 _ y (ix2 (⟨(y 0).val - 1024, by omega⟩ : Fin 512) (y 1)) rfl (coords 1024 _ _ (by omega))).trans ?_
    exact e2 _ _ (by show (y 0).val = 1024 + ((y 0).val - 1024); omega) rfl
  · refine (View.read_writes_cons_unit_of_not_mem _ _ i2 w2 _ y rfl (0 : Fin 2) (Or.inl (by show (y 0).val < 1024; omega))).trans ?_
    by_cases c1 : 512 ≤ (y 0).val
    · refine (View.read_writes_cons_unit_of_mem _ _ i1 w1 _ y (ix2 (⟨(y 0).val - 512, by omega⟩ : Fin 512) (y 1)) rfl (coords 512 _ _ (by omega))).trans ?_
      exact e1 _ _ (by show (y 0).val = 512 + ((y 0).val - 512); omega) rfl
    · refine (View.read_writes_cons_unit_of_not_mem _ _ i1 w1 _ y rfl (0 : Fin 2) (Or.inl (by show (y 0).val < 512; omega))).trans ?_
      refine (View.read_writes_cons_unit_of_mem _ _ i0 w0 _ y (ix2 (⟨(y 0).val, by omega⟩ : Fin 512) (y 1)) rfl (coords 0 _ _ (by omega))).trans ?_
      exact e0 _ _ (by show (y 0).val = 0 + (y 0).val; omega) rfl

/-- A tile of the running maxima over a hidden tile, from the maxima so far. -/
theorem step_tile (X : Vec Ideal S1536x3072 .fp8e4m3) (S : Vec Ideal S1536x128 .f32) (WG WU : Vec Ideal S1x512x3072 .fp8e4m3) (SG SU : Vec Ideal S1x1x512 .f32)
    (A : Vec Ideal S1536x128 .f32) (a : ℕ) (inb) (inb') (inb'') (x : S512x128.Idx) (y : S1536x128.Idx) (h0 : (y 0).val = a + (x 0).val) (h1 : (y 1).val = (x 1).val) :
    k0_pay12 (F := Ideal) (k0_pay107 (F := Ideal) (View.ld (Val := Elt Ideal) (e' := .fp8e4m3) X (Rect.unit (s := S1536x3072) ![a, 0] ![512, 3072] inb))
      (View.ld (Val := Elt Ideal) (e' := .f32) S (Rect.unit (s := S1536x128) ![a, 0] ![512, 1] inb')) WG WU SG SU)
      (View.ld (Val := Elt Ideal) (e' := .f32) A (Rect.unit (s := S1536x128) ![a, 0] ![512, 128] inb'')) x = stepA A (hid X S WG WU SG SU) y :=
  max_tile _ _ A _ x y h1 (fun q => hid_tile X S WG WU SG SU a inb inb' (x 0) q (y 0) h0) (by
    rw [show y = ix2 (y 0) (y 1) from eq_ix2 y]
    exact ld2 A _ _ _ _ _ _ h0 (h1.trans (Nat.zero_add _).symm))

/-! The body writes the same hidden tile, and the same tile of maxima, once for each of its unrolled steps: every
writing of it is the first one. -/

theorem pay11_eq (h : Vec Ideal S512x512 .f32) : k0_pay11 (F := Ideal) h = h := by
  funext y
  obtain ⟨p, q, rfl⟩ : ∃ p q, y = ix2 p q := ⟨_, _, eq_ix2 y⟩
  pointwise [k0_pay11]

section
variable (X : Vec Ideal S512x3072 .fp8e4m3) (S : Vec Ideal S512x1 .f32) (WG WU : Vec Ideal S1x512x3072 .fp8e4m3) (SG SU : Vec Ideal S1x1x512 .f32)

theorem pay108_eq : k0_pay108 (F := Ideal) X S WG WU SG SU = k0_pay107 X S WG WU SG SU := pay11_eq _
theorem pay112_eq : k0_pay112 (F := Ideal) X S WG WU SG SU = k0_pay107 X S WG WU SG SU := pay11_eq _
theorem pay117_eq : k0_pay117 (F := Ideal) X S WG WU SG SU = k0_pay107 X S WG WU SG SU := pay11_eq _
theorem pay135_eq : k0_pay135 (F := Ideal) X S WG WU SG SU = k0_pay107 X S WG WU SG SU := pay11_eq _
theorem pay141_eq : k0_pay141 (F := Ideal) X S WG WU SG SU = k0_pay107 X S WG WU SG SU := rfl
theorem pay127_eq : k0_pay127 (F := Ideal) (k0_pay123 X S WG SG) (k0_pay124 X S WU) (k0_pay125 SU) = k0_pay107 X S WG WU SG SU := pay11_eq _

variable (A : Vec Ideal S512x128 .f32)

theorem pay110_eq : k0_pay110 (F := Ideal) (k0_pay109 X S WG WU SG SU A) = k0_pay12 (k0_pay107 X S WG WU SG SU) A := rfl
theorem pay115_eq : k0_pay115 (F := Ideal) (k0_pay113 X S WG WU SG SU) (k0_pay114 X S WG WU SG SU A) = k0_pay12 (k0_pay107 X S WG WU SG SU) A := rfl
theorem pay10_eq : k0_pay10 (F := Ideal) (k0_pay118 X S WG WU SG SU) A = k0_pay12 (k0_pay107 X S WG WU SG SU) A := rfl
theorem pay128_eq : k0_pay128 (F := Ideal) (k0_pay123 X S WG SG) (k0_pay124 X S WU) (k0_pay125 SU) A = k0_pay12 (k0_pay107 X S WG WU SG SU) A := rfl
theorem pay136_eq : k0_pay136 (F := Ideal) X S WG WU SG SU A = k0_pay12 (k0_pay107 X S WG WU SG SU) A := rfl

end

end Cert.GateUpIdeal.Value
end
-- ==== Proof.GateUpIdealRunA.lean ====
module

public import proofs.«01_k».proof.Proof.GateUpIdealSetup

@[expose] public section

set_option maxRecDepth 16384

noncomputable section

namespace Cert.GateUpIdeal.Run

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S192x6x8x128 .i32) (harg2 : arg2.IsWhole) (arg3 : Memref sig .tc .vmem S1536x128 .f32) (harg3 : arg3.IsWhole) (arg4 : Memref sig .tc .vmem S1x512x3072 .fp8e4m3) (harg4 : arg4.IsWhole) (arg5 : Memref sig .tc .vmem S1x512x3072 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1536x512 .fp8e4m3) (harg8 : arg8.IsWhole) (arg9 : Memref sig .tc .vmem S1536x128 .f32) (harg9 : arg9.IsWhole) (arg10 : Memref sig .tc .vmem S1536x3072 .fp8e4m3) (harg10 : arg10.IsWhole) (arg11 : Memref sig .tc .vmem S1536x128 .f32) (harg11 : arg11.IsWhole) (arg12 : Memref sig .tc .vmem S1536x4096 .f32) (harg12 : arg12.IsWhole) (arg13 : Memref sig .tc .vmem S1536x128 .f32) (harg13 : arg13.IsWhole) (arg14 : Memref sig .tc .vmem S1536x128 .f32) (harg14 : arg14.IsWhole)

set_option backward.proofsInPublic true in
set_option maxHeartbeats 1000000 in
/-- The body's run in case A, expert 0 at its first column block (`e = 0`, `f = 0`): unpack the activations, matmul.
    Every buffer is held at known contents; the run ends with the inputs as they were and each buffer the case stores into with
    a list of pieces written over some contents (last first); the others are left as they were. -/
noncomputable def runA (hc0 : ¬cond0_0 i) (hc1 : cond0_1 i) (hc2 : cond0_2 i) (hc3 : ¬cond0_3 i) (hc4 : ¬cond0_4 i)
    (x0 : Vec F S192x6x8x128 .i32) (x1 : Vec F S1536x128 .f32) (x2 : Vec F S1x512x3072 .fp8e4m3) (x3 : Vec F S1x512x3072 .fp8e4m3) (x4 : Vec F S1x1x512 .f32) (x5 : Vec F S1x1x512 .f32) (o6 : Vec F S1536x512 .fp8e4m3) (o7 : Vec F S1536x128 .f32) (s0 : Vec F S1536x3072 .fp8e4m3) (s1 : Vec F S1536x128 .f32) (s2 : Vec F S1536x4096 .f32) (s3 : Vec F S1536x128 .f32) (s4 : Vec F S1536x128 .f32) :
    Σ' (L0 : List (View.Piece (Elt F) S1536x3072 .fp8e4m3)),
      Σ' (L1 : List (View.Piece (Elt F) S1536x128 .f32)),
      Σ' (L2 : List (View.Piece (Elt F) S1536x4096 .f32)),
      { L3 : List (View.Piece (Elt F) S1536x128 .f32) //
      ∀ (E : Set ℕ) (K : PUnit → sProp 𝕄),
        iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread o6) ∗ (arg9.view.loc (c : Thread nD τ) ↦[arg9.view.set]{fullShare} harg9.unread o7) ∗ (arg10.view.loc (c : Thread nD τ) ↦[arg10.view.set]{fullShare} harg10.unread s0) ∗ (arg11.view.loc (c : Thread nD τ) ↦[arg11.view.set]{fullShare} harg11.unread s1) ∗ (arg12.view.loc (c : Thread nD τ) ↦[arg12.view.set]{fullShare} harg12.unread s2) ∗ (arg13.view.loc (c : Thread nD τ) ↦[arg13.view.set]{fullShare} harg13.unread s3) ∗ (arg14.view.loc (c : Thread nD τ) ↦[arg14.view.set]{fullShare} harg14.unread s4)
            ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread o6) ∗ (arg9.view.loc (c : Thread nD τ) ↦[arg9.view.set]{fullShare} harg9.unread o7) ∗ (∃ f, (arg10.view.loc (c : Thread nD τ) ↦[arg10.view.set]{fullShare} arg10.view.writes (Elt F) f L0)) ∗ (∃ f, (arg11.view.loc (c : Thread nD τ) ↦[arg11.view.set]{fullShare} arg11.view.writes (Elt F) f L1)) ∗ (arg12.view.loc (c : Thread nD τ) ↦[arg12.view.set]{fullShare} arg12.view.writes (Elt F) (harg12.unread s2) L2) ∗ (∃ f, (arg13.view.loc (c : Thread nD τ) ↦[arg13.view.set]{fullShare} arg13.view.writes (Elt F) f L3)) ∗ (arg14.view.loc (c : Thread nD τ) ↦[arg14.view.set]{fullShare} harg14.unread s4)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [View.writes_nil, cc0_gate_up_eq_skeleton]; unfold cc0_gate_up_skel
    simp only [k0_part16_eq_skeleton, k0_part17_eq_skeleton, k0_part18_eq_skeleton]
    iintro ⟨H2, H3, H4, H5, H6, H7, H8, H9, H10, H11, H12, H13, H14, Hk⟩
    sl_exec (disch := first | sl_exact hc0 | sl_exact hc1 | sl_exact hc2 | sl_exact hc3 | sl_exact hc4)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexact H12
    isplitl [H13]; · iexists _; iexact H13
    iexact H14

end Cert.GateUpIdeal.Run

end
-- ==== Proof.GateUpCasesA.lean ====
module

public import proofs.«01_k».proof.Proof.GateUpUnpack
public import proofs.«01_k».proof.Proof.GateUpTiles
public import proofs.«01_k».proof.Proof.GateUpIdealRunA
@[expose] public section
set_option maxRecDepth 16384
noncomputable section
open Idealize.ShloMosaic Idealize.ShloMosaic.TcCoe Idealize.SL.Sem
namespace Cert.GateUpIdeal.Value
open Cert.GateUpIdeal Cert.GateUpIdeal.Gen Cert.GateUpIdeal.Run
variable (c : Dev nD) (i : grid0.Coords) (arg2 : Memref sig .tc .vmem S192x6x8x128 .i32) (harg2 : arg2.IsWhole) (arg3 : Memref sig .tc .vmem S1536x128 .f32) (harg3 : arg3.IsWhole) (arg4 : Memref sig .tc .vmem S1x512x3072 .fp8e4m3) (harg4 : arg4.IsWhole) (arg5 : Memref sig .tc .vmem S1x512x3072 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1536x512 .fp8e4m3) (harg8 : arg8.IsWhole) (arg9 : Memref sig .tc .vmem S1536x128 .f32) (harg9 : arg9.IsWhole) (arg10 : Memref sig .tc .vmem S1536x3072 .fp8e4m3) (harg10 : arg10.IsWhole) (arg11 : Memref sig .tc .vmem S1536x128 .f32) (harg11 : arg11.IsWhole) (arg12 : Memref sig .tc .vmem S1536x4096 .f32) (harg12 : arg12.IsWhole) (arg13 : Memref sig .tc .vmem S1536x128 .f32) (harg13 : arg13.IsWhole) (arg14 : Memref sig .tc .vmem S1536x128 .f32) (harg14 : arg14.IsWhole)
/-- Case A: what the run stores leaves in argument 10, the unpacked codes. -/
theorem A_10 (hc0 : ¬cond0_0 i) (hc1 : cond0_1 i) (hc2 : cond0_2 i) (hc3 : ¬cond0_3 i) (hc4 : ¬cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg10.view.ty) :
   arg10.view.read (Elt Ideal) (arg10.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).1) = codes x0 := by
  funext y
  unfold runA
  frame_open
  exact congrFun (unpacked Variants.none c none i arg2 harg2 arg3 harg3 arg4 harg4 arg5 harg5 arg6 harg6 arg7 harg7 arg8 harg8 arg9 harg9 arg10 harg10 arg11 harg11 arg12 harg12 arg13 harg13 arg14 harg14 hc1 x0 f) y

/-- Case A: what the run stores leaves in argument 11, the activation scales. -/
theorem A_11 (hc0 : ¬cond0_0 i) (hc1 : cond0_1 i) (hc2 : cond0_2 i) (hc3 : ¬cond0_3 i) (hc4 : ¬cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg11.view.ty) :
   arg11.view.read (Elt Ideal) (arg11.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.1) = xsB x1 := by
  funext y
  unfold runA
  frame_open
  rw [View.read_writes_apply_eq_canon _ _ _ _ (View.cover_of_tiled_head _ _ _ (by rfl) y)]
  frame_out
  rw [xs_eq]

/-- Case A: what the run stores leaves in argument 12, the hidden buffer. -/
theorem A_12 (hc0 : ¬cond0_0 i) (hc1 : cond0_1 i) (hc2 : cond0_2 i) (hc3 : ¬cond0_3 i) (hc4 : ¬cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg12.view.ty) :
   arg12.view.read (Elt Ideal) (arg12.view.writes (Elt Ideal) (harg12.unread s2) (runA (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.2.1) = updH s2 (i 1).val (hid (codes x0) (xsB x1) x2 x3 x4 x5) := by
  funext y
  have hx : arg10.view.read (Elt Ideal) (arg10.view.writes (Elt Ideal) (harg10.unread s0)
      (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 hc1 (harg2.unread x0) (Scf.trips (0#32) (Scalar.addi 0#32 48#32) 1#32))) = codes x0 :=
    unpacked Variants.none c none i arg2 harg2 arg3 harg3 arg4 harg4 arg5 harg5 arg6 harg6 arg7 harg7 arg8 harg8 arg9 harg9 arg10 harg10 arg11 harg11 arg12 harg12 arg13 harg13 arg14 harg14 hc1 x0 _
  unfold runA
  frame_open
  frame_out
  simp (disch := exact (by decide : ∀ a : Fin 2, (![0, 0] : Fin 2 → ℕ) a = 0)) only [View.readCov_fill]
  simp only [hx, xs_eq]
  simp only [pay11_eq, pay108_eq, pay112_eq, pay117_eq, pay127_eq, pay135_eq, pay141_eq]
  exact read_h arg12 harg12 s2 (i 1).val _ _ _ _ _ _ _ _ _ _ (off31 i) (off32 i) (off33 i)
    (hid_tile (codes x0) (xsB x1) x2 x3 x4 x5 0 _ _) (hid_tile (codes x0) (xsB x1) x2 x3 x4 x5 512 _ _) (hid_tile (codes x0) (xsB x1) x2 x3 x4 x5 1024 _ _) y

/-- Case A: what the run stores leaves in argument 13, the running lane maxima. -/
theorem A_13 (hc0 : ¬cond0_0 i) (hc1 : cond0_1 i) (hc2 : cond0_2 i) (hc3 : ¬cond0_3 i) (hc4 : ¬cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg13.view.ty) :
   arg13.view.read (Elt Ideal) (arg13.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.2.2.1) = stepA zeroB (hid (codes x0) (xsB x1) x2 x3 x4 x5) := by
  funext y
  have hx : arg10.view.read (Elt Ideal) (arg10.view.writes (Elt Ideal) (harg10.unread s0)
      (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 hc1 (harg2.unread x0) (Scf.trips (0#32) (Scalar.addi 0#32 48#32) 1#32))) = codes x0 :=
    unpacked Variants.none c none i arg2 harg2 arg3 harg3 arg4 harg4 arg5 harg5 arg6 harg6 arg7 harg7 arg8 harg8 arg9 harg9 arg10 harg10 arg11 harg11 arg12 harg12 arg13 harg13 arg14 harg14 hc1 x0 _
  unfold runA
  frame_open
  frame_out
  simp (disch := decide) only [↓View.readCov_skip]
  simp (disch := exact (by decide : ∀ a : Fin 2, (![0, 0] : Fin 2 → ℕ) a = 0)) only [View.readCov_fill]
  simp only [hx, xs_eq, zero_eq]
  simp only [pay10_eq, pay110_eq, pay115_eq, pay128_eq, pay136_eq, pay141_eq]
  exact read_lanes arg13 f _ _ _ _ _ _ _ _ (step_tile (codes x0) (xsB x1) x2 x3 x4 x5 zeroB 0 _ _ _) (step_tile (codes x0) (xsB x1) x2 x3 x4 x5 zeroB 512 _ _ _) (step_tile (codes x0) (xsB x1) x2 x3 x4 x5 zeroB 1024 _ _ _) y

end Cert.GateUpIdeal.Value
end
-- ==== Proof.GateUpIdealRunB.lean ====
module

public import proofs.«01_k».proof.Proof.GateUpIdealRunA

@[expose] public section

set_option maxRecDepth 16384

noncomputable section

namespace Cert.GateUpIdeal.Run

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S192x6x8x128 .i32) (harg2 : arg2.IsWhole) (arg3 : Memref sig .tc .vmem S1536x128 .f32) (harg3 : arg3.IsWhole) (arg4 : Memref sig .tc .vmem S1x512x3072 .fp8e4m3) (harg4 : arg4.IsWhole) (arg5 : Memref sig .tc .vmem S1x512x3072 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1536x512 .fp8e4m3) (harg8 : arg8.IsWhole) (arg9 : Memref sig .tc .vmem S1536x128 .f32) (harg9 : arg9.IsWhole) (arg10 : Memref sig .tc .vmem S1536x3072 .fp8e4m3) (harg10 : arg10.IsWhole) (arg11 : Memref sig .tc .vmem S1536x128 .f32) (harg11 : arg11.IsWhole) (arg12 : Memref sig .tc .vmem S1536x4096 .f32) (harg12 : arg12.IsWhole) (arg13 : Memref sig .tc .vmem S1536x128 .f32) (harg13 : arg13.IsWhole) (arg14 : Memref sig .tc .vmem S1536x128 .f32) (harg14 : arg14.IsWhole)

set_option backward.proofsInPublic true in
set_option maxHeartbeats 1000000 in
/-- The body's run in case B, expert 0 at a later column block (`e = 0`, `f > 0`): matmul.
    Every buffer is held at known contents; the run ends with the inputs as they were and each buffer the case stores into with
    a list of pieces written over some contents (last first); the others are left as they were. -/
noncomputable def runB (hc0 : ¬cond0_0 i) (hc1 : ¬cond0_1 i) (hc2 : cond0_2 i) (hc3 : ¬cond0_3 i) (hc4 : ¬cond0_4 i)
    (x0 : Vec F S192x6x8x128 .i32) (x1 : Vec F S1536x128 .f32) (x2 : Vec F S1x512x3072 .fp8e4m3) (x3 : Vec F S1x512x3072 .fp8e4m3) (x4 : Vec F S1x1x512 .f32) (x5 : Vec F S1x1x512 .f32) (o6 : Vec F S1536x512 .fp8e4m3) (o7 : Vec F S1536x128 .f32) (s0 : Vec F S1536x3072 .fp8e4m3) (s1 : Vec F S1536x128 .f32) (s2 : Vec F S1536x4096 .f32) (s3 : Vec F S1536x128 .f32) (s4 : Vec F S1536x128 .f32) :
    Σ' (L2 : List (View.Piece (Elt F) S1536x4096 .f32)),
      { L3 : List (View.Piece (Elt F) S1536x128 .f32) //
      ∀ (E : Set ℕ) (K : PUnit → sProp 𝕄),
        iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread o6) ∗ (arg9.view.loc (c : Thread nD τ) ↦[arg9.view.set]{fullShare} harg9.unread o7) ∗ (arg10.view.loc (c : Thread nD τ) ↦[arg10.view.set]{fullShare} harg10.unread s0) ∗ (arg11.view.loc (c : Thread nD τ) ↦[arg11.view.set]{fullShare} harg11.unread s1) ∗ (arg12.view.loc (c : Thread nD τ) ↦[arg12.view.set]{fullShare} harg12.unread s2) ∗ (arg13.view.loc (c : Thread nD τ) ↦[arg13.view.set]{fullShare} harg13.unread s3) ∗ (arg14.view.loc (c : Thread nD τ) ↦[arg14.view.set]{fullShare} harg14.unread s4)
            ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread o6) ∗ (arg9.view.loc (c : Thread nD τ) ↦[arg9.view.set]{fullShare} harg9.unread o7) ∗ (arg10.view.loc (c : Thread nD τ) ↦[arg10.view.set]{fullShare} harg10.unread s0) ∗ (arg11.view.loc (c : Thread nD τ) ↦[arg11.view.set]{fullShare} harg11.unread s1) ∗ (arg12.view.loc (c : Thread nD τ) ↦[arg12.view.set]{fullShare} arg12.view.writes (Elt F) (harg12.unread s2) L2) ∗ (∃ f, (arg13.view.loc (c : Thread nD τ) ↦[arg13.view.set]{fullShare} arg13.view.writes (Elt F) f L3)) ∗ (arg14.view.loc (c : Thread nD τ) ↦[arg14.view.set]{fullShare} harg14.unread s4)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [View.writes_nil, cc0_gate_up_eq_skeleton]; unfold cc0_gate_up_skel
    simp only [k0_part16_eq_skeleton, k0_part17_eq_skeleton, k0_part18_eq_skeleton]
    iintro ⟨H2, H3, H4, H5, H6, H7, H8, H9, H10, H11, H12, H13, H14, Hk⟩
    sl_exec (disch := first | sl_exact hc0 | sl_exact hc1 | sl_exact hc2 | sl_exact hc3 | sl_exact hc4)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    iexact H14

end Cert.GateUpIdeal.Run

end
-- ==== Proof.GateUpCasesB.lean ====
module

public import proofs.«01_k».proof.Proof.GateUpUnpack
public import proofs.«01_k».proof.Proof.GateUpTiles
public import proofs.«01_k».proof.Proof.GateUpIdealRunB
@[expose] public section
set_option maxRecDepth 16384
noncomputable section
open Idealize.ShloMosaic Idealize.ShloMosaic.TcCoe Idealize.SL.Sem
namespace Cert.GateUpIdeal.Value
open Cert.GateUpIdeal Cert.GateUpIdeal.Gen Cert.GateUpIdeal.Run
variable (c : Dev nD) (i : grid0.Coords) (arg2 : Memref sig .tc .vmem S192x6x8x128 .i32) (harg2 : arg2.IsWhole) (arg3 : Memref sig .tc .vmem S1536x128 .f32) (harg3 : arg3.IsWhole) (arg4 : Memref sig .tc .vmem S1x512x3072 .fp8e4m3) (harg4 : arg4.IsWhole) (arg5 : Memref sig .tc .vmem S1x512x3072 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1536x512 .fp8e4m3) (harg8 : arg8.IsWhole) (arg9 : Memref sig .tc .vmem S1536x128 .f32) (harg9 : arg9.IsWhole) (arg10 : Memref sig .tc .vmem S1536x3072 .fp8e4m3) (harg10 : arg10.IsWhole) (arg11 : Memref sig .tc .vmem S1536x128 .f32) (harg11 : arg11.IsWhole) (arg12 : Memref sig .tc .vmem S1536x4096 .f32) (harg12 : arg12.IsWhole) (arg13 : Memref sig .tc .vmem S1536x128 .f32) (harg13 : arg13.IsWhole) (arg14 : Memref sig .tc .vmem S1536x128 .f32) (harg14 : arg14.IsWhole)
/-- Case B: what the run stores leaves in argument 12, the hidden buffer. -/
theorem B_12 (hc0 : ¬cond0_0 i) (hc1 : ¬cond0_1 i) (hc2 : cond0_2 i) (hc3 : ¬cond0_3 i) (hc4 : ¬cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg12.view.ty) :
   arg12.view.read (Elt Ideal) (arg12.view.writes (Elt Ideal) (harg12.unread s2) (runB (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).1) = updH s2 (i 1).val (hid s0 s1 x2 x3 x4 x5) := by
  funext y
  unfold runB
  frame_open
  frame_out
  simp only [pay11_eq, pay108_eq, pay112_eq, pay117_eq, pay127_eq, pay135_eq, pay141_eq]
  exact read_h arg12 harg12 s2 (i 1).val _ _ _ _ _ _ _ _ _ _ (off31 i) (off32 i) (off33 i)
    (hid_tile s0 s1 x2 x3 x4 x5 0 _ _) (hid_tile s0 s1 x2 x3 x4 x5 512 _ _) (hid_tile s0 s1 x2 x3 x4 x5 1024 _ _) y

/-- Case B: what the run stores leaves in argument 13, the running lane maxima. -/
theorem B_13 (hc0 : ¬cond0_0 i) (hc1 : ¬cond0_1 i) (hc2 : cond0_2 i) (hc3 : ¬cond0_3 i) (hc4 : ¬cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg13.view.ty) :
   arg13.view.read (Elt Ideal) (arg13.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.1) = stepA s3 (hid s0 s1 x2 x3 x4 x5) := by
  funext y
  unfold runB
  frame_open
  frame_out
  simp only [pay10_eq, pay110_eq, pay115_eq, pay128_eq, pay136_eq, pay141_eq]
  exact read_lanes arg13 f _ _ _ _ _ _ _ _ (step_tile s0 s1 x2 x3 x4 x5 s3 0 _ _ _) (step_tile s0 s1 x2 x3 x4 x5 s3 512 _ _ _) (step_tile s0 s1 x2 x3 x4 x5 s3 1024 _ _ _) y

end Cert.GateUpIdeal.Value
end
-- ==== Proof.GateUpIdealRunC.lean ====
module

public import proofs.«01_k».proof.Proof.GateUpIdealRunB

@[expose] public section

set_option maxRecDepth 16384

noncomputable section

namespace Cert.GateUpIdeal.Run

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S192x6x8x128 .i32) (harg2 : arg2.IsWhole) (arg3 : Memref sig .tc .vmem S1536x128 .f32) (harg3 : arg3.IsWhole) (arg4 : Memref sig .tc .vmem S1x512x3072 .fp8e4m3) (harg4 : arg4.IsWhole) (arg5 : Memref sig .tc .vmem S1x512x3072 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1536x512 .fp8e4m3) (harg8 : arg8.IsWhole) (arg9 : Memref sig .tc .vmem S1536x128 .f32) (harg9 : arg9.IsWhole) (arg10 : Memref sig .tc .vmem S1536x3072 .fp8e4m3) (harg10 : arg10.IsWhole) (arg11 : Memref sig .tc .vmem S1536x128 .f32) (harg11 : arg11.IsWhole) (arg12 : Memref sig .tc .vmem S1536x4096 .f32) (harg12 : arg12.IsWhole) (arg13 : Memref sig .tc .vmem S1536x128 .f32) (harg13 : arg13.IsWhole) (arg14 : Memref sig .tc .vmem S1536x128 .f32) (harg14 : arg14.IsWhole)

set_option backward.proofsInPublic true in
set_option maxHeartbeats 1000000 in
/-- The body's run in case C, a middle expert at its first column block (`0 < e < 16`, `f = 0`): the scale of the previous expert, unpack, quantise, matmul.
    Every buffer is held at known contents; the run ends with the inputs as they were and each buffer the case stores into with
    a list of pieces written over some contents (last first); the others are left as they were. -/
noncomputable def runC (hc0 : cond0_0 i) (hc1 : cond0_1 i) (hc2 : ¬cond0_2 i) (hc3 : cond0_3 i) (hc4 : ¬cond0_4 i)
    (x0 : Vec F S192x6x8x128 .i32) (x1 : Vec F S1536x128 .f32) (x2 : Vec F S1x512x3072 .fp8e4m3) (x3 : Vec F S1x512x3072 .fp8e4m3) (x4 : Vec F S1x1x512 .f32) (x5 : Vec F S1x1x512 .f32) (o6 : Vec F S1536x512 .fp8e4m3) (o7 : Vec F S1536x128 .f32) (s0 : Vec F S1536x3072 .fp8e4m3) (s1 : Vec F S1536x128 .f32) (s2 : Vec F S1536x4096 .f32) (s3 : Vec F S1536x128 .f32) (s4 : Vec F S1536x128 .f32) :
    Σ' (L6 : List (View.Piece (Elt F) S1536x512 .fp8e4m3)),
      Σ' (L7 : List (View.Piece (Elt F) S1536x128 .f32)),
      Σ' (L0 : List (View.Piece (Elt F) S1536x3072 .fp8e4m3)),
      Σ' (L1 : List (View.Piece (Elt F) S1536x128 .f32)),
      Σ' (L2 : List (View.Piece (Elt F) S1536x4096 .f32)),
      Σ' (L3 : List (View.Piece (Elt F) S1536x128 .f32)),
      { L4 : List (View.Piece (Elt F) S1536x128 .f32) //
      ∀ (E : Set ℕ) (K : PUnit → sProp 𝕄),
        iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread o6) ∗ (arg9.view.loc (c : Thread nD τ) ↦[arg9.view.set]{fullShare} harg9.unread o7) ∗ (arg10.view.loc (c : Thread nD τ) ↦[arg10.view.set]{fullShare} harg10.unread s0) ∗ (arg11.view.loc (c : Thread nD τ) ↦[arg11.view.set]{fullShare} harg11.unread s1) ∗ (arg12.view.loc (c : Thread nD τ) ↦[arg12.view.set]{fullShare} harg12.unread s2) ∗ (arg13.view.loc (c : Thread nD τ) ↦[arg13.view.set]{fullShare} harg13.unread s3) ∗ (arg14.view.loc (c : Thread nD τ) ↦[arg14.view.set]{fullShare} harg14.unread s4)
            ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (∃ f, (arg8.view.loc (c : Thread nD τ) ↦[arg8.view.set]{fullShare} arg8.view.writes (Elt F) f L6)) ∗ (∃ f, (arg9.view.loc (c : Thread nD τ) ↦[arg9.view.set]{fullShare} arg9.view.writes (Elt F) f L7)) ∗ (∃ f, (arg10.view.loc (c : Thread nD τ) ↦[arg10.view.set]{fullShare} arg10.view.writes (Elt F) f L0)) ∗ (∃ f, (arg11.view.loc (c : Thread nD τ) ↦[arg11.view.set]{fullShare} arg11.view.writes (Elt F) f L1)) ∗ (arg12.view.loc (c : Thread nD τ) ↦[arg12.view.set]{fullShare} arg12.view.writes (Elt F) (harg12.unread s2) L2) ∗ (∃ f, (arg13.view.loc (c : Thread nD τ) ↦[arg13.view.set]{fullShare} arg13.view.writes (Elt F) f L3)) ∗ (∃ f, (arg14.view.loc (c : Thread nD τ) ↦[arg14.view.set]{fullShare} arg14.view.writes (Elt F) f L4))) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, fun E K => ?run⟩
  case run =>
    simp only [View.writes_nil, cc0_gate_up_eq_skeleton]; unfold cc0_gate_up_skel
    simp only [k0_part1_eq_skeleton, k0_part2_eq_skeleton, k0_part19_eq_skeleton, k0_part20_eq_skeleton, k0_part21_eq_skeleton, k0_part22_eq_skeleton, k0_part23_eq_skeleton, k0_part24_eq_skeleton, k0_part25_eq_skeleton]
    iintro ⟨H2, H3, H4, H5, H6, H7, H8, H9, H10, H11, H12, H13, H14, Hk⟩
    sl_exec (disch := first | sl_exact hc0 | sl_exact hc1 | sl_exact hc2 | sl_exact hc3 | sl_exact hc4)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexact H12
    isplitl [H13]; · iexists _; iexact H13
    iexists _; iexact H14

end Cert.GateUpIdeal.Run

end
-- ==== Proof.GateUpCasesC.lean ====
module

public import proofs.«01_k».proof.Proof.GateUpUnpack
public import proofs.«01_k».proof.Proof.GateUpTiles
public import proofs.«01_k».proof.Proof.GateUpIdealRunC
@[expose] public section
set_option maxRecDepth 16384
noncomputable section
open Idealize.ShloMosaic Idealize.ShloMosaic.TcCoe Idealize.SL.Sem
namespace Cert.GateUpIdeal.Value
open Cert.GateUpIdeal Cert.GateUpIdeal.Gen Cert.GateUpIdeal.Run
variable (c : Dev nD) (i : grid0.Coords) (arg2 : Memref sig .tc .vmem S192x6x8x128 .i32) (harg2 : arg2.IsWhole) (arg3 : Memref sig .tc .vmem S1536x128 .f32) (harg3 : arg3.IsWhole) (arg4 : Memref sig .tc .vmem S1x512x3072 .fp8e4m3) (harg4 : arg4.IsWhole) (arg5 : Memref sig .tc .vmem S1x512x3072 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1536x512 .fp8e4m3) (harg8 : arg8.IsWhole) (arg9 : Memref sig .tc .vmem S1536x128 .f32) (harg9 : arg9.IsWhole) (arg10 : Memref sig .tc .vmem S1536x3072 .fp8e4m3) (harg10 : arg10.IsWhole) (arg11 : Memref sig .tc .vmem S1536x128 .f32) (harg11 : arg11.IsWhole) (arg12 : Memref sig .tc .vmem S1536x4096 .f32) (harg12 : arg12.IsWhole) (arg13 : Memref sig .tc .vmem S1536x128 .f32) (harg13 : arg13.IsWhole) (arg14 : Memref sig .tc .vmem S1536x128 .f32) (harg14 : arg14.IsWhole)
/-- Case C: what the run stores leaves in argument 8, the quantised block. -/
theorem C_8 (hc0 : cond0_0 i) (hc1 : cond0_1 i) (hc2 : ¬cond0_2 i) (hc3 : cond0_3 i) (hc4 : ¬cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg8.view.ty) :
   arg8.view.read (Elt Ideal) (arg8.view.writes (Elt Ideal) f (runC (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).1) = quantB s2 (invB s3) (i 1) := by
  funext y
  unfold runC
  frame_open
  rw [View.read_writes_apply_eq_canon _ _ _ _ (View.cover_of_tiled_head _ _ _ (by rfl) y)]
  frame_out
  simp (disch := exact (by decide : ∀ a : Fin 2, (![0, 0] : Fin 2 → ℕ) a = 0)) only [View.readCov_fill]
  canon_tiles y hy
  · exact quant_tile s2 (invB s3) (i 1) 1024 384 (by decide) _ rfl (off38 i 3) _ _ _ y (by omega) (by omega)
  · exact quant_tile s2 (invB s3) (i 1) 1024 256 (by decide) _ rfl (off38 i 2) _ _ _ y (by omega) (by omega)
  · exact quant_tile s2 (invB s3) (i 1) 1024 128 (by decide) _ rfl (off38 i 1) _ _ _ y (by omega) (by omega)
  · exact quant_tile s2 (invB s3) (i 1) 1024 0 (by decide) _ rfl (off38 i 0) _ _ _ y (by omega) (by omega)
  · exact quant_tile s2 (invB s3) (i 1) 512 384 (by decide) _ rfl (off36 i 3) _ _ _ y (by omega) (by omega)
  · exact quant_tile s2 (invB s3) (i 1) 512 256 (by decide) _ rfl (off36 i 2) _ _ _ y (by omega) (by omega)
  · exact quant_tile s2 (invB s3) (i 1) 512 128 (by decide) _ rfl (off36 i 1) _ _ _ y (by omega) (by omega)
  · exact quant_tile s2 (invB s3) (i 1) 512 0 (by decide) _ rfl (off36 i 0) _ _ _ y (by omega) (by omega)
  · exact quant_tile s2 (invB s3) (i 1) 0 384 (by decide) _ rfl (off34 i 3) _ _ _ y (by omega) (by omega)
  · exact quant_tile s2 (invB s3) (i 1) 0 256 (by decide) _ rfl (off34 i 2) _ _ _ y (by omega) (by omega)
  · exact quant_tile s2 (invB s3) (i 1) 0 128 (by decide) _ rfl (off34 i 1) _ _ _ y (by omega) (by omega)
  · exact quant_tile s2 (invB s3) (i 1) 0 0 (by decide) _ rfl (off34 i 0) _ _ _ y (by omega) (by omega)

/-- Case C: what the run stores leaves in argument 9, the block of scales. -/
theorem C_9 (hc0 : cond0_0 i) (hc1 : cond0_1 i) (hc2 : ¬cond0_2 i) (hc3 : cond0_3 i) (hc4 : ¬cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg9.view.ty) :
   arg9.view.read (Elt Ideal) (arg9.view.writes (Elt Ideal) f (runC (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.1) = scaleB s3 := by
  funext y
  unfold runC
  frame_open
  rw [View.read_writes_apply_eq_canon _ _ _ _ (View.cover_of_tiled_head _ _ _ (by rfl) y)]
  frame_out
  rfl

/-- Case C: what the run stores leaves in argument 10, the unpacked codes. -/
theorem C_10 (hc0 : cond0_0 i) (hc1 : cond0_1 i) (hc2 : ¬cond0_2 i) (hc3 : cond0_3 i) (hc4 : ¬cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg10.view.ty) :
   arg10.view.read (Elt Ideal) (arg10.view.writes (Elt Ideal) f (runC (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.2.1) = codes x0 := by
  funext y
  unfold runC
  frame_open
  exact congrFun (unpacked Variants.none c none i arg2 harg2 arg3 harg3 arg4 harg4 arg5 harg5 arg6 harg6 arg7 harg7 arg8 harg8 arg9 harg9 arg10 harg10 arg11 harg11 arg12 harg12 arg13 harg13 arg14 harg14 hc1 x0 f) y

/-- Case C: what the run stores leaves in argument 11, the activation scales. -/
theorem C_11 (hc0 : cond0_0 i) (hc1 : cond0_1 i) (hc2 : ¬cond0_2 i) (hc3 : cond0_3 i) (hc4 : ¬cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg11.view.ty) :
   arg11.view.read (Elt Ideal) (arg11.view.writes (Elt Ideal) f (runC (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.2.2.1) = xsB x1 := by
  funext y
  unfold runC
  frame_open
  rw [View.read_writes_apply_eq_canon _ _ _ _ (View.cover_of_tiled_head _ _ _ (by rfl) y)]
  frame_out
  rw [xs_eq]

/-- Case C: what the run stores leaves in argument 12, the hidden buffer. -/
theorem C_12 (hc0 : cond0_0 i) (hc1 : cond0_1 i) (hc2 : ¬cond0_2 i) (hc3 : cond0_3 i) (hc4 : ¬cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg12.view.ty) :
   arg12.view.read (Elt Ideal) (arg12.view.writes (Elt Ideal) (harg12.unread s2) (runC (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.2.2.2.1) = updH s2 (i 1).val (hid (codes x0) (xsB x1) x2 x3 x4 x5) := by
  funext y
  have hx : arg10.view.read (Elt Ideal) (arg10.view.writes (Elt Ideal) (harg10.unread s0)
      (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 hc1 (harg2.unread x0) (Scf.trips (0#32) (Scalar.addi 0#32 48#32) 1#32))) = codes x0 :=
    unpacked Variants.none c none i arg2 harg2 arg3 harg3 arg4 harg4 arg5 harg5 arg6 harg6 arg7 harg7 arg8 harg8 arg9 harg9 arg10 harg10 arg11 harg11 arg12 harg12 arg13 harg13 arg14 harg14 hc1 x0 _
  unfold runC
  frame_open
  frame_out
  simp (disch := exact (by decide : ∀ a : Fin 2, (![0, 0] : Fin 2 → ℕ) a = 0)) only [View.readCov_fill]
  simp only [hx, xs_eq]
  simp only [pay11_eq, pay108_eq, pay112_eq, pay117_eq, pay127_eq, pay135_eq, pay141_eq]
  exact read_h arg12 harg12 s2 (i 1).val _ _ _ _ _ _ _ _ _ _ (off35 i) (off37 i) (off39 i)
    (hid_tile (codes x0) (xsB x1) x2 x3 x4 x5 0 _ _) (hid_tile (codes x0) (xsB x1) x2 x3 x4 x5 512 _ _) (hid_tile (codes x0) (xsB x1) x2 x3 x4 x5 1024 _ _) y

/-- Case C: what the run stores leaves in argument 13, the running lane maxima. -/
theorem C_13 (hc0 : cond0_0 i) (hc1 : cond0_1 i) (hc2 : ¬cond0_2 i) (hc3 : cond0_3 i) (hc4 : ¬cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg13.view.ty) :
   arg13.view.read (Elt Ideal) (arg13.view.writes (Elt Ideal) f (runC (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.2.2.2.2.1) = stepA zeroB (hid (codes x0) (xsB x1) x2 x3 x4 x5) := by
  funext y
  have hx : arg10.view.read (Elt Ideal) (arg10.view.writes (Elt Ideal) (harg10.unread s0)
      (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 hc1 (harg2.unread x0) (Scf.trips (0#32) (Scalar.addi 0#32 48#32) 1#32))) = codes x0 :=
    unpacked Variants.none c none i arg2 harg2 arg3 harg3 arg4 harg4 arg5 harg5 arg6 harg6 arg7 harg7 arg8 harg8 arg9 harg9 arg10 harg10 arg11 harg11 arg12 harg12 arg13 harg13 arg14 harg14 hc1 x0 _
  unfold runC
  frame_open
  frame_out
  simp (disch := decide) only [↓View.readCov_skip]
  simp (disch := exact (by decide : ∀ a : Fin 2, (![0, 0] : Fin 2 → ℕ) a = 0)) only [View.readCov_fill]
  simp only [hx, xs_eq, zero_eq]
  simp only [pay10_eq, pay110_eq, pay115_eq, pay128_eq, pay136_eq, pay141_eq]
  exact read_lanes arg13 f _ _ _ _ _ _ _ _ (step_tile (codes x0) (xsB x1) x2 x3 x4 x5 zeroB 0 _ _ _) (step_tile (codes x0) (xsB x1) x2 x3 x4 x5 zeroB 512 _ _ _) (step_tile (codes x0) (xsB x1) x2 x3 x4 x5 zeroB 1024 _ _ _) y

/-- Case C: what the run stores leaves in argument 14, the inverse scales. -/
theorem C_14 (hc0 : cond0_0 i) (hc1 : cond0_1 i) (hc2 : ¬cond0_2 i) (hc3 : cond0_3 i) (hc4 : ¬cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg14.view.ty) :
   arg14.view.read (Elt Ideal) (arg14.view.writes (Elt Ideal) f (runC (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.2.2.2.2.2.1) = invB s3 := by
  funext y
  unfold runC
  frame_open
  rw [View.read_writes_apply_eq_canon _ _ _ _ (View.cover_of_tiled_head _ _ _ (by rfl) y)]
  frame_out
  rfl

end Cert.GateUpIdeal.Value
end
-- ==== Proof.GateUpIdealRunD.lean ====
module

public import proofs.«01_k».proof.Proof.GateUpIdealRunC

@[expose] public section

set_option maxRecDepth 16384

noncomputable section

namespace Cert.GateUpIdeal.Run

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S192x6x8x128 .i32) (harg2 : arg2.IsWhole) (arg3 : Memref sig .tc .vmem S1536x128 .f32) (harg3 : arg3.IsWhole) (arg4 : Memref sig .tc .vmem S1x512x3072 .fp8e4m3) (harg4 : arg4.IsWhole) (arg5 : Memref sig .tc .vmem S1x512x3072 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1536x512 .fp8e4m3) (harg8 : arg8.IsWhole) (arg9 : Memref sig .tc .vmem S1536x128 .f32) (harg9 : arg9.IsWhole) (arg10 : Memref sig .tc .vmem S1536x3072 .fp8e4m3) (harg10 : arg10.IsWhole) (arg11 : Memref sig .tc .vmem S1536x128 .f32) (harg11 : arg11.IsWhole) (arg12 : Memref sig .tc .vmem S1536x4096 .f32) (harg12 : arg12.IsWhole) (arg13 : Memref sig .tc .vmem S1536x128 .f32) (harg13 : arg13.IsWhole) (arg14 : Memref sig .tc .vmem S1536x128 .f32) (harg14 : arg14.IsWhole)

set_option backward.proofsInPublic true in
set_option maxHeartbeats 1000000 in
/-- The body's run in case D, a middle expert at a later column block (`0 < e < 16`, `f > 0`): quantise, matmul.
    Every buffer is held at known contents; the run ends with the inputs as they were and each buffer the case stores into with
    a list of pieces written over some contents (last first); the others are left as they were. -/
noncomputable def runD (hc0 : ¬cond0_0 i) (hc1 : ¬cond0_1 i) (hc2 : ¬cond0_2 i) (hc3 : cond0_3 i) (hc4 : ¬cond0_4 i)
    (x0 : Vec F S192x6x8x128 .i32) (x1 : Vec F S1536x128 .f32) (x2 : Vec F S1x512x3072 .fp8e4m3) (x3 : Vec F S1x512x3072 .fp8e4m3) (x4 : Vec F S1x1x512 .f32) (x5 : Vec F S1x1x512 .f32) (o6 : Vec F S1536x512 .fp8e4m3) (o7 : Vec F S1536x128 .f32) (s0 : Vec F S1536x3072 .fp8e4m3) (s1 : Vec F S1536x128 .f32) (s2 : Vec F S1536x4096 .f32) (s3 : Vec F S1536x128 .f32) (s4 : Vec F S1536x128 .f32) :
    Σ' (L6 : List (View.Piece (Elt F) S1536x512 .fp8e4m3)),
      Σ' (L2 : List (View.Piece (Elt F) S1536x4096 .f32)),
      { L3 : List (View.Piece (Elt F) S1536x128 .f32) //
      ∀ (E : Set ℕ) (K : PUnit → sProp 𝕄),
        iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread o6) ∗ (arg9.view.loc (c : Thread nD τ) ↦[arg9.view.set]{fullShare} harg9.unread o7) ∗ (arg10.view.loc (c : Thread nD τ) ↦[arg10.view.set]{fullShare} harg10.unread s0) ∗ (arg11.view.loc (c : Thread nD τ) ↦[arg11.view.set]{fullShare} harg11.unread s1) ∗ (arg12.view.loc (c : Thread nD τ) ↦[arg12.view.set]{fullShare} harg12.unread s2) ∗ (arg13.view.loc (c : Thread nD τ) ↦[arg13.view.set]{fullShare} harg13.unread s3) ∗ (arg14.view.loc (c : Thread nD τ) ↦[arg14.view.set]{fullShare} harg14.unread s4)
            ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (∃ f, (arg8.view.loc (c : Thread nD τ) ↦[arg8.view.set]{fullShare} arg8.view.writes (Elt F) f L6)) ∗ (arg9.view.loc (c : Thread nD τ) ↦[arg9.view.set]{fullShare} harg9.unread o7) ∗ (arg10.view.loc (c : Thread nD τ) ↦[arg10.view.set]{fullShare} harg10.unread s0) ∗ (arg11.view.loc (c : Thread nD τ) ↦[arg11.view.set]{fullShare} harg11.unread s1) ∗ (arg12.view.loc (c : Thread nD τ) ↦[arg12.view.set]{fullShare} arg12.view.writes (Elt F) (harg12.unread s2) L2) ∗ (∃ f, (arg13.view.loc (c : Thread nD τ) ↦[arg13.view.set]{fullShare} arg13.view.writes (Elt F) f L3)) ∗ (arg14.view.loc (c : Thread nD τ) ↦[arg14.view.set]{fullShare} harg14.unread s4)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [View.writes_nil, cc0_gate_up_eq_skeleton]; unfold cc0_gate_up_skel
    simp only [k0_part19_eq_skeleton, k0_part20_eq_skeleton, k0_part21_eq_skeleton, k0_part22_eq_skeleton, k0_part23_eq_skeleton, k0_part24_eq_skeleton, k0_part25_eq_skeleton]
    iintro ⟨H2, H3, H4, H5, H6, H7, H8, H9, H10, H11, H12, H13, H14, Hk⟩
    sl_exec (disch := first | sl_exact hc0 | sl_exact hc1 | sl_exact hc2 | sl_exact hc3 | sl_exact hc4)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexact H11
    isplitl [H12]; · iexact H12
    isplitl [H13]; · iexists _; iexact H13
    iexact H14

end Cert.GateUpIdeal.Run

end
-- ==== Proof.GateUpCasesD.lean ====
module

public import proofs.«01_k».proof.Proof.GateUpUnpack
public import proofs.«01_k».proof.Proof.GateUpTiles
public import proofs.«01_k».proof.Proof.GateUpIdealRunD
@[expose] public section
set_option maxRecDepth 16384
noncomputable section
open Idealize.ShloMosaic Idealize.ShloMosaic.TcCoe Idealize.SL.Sem
namespace Cert.GateUpIdeal.Value
open Cert.GateUpIdeal Cert.GateUpIdeal.Gen Cert.GateUpIdeal.Run
variable (c : Dev nD) (i : grid0.Coords) (arg2 : Memref sig .tc .vmem S192x6x8x128 .i32) (harg2 : arg2.IsWhole) (arg3 : Memref sig .tc .vmem S1536x128 .f32) (harg3 : arg3.IsWhole) (arg4 : Memref sig .tc .vmem S1x512x3072 .fp8e4m3) (harg4 : arg4.IsWhole) (arg5 : Memref sig .tc .vmem S1x512x3072 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1536x512 .fp8e4m3) (harg8 : arg8.IsWhole) (arg9 : Memref sig .tc .vmem S1536x128 .f32) (harg9 : arg9.IsWhole) (arg10 : Memref sig .tc .vmem S1536x3072 .fp8e4m3) (harg10 : arg10.IsWhole) (arg11 : Memref sig .tc .vmem S1536x128 .f32) (harg11 : arg11.IsWhole) (arg12 : Memref sig .tc .vmem S1536x4096 .f32) (harg12 : arg12.IsWhole) (arg13 : Memref sig .tc .vmem S1536x128 .f32) (harg13 : arg13.IsWhole) (arg14 : Memref sig .tc .vmem S1536x128 .f32) (harg14 : arg14.IsWhole)
/-- Case D: what the run stores leaves in argument 8, the quantised block. -/
theorem D_8 (hc0 : ¬cond0_0 i) (hc1 : ¬cond0_1 i) (hc2 : ¬cond0_2 i) (hc3 : cond0_3 i) (hc4 : ¬cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg8.view.ty) :
   arg8.view.read (Elt Ideal) (arg8.view.writes (Elt Ideal) f (runD (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).1) = quantB s2 s4 (i 1) := by
  funext y
  unfold runD
  frame_open
  rw [View.read_writes_apply_eq_canon _ _ _ _ (View.cover_of_tiled_head _ _ _ (by rfl) y)]
  frame_out
  canon_tiles y hy
  · exact quant_tile s2 s4 (i 1) 1024 384 (by decide) _ rfl (off38 i 3) _ _ _ y (by omega) (by omega)
  · exact quant_tile s2 s4 (i 1) 1024 256 (by decide) _ rfl (off38 i 2) _ _ _ y (by omega) (by omega)
  · exact quant_tile s2 s4 (i 1) 1024 128 (by decide) _ rfl (off38 i 1) _ _ _ y (by omega) (by omega)
  · exact quant_tile s2 s4 (i 1) 1024 0 (by decide) _ rfl (off38 i 0) _ _ _ y (by omega) (by omega)
  · exact quant_tile s2 s4 (i 1) 512 384 (by decide) _ rfl (off36 i 3) _ _ _ y (by omega) (by omega)
  · exact quant_tile s2 s4 (i 1) 512 256 (by decide) _ rfl (off36 i 2) _ _ _ y (by omega) (by omega)
  · exact quant_tile s2 s4 (i 1) 512 128 (by decide) _ rfl (off36 i 1) _ _ _ y (by omega) (by omega)
  · exact quant_tile s2 s4 (i 1) 512 0 (by decide) _ rfl (off36 i 0) _ _ _ y (by omega) (by omega)
  · exact quant_tile s2 s4 (i 1) 0 384 (by decide) _ rfl (off34 i 3) _ _ _ y (by omega) (by omega)
  · exact quant_tile s2 s4 (i 1) 0 256 (by decide) _ rfl (off34 i 2) _ _ _ y (by omega) (by omega)
  · exact quant_tile s2 s4 (i 1) 0 128 (by decide) _ rfl (off34 i 1) _ _ _ y (by omega) (by omega)
  · exact quant_tile s2 s4 (i 1) 0 0 (by decide) _ rfl (off34 i 0) _ _ _ y (by omega) (by omega)

/-- Case D: what the run stores leaves in argument 12, the hidden buffer. -/
theorem D_12 (hc0 : ¬cond0_0 i) (hc1 : ¬cond0_1 i) (hc2 : ¬cond0_2 i) (hc3 : cond0_3 i) (hc4 : ¬cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg12.view.ty) :
   arg12.view.read (Elt Ideal) (arg12.view.writes (Elt Ideal) (harg12.unread s2) (runD (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.1) = updH s2 (i 1).val (hid s0 s1 x2 x3 x4 x5) := by
  funext y
  unfold runD
  frame_open
  frame_out
  simp only [pay11_eq, pay108_eq, pay112_eq, pay117_eq, pay127_eq, pay135_eq, pay141_eq]
  exact read_h arg12 harg12 s2 (i 1).val _ _ _ _ _ _ _ _ _ _ (off35 i) (off37 i) (off39 i)
    (hid_tile s0 s1 x2 x3 x4 x5 0 _ _) (hid_tile s0 s1 x2 x3 x4 x5 512 _ _) (hid_tile s0 s1 x2 x3 x4 x5 1024 _ _) y

/-- Case D: what the run stores leaves in argument 13, the running lane maxima. -/
theorem D_13 (hc0 : ¬cond0_0 i) (hc1 : ¬cond0_1 i) (hc2 : ¬cond0_2 i) (hc3 : cond0_3 i) (hc4 : ¬cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg13.view.ty) :
   arg13.view.read (Elt Ideal) (arg13.view.writes (Elt Ideal) f (runD (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.2.1) = stepA s3 (hid s0 s1 x2 x3 x4 x5) := by
  funext y
  unfold runD
  frame_open
  frame_out
  simp only [pay10_eq, pay110_eq, pay115_eq, pay128_eq, pay136_eq, pay141_eq]
  exact read_lanes arg13 f _ _ _ _ _ _ _ _ (step_tile s0 s1 x2 x3 x4 x5 s3 0 _ _ _) (step_tile s0 s1 x2 x3 x4 x5 s3 512 _ _ _) (step_tile s0 s1 x2 x3 x4 x5 s3 1024 _ _ _) y

end Cert.GateUpIdeal.Value
end
-- ==== Proof.GateUpIdealRunE.lean ====
module

public import proofs.«01_k».proof.Proof.GateUpIdealRunD

@[expose] public section

set_option maxRecDepth 16384

noncomputable section

namespace Cert.GateUpIdeal.Run

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S192x6x8x128 .i32) (harg2 : arg2.IsWhole) (arg3 : Memref sig .tc .vmem S1536x128 .f32) (harg3 : arg3.IsWhole) (arg4 : Memref sig .tc .vmem S1x512x3072 .fp8e4m3) (harg4 : arg4.IsWhole) (arg5 : Memref sig .tc .vmem S1x512x3072 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1536x512 .fp8e4m3) (harg8 : arg8.IsWhole) (arg9 : Memref sig .tc .vmem S1536x128 .f32) (harg9 : arg9.IsWhole) (arg10 : Memref sig .tc .vmem S1536x3072 .fp8e4m3) (harg10 : arg10.IsWhole) (arg11 : Memref sig .tc .vmem S1536x128 .f32) (harg11 : arg11.IsWhole) (arg12 : Memref sig .tc .vmem S1536x4096 .f32) (harg12 : arg12.IsWhole) (arg13 : Memref sig .tc .vmem S1536x128 .f32) (harg13 : arg13.IsWhole) (arg14 : Memref sig .tc .vmem S1536x128 .f32) (harg14 : arg14.IsWhole)

set_option backward.proofsInPublic true in
set_option maxHeartbeats 1000000 in
/-- The body's run in case E, the last round at its first column block (`e = 16`, `f = 0`): the scale of the last expert, unpack, quantise.
    Every buffer is held at known contents; the run ends with the inputs as they were and each buffer the case stores into with
    a list of pieces written over some contents (last first); the others are left as they were. -/
noncomputable def runE (hc0 : cond0_0 i) (hc1 : cond0_1 i) (hc2 : ¬cond0_2 i) (hc3 : ¬cond0_3 i) (hc4 : cond0_4 i)
    (x0 : Vec F S192x6x8x128 .i32) (x1 : Vec F S1536x128 .f32) (x2 : Vec F S1x512x3072 .fp8e4m3) (x3 : Vec F S1x512x3072 .fp8e4m3) (x4 : Vec F S1x1x512 .f32) (x5 : Vec F S1x1x512 .f32) (o6 : Vec F S1536x512 .fp8e4m3) (o7 : Vec F S1536x128 .f32) (s0 : Vec F S1536x3072 .fp8e4m3) (s1 : Vec F S1536x128 .f32) (s2 : Vec F S1536x4096 .f32) (s3 : Vec F S1536x128 .f32) (s4 : Vec F S1536x128 .f32) :
    Σ' (L6 : List (View.Piece (Elt F) S1536x512 .fp8e4m3)),
      Σ' (L7 : List (View.Piece (Elt F) S1536x128 .f32)),
      Σ' (L0 : List (View.Piece (Elt F) S1536x3072 .fp8e4m3)),
      Σ' (L1 : List (View.Piece (Elt F) S1536x128 .f32)),
      Σ' (L3 : List (View.Piece (Elt F) S1536x128 .f32)),
      { L4 : List (View.Piece (Elt F) S1536x128 .f32) //
      ∀ (E : Set ℕ) (K : PUnit → sProp 𝕄),
        iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread o6) ∗ (arg9.view.loc (c : Thread nD τ) ↦[arg9.view.set]{fullShare} harg9.unread o7) ∗ (arg10.view.loc (c : Thread nD τ) ↦[arg10.view.set]{fullShare} harg10.unread s0) ∗ (arg11.view.loc (c : Thread nD τ) ↦[arg11.view.set]{fullShare} harg11.unread s1) ∗ (arg12.view.loc (c : Thread nD τ) ↦[arg12.view.set]{fullShare} harg12.unread s2) ∗ (arg13.view.loc (c : Thread nD τ) ↦[arg13.view.set]{fullShare} harg13.unread s3) ∗ (arg14.view.loc (c : Thread nD τ) ↦[arg14.view.set]{fullShare} harg14.unread s4)
            ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (∃ f, (arg8.view.loc (c : Thread nD τ) ↦[arg8.view.set]{fullShare} arg8.view.writes (Elt F) f L6)) ∗ (∃ f, (arg9.view.loc (c : Thread nD τ) ↦[arg9.view.set]{fullShare} arg9.view.writes (Elt F) f L7)) ∗ (∃ f, (arg10.view.loc (c : Thread nD τ) ↦[arg10.view.set]{fullShare} arg10.view.writes (Elt F) f L0)) ∗ (∃ f, (arg11.view.loc (c : Thread nD τ) ↦[arg11.view.set]{fullShare} arg11.view.writes (Elt F) f L1)) ∗ (arg12.view.loc (c : Thread nD τ) ↦[arg12.view.set]{fullShare} harg12.unread s2) ∗ (∃ f, (arg13.view.loc (c : Thread nD τ) ↦[arg13.view.set]{fullShare} arg13.view.writes (Elt F) f L3)) ∗ (∃ f, (arg14.view.loc (c : Thread nD τ) ↦[arg14.view.set]{fullShare} arg14.view.writes (Elt F) f L4))) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [View.writes_nil, cc0_gate_up_eq_skeleton]; unfold cc0_gate_up_skel
    simp only [k0_part1_eq_skeleton, k0_part2_eq_skeleton, k0_part26_eq_skeleton, k0_part27_eq_skeleton, k0_part28_eq_skeleton, k0_part29_eq_skeleton]
    iintro ⟨H2, H3, H4, H5, H6, H7, H8, H9, H10, H11, H12, H13, H14, Hk⟩
    sl_exec (disch := first | sl_exact hc0 | sl_exact hc1 | sl_exact hc2 | sl_exact hc3 | sl_exact hc4)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexact H12
    isplitl [H13]; · iexists _; iexact H13
    iexists _; iexact H14

end Cert.GateUpIdeal.Run

end
-- ==== Proof.GateUpCasesE.lean ====
module

public import proofs.«01_k».proof.Proof.GateUpUnpack
public import proofs.«01_k».proof.Proof.GateUpTiles
public import proofs.«01_k».proof.Proof.GateUpIdealRunE
@[expose] public section
set_option maxRecDepth 16384
noncomputable section
open Idealize.ShloMosaic Idealize.ShloMosaic.TcCoe Idealize.SL.Sem
namespace Cert.GateUpIdeal.Value
open Cert.GateUpIdeal Cert.GateUpIdeal.Gen Cert.GateUpIdeal.Run
variable (c : Dev nD) (i : grid0.Coords) (arg2 : Memref sig .tc .vmem S192x6x8x128 .i32) (harg2 : arg2.IsWhole) (arg3 : Memref sig .tc .vmem S1536x128 .f32) (harg3 : arg3.IsWhole) (arg4 : Memref sig .tc .vmem S1x512x3072 .fp8e4m3) (harg4 : arg4.IsWhole) (arg5 : Memref sig .tc .vmem S1x512x3072 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1536x512 .fp8e4m3) (harg8 : arg8.IsWhole) (arg9 : Memref sig .tc .vmem S1536x128 .f32) (harg9 : arg9.IsWhole) (arg10 : Memref sig .tc .vmem S1536x3072 .fp8e4m3) (harg10 : arg10.IsWhole) (arg11 : Memref sig .tc .vmem S1536x128 .f32) (harg11 : arg11.IsWhole) (arg12 : Memref sig .tc .vmem S1536x4096 .f32) (harg12 : arg12.IsWhole) (arg13 : Memref sig .tc .vmem S1536x128 .f32) (harg13 : arg13.IsWhole) (arg14 : Memref sig .tc .vmem S1536x128 .f32) (harg14 : arg14.IsWhole)
/-- Case E: what the run stores leaves in argument 8, the quantised block. -/
theorem E_8 (hc0 : cond0_0 i) (hc1 : cond0_1 i) (hc2 : ¬cond0_2 i) (hc3 : ¬cond0_3 i) (hc4 : cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg8.view.ty) :
   arg8.view.read (Elt Ideal) (arg8.view.writes (Elt Ideal) f (runE (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).1) = quantB s2 (invB s3) (i 1) := by
  funext y
  unfold runE
  frame_open
  rw [View.read_writes_apply_eq_canon _ _ _ _ (View.cover_of_tiled_head _ _ _ (by rfl) y)]
  frame_out
  simp (disch := exact (by decide : ∀ a : Fin 2, (![0, 0] : Fin 2 → ℕ) a = 0)) only [View.readCov_fill]
  canon_tiles y hy
  · exact quant_tile s2 (invB s3) (i 1) 1024 384 (by decide) _ rfl (off42 i 3) _ _ _ y (by omega) (by omega)
  · exact quant_tile s2 (invB s3) (i 1) 1024 256 (by decide) _ rfl (off42 i 2) _ _ _ y (by omega) (by omega)
  · exact quant_tile s2 (invB s3) (i 1) 1024 128 (by decide) _ rfl (off42 i 1) _ _ _ y (by omega) (by omega)
  · exact quant_tile s2 (invB s3) (i 1) 1024 0 (by decide) _ rfl (off42 i 0) _ _ _ y (by omega) (by omega)
  · exact quant_tile s2 (invB s3) (i 1) 512 384 (by decide) _ rfl (off41 i 3) _ _ _ y (by omega) (by omega)
  · exact quant_tile s2 (invB s3) (i 1) 512 256 (by decide) _ rfl (off41 i 2) _ _ _ y (by omega) (by omega)
  · exact quant_tile s2 (invB s3) (i 1) 512 128 (by decide) _ rfl (off41 i 1) _ _ _ y (by omega) (by omega)
  · exact quant_tile s2 (invB s3) (i 1) 512 0 (by decide) _ rfl (off41 i 0) _ _ _ y (by omega) (by omega)
  · exact quant_tile s2 (invB s3) (i 1) 0 384 (by decide) _ rfl (off40 i 3) _ _ _ y (by omega) (by omega)
  · exact quant_tile s2 (invB s3) (i 1) 0 256 (by decide) _ rfl (off40 i 2) _ _ _ y (by omega) (by omega)
  · exact quant_tile s2 (invB s3) (i 1) 0 128 (by decide) _ rfl (off40 i 1) _ _ _ y (by omega) (by omega)
  · exact quant_tile s2 (invB s3) (i 1) 0 0 (by decide) _ rfl (off40 i 0) _ _ _ y (by omega) (by omega)

/-- Case E: what the run stores leaves in argument 9, the block of scales. -/
theorem E_9 (hc0 : cond0_0 i) (hc1 : cond0_1 i) (hc2 : ¬cond0_2 i) (hc3 : ¬cond0_3 i) (hc4 : cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg9.view.ty) :
   arg9.view.read (Elt Ideal) (arg9.view.writes (Elt Ideal) f (runE (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.1) = scaleB s3 := by
  funext y
  unfold runE
  frame_open
  rw [View.read_writes_apply_eq_canon _ _ _ _ (View.cover_of_tiled_head _ _ _ (by rfl) y)]
  frame_out
  rfl

/-- Case E: what the run stores leaves in argument 10, the unpacked codes. -/
theorem E_10 (hc0 : cond0_0 i) (hc1 : cond0_1 i) (hc2 : ¬cond0_2 i) (hc3 : ¬cond0_3 i) (hc4 : cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg10.view.ty) :
   arg10.view.read (Elt Ideal) (arg10.view.writes (Elt Ideal) f (runE (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.2.1) = codes x0 := by
  funext y
  unfold runE
  frame_open
  exact congrFun (unpacked Variants.none c none i arg2 harg2 arg3 harg3 arg4 harg4 arg5 harg5 arg6 harg6 arg7 harg7 arg8 harg8 arg9 harg9 arg10 harg10 arg11 harg11 arg12 harg12 arg13 harg13 arg14 harg14 hc1 x0 f) y

/-- Case E: what the run stores leaves in argument 11, the activation scales. -/
theorem E_11 (hc0 : cond0_0 i) (hc1 : cond0_1 i) (hc2 : ¬cond0_2 i) (hc3 : ¬cond0_3 i) (hc4 : cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg11.view.ty) :
   arg11.view.read (Elt Ideal) (arg11.view.writes (Elt Ideal) f (runE (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.2.2.1) = xsB x1 := by
  funext y
  unfold runE
  frame_open
  rw [View.read_writes_apply_eq_canon _ _ _ _ (View.cover_of_tiled_head _ _ _ (by rfl) y)]
  frame_out
  rw [xs_eq]

/-- Case E: what the run stores leaves in argument 13, the running lane maxima. -/
theorem E_13 (hc0 : cond0_0 i) (hc1 : cond0_1 i) (hc2 : ¬cond0_2 i) (hc3 : ¬cond0_3 i) (hc4 : cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg13.view.ty) :
   arg13.view.read (Elt Ideal) (arg13.view.writes (Elt Ideal) f (runE (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.2.2.2.1) = zeroB := by
  funext y
  unfold runE
  frame_open
  rw [View.read_writes_apply_eq_canon _ _ _ _ (View.cover_of_tiled_head _ _ _ (by rfl) y)]
  frame_out
  rw [zero_eq]

/-- Case E: what the run stores leaves in argument 14, the inverse scales. -/
theorem E_14 (hc0 : cond0_0 i) (hc1 : cond0_1 i) (hc2 : ¬cond0_2 i) (hc3 : ¬cond0_3 i) (hc4 : cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg14.view.ty) :
   arg14.view.read (Elt Ideal) (arg14.view.writes (Elt Ideal) f (runE (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.2.2.2.2.1) = invB s3 := by
  funext y
  unfold runE
  frame_open
  rw [View.read_writes_apply_eq_canon _ _ _ _ (View.cover_of_tiled_head _ _ _ (by rfl) y)]
  frame_out
  rfl

end Cert.GateUpIdeal.Value
end
-- ==== Proof.GateUpIdealRunF.lean ====
module

public import proofs.«01_k».proof.Proof.GateUpIdealRunE

@[expose] public section

set_option maxRecDepth 16384

noncomputable section

namespace Cert.GateUpIdeal.Run

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S192x6x8x128 .i32) (harg2 : arg2.IsWhole) (arg3 : Memref sig .tc .vmem S1536x128 .f32) (harg3 : arg3.IsWhole) (arg4 : Memref sig .tc .vmem S1x512x3072 .fp8e4m3) (harg4 : arg4.IsWhole) (arg5 : Memref sig .tc .vmem S1x512x3072 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1536x512 .fp8e4m3) (harg8 : arg8.IsWhole) (arg9 : Memref sig .tc .vmem S1536x128 .f32) (harg9 : arg9.IsWhole) (arg10 : Memref sig .tc .vmem S1536x3072 .fp8e4m3) (harg10 : arg10.IsWhole) (arg11 : Memref sig .tc .vmem S1536x128 .f32) (harg11 : arg11.IsWhole) (arg12 : Memref sig .tc .vmem S1536x4096 .f32) (harg12 : arg12.IsWhole) (arg13 : Memref sig .tc .vmem S1536x128 .f32) (harg13 : arg13.IsWhole) (arg14 : Memref sig .tc .vmem S1536x128 .f32) (harg14 : arg14.IsWhole)

set_option backward.proofsInPublic true in
set_option maxHeartbeats 1000000 in
/-- The body's run in case F, the last round at a later column block (`e = 16`, `f > 0`): quantise.
    Every buffer is held at known contents; the run ends with the inputs as they were and each buffer the case stores into with
    a list of pieces written over some contents (last first); the others are left as they were. -/
noncomputable def runF (hc0 : ¬cond0_0 i) (hc1 : ¬cond0_1 i) (hc2 : ¬cond0_2 i) (hc3 : ¬cond0_3 i) (hc4 : cond0_4 i)
    (x0 : Vec F S192x6x8x128 .i32) (x1 : Vec F S1536x128 .f32) (x2 : Vec F S1x512x3072 .fp8e4m3) (x3 : Vec F S1x512x3072 .fp8e4m3) (x4 : Vec F S1x1x512 .f32) (x5 : Vec F S1x1x512 .f32) (o6 : Vec F S1536x512 .fp8e4m3) (o7 : Vec F S1536x128 .f32) (s0 : Vec F S1536x3072 .fp8e4m3) (s1 : Vec F S1536x128 .f32) (s2 : Vec F S1536x4096 .f32) (s3 : Vec F S1536x128 .f32) (s4 : Vec F S1536x128 .f32) :

      { L6 : List (View.Piece (Elt F) S1536x512 .fp8e4m3) //
      ∀ (E : Set ℕ) (K : PUnit → sProp 𝕄),
        iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread o6) ∗ (arg9.view.loc (c : Thread nD τ) ↦[arg9.view.set]{fullShare} harg9.unread o7) ∗ (arg10.view.loc (c : Thread nD τ) ↦[arg10.view.set]{fullShare} harg10.unread s0) ∗ (arg11.view.loc (c : Thread nD τ) ↦[arg11.view.set]{fullShare} harg11.unread s1) ∗ (arg12.view.loc (c : Thread nD τ) ↦[arg12.view.set]{fullShare} harg12.unread s2) ∗ (arg13.view.loc (c : Thread nD τ) ↦[arg13.view.set]{fullShare} harg13.unread s3) ∗ (arg14.view.loc (c : Thread nD τ) ↦[arg14.view.set]{fullShare} harg14.unread s4)
            ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (∃ f, (arg8.view.loc (c : Thread nD τ) ↦[arg8.view.set]{fullShare} arg8.view.writes (Elt F) f L6)) ∗ (arg9.view.loc (c : Thread nD τ) ↦[arg9.view.set]{fullShare} harg9.unread o7) ∗ (arg10.view.loc (c : Thread nD τ) ↦[arg10.view.set]{fullShare} harg10.unread s0) ∗ (arg11.view.loc (c : Thread nD τ) ↦[arg11.view.set]{fullShare} harg11.unread s1) ∗ (arg12.view.loc (c : Thread nD τ) ↦[arg12.view.set]{fullShare} harg12.unread s2) ∗ (arg13.view.loc (c : Thread nD τ) ↦[arg13.view.set]{fullShare} harg13.unread s3) ∗ (arg14.view.loc (c : Thread nD τ) ↦[arg14.view.set]{fullShare} harg14.unread s4)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [View.writes_nil, cc0_gate_up_eq_skeleton]; unfold cc0_gate_up_skel
    simp only [k0_part26_eq_skeleton, k0_part27_eq_skeleton, k0_part28_eq_skeleton, k0_part29_eq_skeleton]
    iintro ⟨H2, H3, H4, H5, H6, H7, H8, H9, H10, H11, H12, H13, H14, Hk⟩
    sl_exec (disch := first | sl_exact hc0 | sl_exact hc1 | sl_exact hc2 | sl_exact hc3 | sl_exact hc4)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexact H11
    isplitl [H12]; · iexact H12
    isplitl [H13]; · iexact H13
    iexact H14

end Cert.GateUpIdeal.Run

end
-- ==== Proof.GateUpCasesF.lean ====
module

public import proofs.«01_k».proof.Proof.GateUpUnpack
public import proofs.«01_k».proof.Proof.GateUpTiles
public import proofs.«01_k».proof.Proof.GateUpIdealRunF
@[expose] public section
set_option maxRecDepth 16384
noncomputable section
open Idealize.ShloMosaic Idealize.ShloMosaic.TcCoe Idealize.SL.Sem
namespace Cert.GateUpIdeal.Value
open Cert.GateUpIdeal Cert.GateUpIdeal.Gen Cert.GateUpIdeal.Run
variable (c : Dev nD) (i : grid0.Coords) (arg2 : Memref sig .tc .vmem S192x6x8x128 .i32) (harg2 : arg2.IsWhole) (arg3 : Memref sig .tc .vmem S1536x128 .f32) (harg3 : arg3.IsWhole) (arg4 : Memref sig .tc .vmem S1x512x3072 .fp8e4m3) (harg4 : arg4.IsWhole) (arg5 : Memref sig .tc .vmem S1x512x3072 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1536x512 .fp8e4m3) (harg8 : arg8.IsWhole) (arg9 : Memref sig .tc .vmem S1536x128 .f32) (harg9 : arg9.IsWhole) (arg10 : Memref sig .tc .vmem S1536x3072 .fp8e4m3) (harg10 : arg10.IsWhole) (arg11 : Memref sig .tc .vmem S1536x128 .f32) (harg11 : arg11.IsWhole) (arg12 : Memref sig .tc .vmem S1536x4096 .f32) (harg12 : arg12.IsWhole) (arg13 : Memref sig .tc .vmem S1536x128 .f32) (harg13 : arg13.IsWhole) (arg14 : Memref sig .tc .vmem S1536x128 .f32) (harg14 : arg14.IsWhole)
/-- Case F: what the run stores leaves in argument 8, the quantised block. -/
theorem F_8 (hc0 : ¬cond0_0 i) (hc1 : ¬cond0_1 i) (hc2 : ¬cond0_2 i) (hc3 : ¬cond0_3 i) (hc4 : cond0_4 i) (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) (f : BufTy.Contents (Elt Ideal) arg8.view.ty) :
   arg8.view.read (Elt Ideal) (arg8.view.writes (Elt Ideal) f (runF (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).1) = quantB s2 s4 (i 1) := by
  funext y
  unfold runF
  frame_open
  rw [View.read_writes_apply_eq_canon _ _ _ _ (View.cover_of_tiled_head _ _ _ (by rfl) y)]
  frame_out
  canon_tiles y hy
  · exact quant_tile s2 s4 (i 1) 1024 384 (by decide) _ rfl (off42 i 3) _ _ _ y (by omega) (by omega)
  · exact quant_tile s2 s4 (i 1) 1024 256 (by decide) _ rfl (off42 i 2) _ _ _ y (by omega) (by omega)
  · exact quant_tile s2 s4 (i 1) 1024 128 (by decide) _ rfl (off42 i 1) _ _ _ y (by omega) (by omega)
  · exact quant_tile s2 s4 (i 1) 1024 0 (by decide) _ rfl (off42 i 0) _ _ _ y (by omega) (by omega)
  · exact quant_tile s2 s4 (i 1) 512 384 (by decide) _ rfl (off41 i 3) _ _ _ y (by omega) (by omega)
  · exact quant_tile s2 s4 (i 1) 512 256 (by decide) _ rfl (off41 i 2) _ _ _ y (by omega) (by omega)
  · exact quant_tile s2 s4 (i 1) 512 128 (by decide) _ rfl (off41 i 1) _ _ _ y (by omega) (by omega)
  · exact quant_tile s2 s4 (i 1) 512 0 (by decide) _ rfl (off41 i 0) _ _ _ y (by omega) (by omega)
  · exact quant_tile s2 s4 (i 1) 0 384 (by decide) _ rfl (off40 i 3) _ _ _ y (by omega) (by omega)
  · exact quant_tile s2 s4 (i 1) 0 256 (by decide) _ rfl (off40 i 2) _ _ _ y (by omega) (by omega)
  · exact quant_tile s2 s4 (i 1) 0 128 (by decide) _ rfl (off40 i 1) _ _ _ y (by omega) (by omega)
  · exact quant_tile s2 s4 (i 1) 0 0 (by decide) _ rfl (off40 i 0) _ _ _ y (by omega) (by omega)

end Cert.GateUpIdeal.Value
end
-- ==== Proof.GateUpBody.lean ====
module

public import proofs.«01_k».proof.Proof.GateUpCasesA
public import proofs.«01_k».proof.Proof.GateUpCasesB
public import proofs.«01_k».proof.Proof.GateUpCasesC
public import proofs.«01_k».proof.Proof.GateUpCasesD
public import proofs.«01_k».proof.Proof.GateUpCasesE
public import proofs.«01_k».proof.Proof.GateUpCasesF

/-! # The body of the gate-up kernel as a step on its buffers

At a grid point the body takes the contents of its thirteen buffers to new contents. Which ones
depends on the round (the first expert, a middle one, or the closing round that only quantises) and
on whether the point is the first of its round. -/

@[expose] public section
set_option maxRecDepth 16384
noncomputable section
namespace Cert.GateUpIdeal.Value
open Cert.GateUpIdeal Cert.GateUpIdeal.Gen Cert.GateUpIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
local notation "𝕄" => MT nD τ sig Unit (Elt Ideal) ℕ (UR sig nD τ) ℕ

/-- A buffer at the raw contents that read `x` holds `x`. -/
theorem owns_unread {sh : Shape} {e : EltTy} (c : Dev nD) (arg : Memref sig .tc .vmem sh e) (harg : arg.IsWhole) (x : Vec Ideal sh e) :
    (arg.view.loc (c : Thread nD τ) ↦[arg.view.set]{fullShare} harg.unread x : sProp 𝕄) ⊢ owns (c : Thread nD τ) arg fullShare x := by
  unfold owns
  iintro H
  iexists _
  isplitr
  · ipureintro; exact harg.read_unread x
  · iexact H

/-- A buffer at some pieces written over anything holds what the pieces read back as. -/
theorem owns_writes {sh : Shape} {e : EltTy} (c : Dev nD) (arg : Memref sig .tc .vmem sh e) (L : List (View.Piece (Elt Ideal) sh e)) (x : Vec Ideal sh e)
    (h : ∀ f, arg.view.read (Elt Ideal) (arg.view.writes (Elt Ideal) f L) = x) :
    iprop(∃ f, (arg.view.loc (c : Thread nD τ) ↦[arg.view.set]{fullShare} arg.view.writes (Elt Ideal) f L)) ⊢ (owns (c : Thread nD τ) arg fullShare x : sProp 𝕄) := by
  unfold owns
  iintro ⟨%f, H⟩
  iexists _
  isplitr
  · ipureintro; exact h f
  · iexact H

/-- A buffer at given raw contents holds what they read as. -/
theorem owns_read {sh : Shape} {e : EltTy} (c : Dev nD) (arg : Memref sig .tc .vmem sh e) (f : BufTy.Contents (Elt Ideal) arg.view.ty) (x : Vec Ideal sh e)
    (h : arg.view.read (Elt Ideal) f = x) :
    (arg.view.loc (c : Thread nD τ) ↦[arg.view.set]{fullShare} f : sProp 𝕄) ⊢ owns (c : Thread nD τ) arg fullShare x := by
  unfold owns
  iintro H
  iexists _
  isplitr
  · ipureintro; exact h
  · iexact H

/-- A whole buffer that holds `x` is at the raw contents that read `x`. -/
theorem owns_elim {sh : Shape} {e : EltTy} (c : Dev nD) (arg : Memref sig .tc .vmem sh e) (harg : arg.IsWhole) (x : Vec Ideal sh e) :
    (owns (c : Thread nD τ) arg fullShare x : sProp 𝕄) ⊢ (arg.view.loc (c : Thread nD τ) ↦[arg.view.set]{fullShare} harg.unread x) := by
  unfold owns
  iintro ⟨%f, %hf, H⟩
  obtain rfl := harg.eq_unread hf
  iexact H

/-- The thirteen buffers at given contents. -/
def Held (c : Dev nD) (arg2 : Memref sig .tc .vmem S192x6x8x128 .i32) (arg3 : Memref sig .tc .vmem S1536x128 .f32) (arg4 : Memref sig .tc .vmem S1x512x3072 .fp8e4m3) (arg5 : Memref sig .tc .vmem S1x512x3072 .fp8e4m3) (arg6 : Memref sig .tc .vmem S1x1x512 .f32) (arg7 : Memref sig .tc .vmem S1x1x512 .f32) (arg8 : Memref sig .tc .vmem S1536x512 .fp8e4m3) (arg9 : Memref sig .tc .vmem S1536x128 .f32) (arg10 : Memref sig .tc .vmem S1536x3072 .fp8e4m3) (arg11 : Memref sig .tc .vmem S1536x128 .f32) (arg12 : Memref sig .tc .vmem S1536x4096 .f32) (arg13 : Memref sig .tc .vmem S1536x128 .f32) (arg14 : Memref sig .tc .vmem S1536x128 .f32)
    (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare s0 ∗ owns (c : Thread nD τ) arg11 fullShare s1 ∗ owns (c : Thread nD τ) arg12 fullShare s2 ∗ owns (c : Thread nD τ) arg13 fullShare s3 ∗ owns (c : Thread nD τ) arg14 fullShare s4)

variable (c : Dev nD) (i : grid0.Coords) (arg2 : Memref sig .tc .vmem S192x6x8x128 .i32) (harg2 : arg2.IsWhole) (arg3 : Memref sig .tc .vmem S1536x128 .f32) (harg3 : arg3.IsWhole) (arg4 : Memref sig .tc .vmem S1x512x3072 .fp8e4m3) (harg4 : arg4.IsWhole) (arg5 : Memref sig .tc .vmem S1x512x3072 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1536x512 .fp8e4m3) (harg8 : arg8.IsWhole) (arg9 : Memref sig .tc .vmem S1536x128 .f32) (harg9 : arg9.IsWhole) (arg10 : Memref sig .tc .vmem S1536x3072 .fp8e4m3) (harg10 : arg10.IsWhole) (arg11 : Memref sig .tc .vmem S1536x128 .f32) (harg11 : arg11.IsWhole) (arg12 : Memref sig .tc .vmem S1536x4096 .f32) (harg12 : arg12.IsWhole) (arg13 : Memref sig .tc .vmem S1536x128 .f32) (harg13 : arg13.IsWhole) (arg14 : Memref sig .tc .vmem S1536x128 .f32) (harg14 : arg14.IsWhole)
  (x0 : Vec Ideal S192x6x8x128 .i32) (x1 : Vec Ideal S1536x128 .f32) (x2 : Vec Ideal S1x512x3072 .fp8e4m3) (x3 : Vec Ideal S1x512x3072 .fp8e4m3) (x4 : Vec Ideal S1x1x512 .f32) (x5 : Vec Ideal S1x1x512 .f32) (o6 : Vec Ideal S1536x512 .fp8e4m3) (o7 : Vec Ideal S1536x128 .f32) (s0 : Vec Ideal S1536x3072 .fp8e4m3) (s1 : Vec Ideal S1536x128 .f32) (s2 : Vec Ideal S1536x4096 .f32) (s3 : Vec Ideal S1536x128 .f32) (s4 : Vec Ideal S1536x128 .f32)

/-- The body, run at grid point `i`, takes the buffers from the contents `x0 x1 x2 x3 x4 x5 o6 o7 s0 s1 s2 s3 s4` to the contents `x0 x1 x2 x3 x4 x5 n0 n1 n2 n3 n4 n5 n6`. -/
def Takes (n0 : Vec Ideal S1536x512 .fp8e4m3) (n1 : Vec Ideal S1536x128 .f32) (n2 : Vec Ideal S1536x3072 .fp8e4m3) (n3 : Vec Ideal S1536x128 .f32) (n4 : Vec Ideal S1536x4096 .f32) (n5 : Vec Ideal S1536x128 .f32) (n6 : Vec Ideal S1536x128 .f32) : Prop :=
  ∀ (E : Set ℕ) (K : PUnit → sProp 𝕄),
    iprop(Held c arg2 arg3 arg4 arg5 arg6 arg7 arg8 arg9 arg10 arg11 arg12 arg13 arg14 x0 x1 x2 x3 x4 x5 o6 o7 s0 s1 s2 s3 s4 ∗ (Held c arg2 arg3 arg4 arg5 arg6 arg7 arg8 arg9 arg10 arg11 arg12 arg13 arg14 x0 x1 x2 x3 x4 x5 n0 n1 n2 n3 n4 n5 n6 -∗ K ⟨⟩))
      ⊢ wp frame (wpE (defs₀ (F := Ideal)) Variants.none c none) E (cc0_gate_up i arg2 harg2 arg3 harg3 arg4 harg4 arg5 harg5 arg6 harg6 arg7 harg7 arg8 harg8 arg9 harg9 arg10 harg10 arg11 harg11 arg12 harg12 arg13 harg13 arg14 harg14) K

set_option maxHeartbeats 1000000 in
/-- Expert 0 at its first column block: what the body leaves. -/
theorem takes_A (hc0 : ¬cond0_0 i) (hc1 : cond0_1 i) (hc2 : cond0_2 i) (hc3 : ¬cond0_3 i) (hc4 : ¬cond0_4 i) :
    Takes c i arg2 harg2 arg3 harg3 arg4 harg4 arg5 harg5 arg6 harg6 arg7 harg7 arg8 harg8 arg9 harg9 arg10 harg10 arg11 harg11 arg12 harg12 arg13 harg13 arg14 harg14 x0 x1 x2 x3 x4 x5 o6 o7 s0 s1 s2 s3 s4
      o6 o7 (codes x0) (xsB x1) (updH s2 (i 1).val (hid (codes x0) (xsB x1) x2 x3 x4 x5)) (stepA zeroB (hid (codes x0) (xsB x1) x2 x3 x4 x5)) s4 := by
  intro E K
  unfold Held
  iintro ⟨⟨H2, H3, H4, H5, H6, H7, H8, H9, H10, H11, H12, H13, H14⟩, Hk⟩
  ihave H2 := (owns_elim c arg2 harg2 x0) $$ H2
  ihave H3 := (owns_elim c arg3 harg3 x1) $$ H3
  ihave H4 := (owns_elim c arg4 harg4 x2) $$ H4
  ihave H5 := (owns_elim c arg5 harg5 x3) $$ H5
  ihave H6 := (owns_elim c arg6 harg6 x4) $$ H6
  ihave H7 := (owns_elim c arg7 harg7 x5) $$ H7
  ihave H8 := (owns_elim c arg8 harg8 o6) $$ H8
  ihave H9 := (owns_elim c arg9 harg9 o7) $$ H9
  ihave H10 := (owns_elim c arg10 harg10 s0) $$ H10
  ihave H11 := (owns_elim c arg11 harg11 s1) $$ H11
  ihave H12 := (owns_elim c arg12 harg12 s2) $$ H12
  ihave H13 := (owns_elim c arg13 harg13 s3) $$ H13
  ihave H14 := (owns_elim c arg14 harg14 s4) $$ H14
  iapply ((runA (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, H7, H8, H9, H10, H11, H12, H13, H14⟩
  iapply Hk
  isplitl [H2]; · iapply (owns_unread c arg2 harg2 x0); iexact H2
  isplitl [H3]; · iapply (owns_unread c arg3 harg3 x1); iexact H3
  isplitl [H4]; · iapply (owns_unread c arg4 harg4 x2); iexact H4
  isplitl [H5]; · iapply (owns_unread c arg5 harg5 x3); iexact H5
  isplitl [H6]; · iapply (owns_unread c arg6 harg6 x4); iexact H6
  isplitl [H7]; · iapply (owns_unread c arg7 harg7 x5); iexact H7
  isplitl [H8]; · iapply (owns_unread c arg8 harg8 o6); iexact H8
  isplitl [H9]; · iapply (owns_unread c arg9 harg9 o7); iexact H9
  isplitl [H10]; · iapply (owns_writes c arg10 _ _ (A_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4)); iexact H10
  isplitl [H11]; · iapply (owns_writes c arg11 _ _ (A_11 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4)); iexact H11
  isplitl [H12]; · iapply (owns_read c arg12 _ _ (A_12 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4 (harg12.unread s2))); iexact H12
  isplitl [H13]; · iapply (owns_writes c arg13 _ _ (A_13 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4)); iexact H13
  iapply (owns_unread c arg14 harg14 s4); iexact H14

set_option maxHeartbeats 1000000 in
/-- Expert 0 at a later column block: what the body leaves. -/
theorem takes_B (hc0 : ¬cond0_0 i) (hc1 : ¬cond0_1 i) (hc2 : cond0_2 i) (hc3 : ¬cond0_3 i) (hc4 : ¬cond0_4 i) :
    Takes c i arg2 harg2 arg3 harg3 arg4 harg4 arg5 harg5 arg6 harg6 arg7 harg7 arg8 harg8 arg9 harg9 arg10 harg10 arg11 harg11 arg12 harg12 arg13 harg13 arg14 harg14 x0 x1 x2 x3 x4 x5 o6 o7 s0 s1 s2 s3 s4
      o6 o7 s0 s1 (updH s2 (i 1).val (hid s0 s1 x2 x3 x4 x5)) (stepA s3 (hid s0 s1 x2 x3 x4 x5)) s4 := by
  intro E K
  unfold Held
  iintro ⟨⟨H2, H3, H4, H5, H6, H7, H8, H9, H10, H11, H12, H13, H14⟩, Hk⟩
  ihave H2 := (owns_elim c arg2 harg2 x0) $$ H2
  ihave H3 := (owns_elim c arg3 harg3 x1) $$ H3
  ihave H4 := (owns_elim c arg4 harg4 x2) $$ H4
  ihave H5 := (owns_elim c arg5 harg5 x3) $$ H5
  ihave H6 := (owns_elim c arg6 harg6 x4) $$ H6
  ihave H7 := (owns_elim c arg7 harg7 x5) $$ H7
  ihave H8 := (owns_elim c arg8 harg8 o6) $$ H8
  ihave H9 := (owns_elim c arg9 harg9 o7) $$ H9
  ihave H10 := (owns_elim c arg10 harg10 s0) $$ H10
  ihave H11 := (owns_elim c arg11 harg11 s1) $$ H11
  ihave H12 := (owns_elim c arg12 harg12 s2) $$ H12
  ihave H13 := (owns_elim c arg13 harg13 s3) $$ H13
  ihave H14 := (owns_elim c arg14 harg14 s4) $$ H14
  iapply ((runB (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, H7, H8, H9, H10, H11, H12, H13, H14⟩
  iapply Hk
  isplitl [H2]; · iapply (owns_unread c arg2 harg2 x0); iexact H2
  isplitl [H3]; · iapply (owns_unread c arg3 harg3 x1); iexact H3
  isplitl [H4]; · iapply (owns_unread c arg4 harg4 x2); iexact H4
  isplitl [H5]; · iapply (owns_unread c arg5 harg5 x3); iexact H5
  isplitl [H6]; · iapply (owns_unread c arg6 harg6 x4); iexact H6
  isplitl [H7]; · iapply (owns_unread c arg7 harg7 x5); iexact H7
  isplitl [H8]; · iapply (owns_unread c arg8 harg8 o6); iexact H8
  isplitl [H9]; · iapply (owns_unread c arg9 harg9 o7); iexact H9
  isplitl [H10]; · iapply (owns_unread c arg10 harg10 s0); iexact H10
  isplitl [H11]; · iapply (owns_unread c arg11 harg11 s1); iexact H11
  isplitl [H12]; · iapply (owns_read c arg12 _ _ (B_12 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4 (harg12.unread s2))); iexact H12
  isplitl [H13]; · iapply (owns_writes c arg13 _ _ (B_13 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4)); iexact H13
  iapply (owns_unread c arg14 harg14 s4); iexact H14

set_option maxHeartbeats 1000000 in
/-- A middle expert at its first column block: what the body leaves. -/
theorem takes_C (hc0 : cond0_0 i) (hc1 : cond0_1 i) (hc2 : ¬cond0_2 i) (hc3 : cond0_3 i) (hc4 : ¬cond0_4 i) :
    Takes c i arg2 harg2 arg3 harg3 arg4 harg4 arg5 harg5 arg6 harg6 arg7 harg7 arg8 harg8 arg9 harg9 arg10 harg10 arg11 harg11 arg12 harg12 arg13 harg13 arg14 harg14 x0 x1 x2 x3 x4 x5 o6 o7 s0 s1 s2 s3 s4
      (quantB s2 (invB s3) (i 1)) (scaleB s3) (codes x0) (xsB x1) (updH s2 (i 1).val (hid (codes x0) (xsB x1) x2 x3 x4 x5)) (stepA zeroB (hid (codes x0) (xsB x1) x2 x3 x4 x5)) (invB s3) := by
  intro E K
  unfold Held
  iintro ⟨⟨H2, H3, H4, H5, H6, H7, H8, H9, H10, H11, H12, H13, H14⟩, Hk⟩
  ihave H2 := (owns_elim c arg2 harg2 x0) $$ H2
  ihave H3 := (owns_elim c arg3 harg3 x1) $$ H3
  ihave H4 := (owns_elim c arg4 harg4 x2) $$ H4
  ihave H5 := (owns_elim c arg5 harg5 x3) $$ H5
  ihave H6 := (owns_elim c arg6 harg6 x4) $$ H6
  ihave H7 := (owns_elim c arg7 harg7 x5) $$ H7
  ihave H8 := (owns_elim c arg8 harg8 o6) $$ H8
  ihave H9 := (owns_elim c arg9 harg9 o7) $$ H9
  ihave H10 := (owns_elim c arg10 harg10 s0) $$ H10
  ihave H11 := (owns_elim c arg11 harg11 s1) $$ H11
  ihave H12 := (owns_elim c arg12 harg12 s2) $$ H12
  ihave H13 := (owns_elim c arg13 harg13 s3) $$ H13
  ihave H14 := (owns_elim c arg14 harg14 s4) $$ H14
  iapply ((runC (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.2.2.2.2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, H7, H8, H9, H10, H11, H12, H13, H14⟩
  iapply Hk
  isplitl [H2]; · iapply (owns_unread c arg2 harg2 x0); iexact H2
  isplitl [H3]; · iapply (owns_unread c arg3 harg3 x1); iexact H3
  isplitl [H4]; · iapply (owns_unread c arg4 harg4 x2); iexact H4
  isplitl [H5]; · iapply (owns_unread c arg5 harg5 x3); iexact H5
  isplitl [H6]; · iapply (owns_unread c arg6 harg6 x4); iexact H6
  isplitl [H7]; · iapply (owns_unread c arg7 harg7 x5); iexact H7
  isplitl [H8]; · iapply (owns_writes c arg8 _ _ (C_8 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4)); iexact H8
  isplitl [H9]; · iapply (owns_writes c arg9 _ _ (C_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4)); iexact H9
  isplitl [H10]; · iapply (owns_writes c arg10 _ _ (C_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4)); iexact H10
  isplitl [H11]; · iapply (owns_writes c arg11 _ _ (C_11 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4)); iexact H11
  isplitl [H12]; · iapply (owns_read c arg12 _ _ (C_12 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4 (harg12.unread s2))); iexact H12
  isplitl [H13]; · iapply (owns_writes c arg13 _ _ (C_13 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4)); iexact H13
  iapply (owns_writes c arg14 _ _ (C_14 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4)); iexact H14

set_option maxHeartbeats 1000000 in
/-- A middle expert at a later column block: what the body leaves. -/
theorem takes_D (hc0 : ¬cond0_0 i) (hc1 : ¬cond0_1 i) (hc2 : ¬cond0_2 i) (hc3 : cond0_3 i) (hc4 : ¬cond0_4 i) :
    Takes c i arg2 harg2 arg3 harg3 arg4 harg4 arg5 harg5 arg6 harg6 arg7 harg7 arg8 harg8 arg9 harg9 arg10 harg10 arg11 harg11 arg12 harg12 arg13 harg13 arg14 harg14 x0 x1 x2 x3 x4 x5 o6 o7 s0 s1 s2 s3 s4
      (quantB s2 s4 (i 1)) o7 s0 s1 (updH s2 (i 1).val (hid s0 s1 x2 x3 x4 x5)) (stepA s3 (hid s0 s1 x2 x3 x4 x5)) s4 := by
  intro E K
  unfold Held
  iintro ⟨⟨H2, H3, H4, H5, H6, H7, H8, H9, H10, H11, H12, H13, H14⟩, Hk⟩
  ihave H2 := (owns_elim c arg2 harg2 x0) $$ H2
  ihave H3 := (owns_elim c arg3 harg3 x1) $$ H3
  ihave H4 := (owns_elim c arg4 harg4 x2) $$ H4
  ihave H5 := (owns_elim c arg5 harg5 x3) $$ H5
  ihave H6 := (owns_elim c arg6 harg6 x4) $$ H6
  ihave H7 := (owns_elim c arg7 harg7 x5) $$ H7
  ihave H8 := (owns_elim c arg8 harg8 o6) $$ H8
  ihave H9 := (owns_elim c arg9 harg9 o7) $$ H9
  ihave H10 := (owns_elim c arg10 harg10 s0) $$ H10
  ihave H11 := (owns_elim c arg11 harg11 s1) $$ H11
  ihave H12 := (owns_elim c arg12 harg12 s2) $$ H12
  ihave H13 := (owns_elim c arg13 harg13 s3) $$ H13
  ihave H14 := (owns_elim c arg14 harg14 s4) $$ H14
  iapply ((runD (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, H7, H8, H9, H10, H11, H12, H13, H14⟩
  iapply Hk
  isplitl [H2]; · iapply (owns_unread c arg2 harg2 x0); iexact H2
  isplitl [H3]; · iapply (owns_unread c arg3 harg3 x1); iexact H3
  isplitl [H4]; · iapply (owns_unread c arg4 harg4 x2); iexact H4
  isplitl [H5]; · iapply (owns_unread c arg5 harg5 x3); iexact H5
  isplitl [H6]; · iapply (owns_unread c arg6 harg6 x4); iexact H6
  isplitl [H7]; · iapply (owns_unread c arg7 harg7 x5); iexact H7
  isplitl [H8]; · iapply (owns_writes c arg8 _ _ (D_8 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4)); iexact H8
  isplitl [H9]; · iapply (owns_unread c arg9 harg9 o7); iexact H9
  isplitl [H10]; · iapply (owns_unread c arg10 harg10 s0); iexact H10
  isplitl [H11]; · iapply (owns_unread c arg11 harg11 s1); iexact H11
  isplitl [H12]; · iapply (owns_read c arg12 _ _ (D_12 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4 (harg12.unread s2))); iexact H12
  isplitl [H13]; · iapply (owns_writes c arg13 _ _ (D_13 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4)); iexact H13
  iapply (owns_unread c arg14 harg14 s4); iexact H14

set_option maxHeartbeats 1000000 in
/-- The last round at its first column block: what the body leaves. -/
theorem takes_E (hc0 : cond0_0 i) (hc1 : cond0_1 i) (hc2 : ¬cond0_2 i) (hc3 : ¬cond0_3 i) (hc4 : cond0_4 i) :
    Takes c i arg2 harg2 arg3 harg3 arg4 harg4 arg5 harg5 arg6 harg6 arg7 harg7 arg8 harg8 arg9 harg9 arg10 harg10 arg11 harg11 arg12 harg12 arg13 harg13 arg14 harg14 x0 x1 x2 x3 x4 x5 o6 o7 s0 s1 s2 s3 s4
      (quantB s2 (invB s3) (i 1)) (scaleB s3) (codes x0) (xsB x1) s2 zeroB (invB s3) := by
  intro E K
  unfold Held
  iintro ⟨⟨H2, H3, H4, H5, H6, H7, H8, H9, H10, H11, H12, H13, H14⟩, Hk⟩
  ihave H2 := (owns_elim c arg2 harg2 x0) $$ H2
  ihave H3 := (owns_elim c arg3 harg3 x1) $$ H3
  ihave H4 := (owns_elim c arg4 harg4 x2) $$ H4
  ihave H5 := (owns_elim c arg5 harg5 x3) $$ H5
  ihave H6 := (owns_elim c arg6 harg6 x4) $$ H6
  ihave H7 := (owns_elim c arg7 harg7 x5) $$ H7
  ihave H8 := (owns_elim c arg8 harg8 o6) $$ H8
  ihave H9 := (owns_elim c arg9 harg9 o7) $$ H9
  ihave H10 := (owns_elim c arg10 harg10 s0) $$ H10
  ihave H11 := (owns_elim c arg11 harg11 s1) $$ H11
  ihave H12 := (owns_elim c arg12 harg12 s2) $$ H12
  ihave H13 := (owns_elim c arg13 harg13 s3) $$ H13
  ihave H14 := (owns_elim c arg14 harg14 s4) $$ H14
  iapply ((runE (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2.2.2.2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, H7, H8, H9, H10, H11, H12, H13, H14⟩
  iapply Hk
  isplitl [H2]; · iapply (owns_unread c arg2 harg2 x0); iexact H2
  isplitl [H3]; · iapply (owns_unread c arg3 harg3 x1); iexact H3
  isplitl [H4]; · iapply (owns_unread c arg4 harg4 x2); iexact H4
  isplitl [H5]; · iapply (owns_unread c arg5 harg5 x3); iexact H5
  isplitl [H6]; · iapply (owns_unread c arg6 harg6 x4); iexact H6
  isplitl [H7]; · iapply (owns_unread c arg7 harg7 x5); iexact H7
  isplitl [H8]; · iapply (owns_writes c arg8 _ _ (E_8 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4)); iexact H8
  isplitl [H9]; · iapply (owns_writes c arg9 _ _ (E_9 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4)); iexact H9
  isplitl [H10]; · iapply (owns_writes c arg10 _ _ (E_10 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4)); iexact H10
  isplitl [H11]; · iapply (owns_writes c arg11 _ _ (E_11 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4)); iexact H11
  isplitl [H12]; · iapply (owns_unread c arg12 harg12 s2); iexact H12
  isplitl [H13]; · iapply (owns_writes c arg13 _ _ (E_13 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4)); iexact H13
  iapply (owns_writes c arg14 _ _ (E_14 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4)); iexact H14

set_option maxHeartbeats 1000000 in
/-- The last round at a later column block: what the body leaves. -/
theorem takes_F (hc0 : ¬cond0_0 i) (hc1 : ¬cond0_1 i) (hc2 : ¬cond0_2 i) (hc3 : ¬cond0_3 i) (hc4 : cond0_4 i) :
    Takes c i arg2 harg2 arg3 harg3 arg4 harg4 arg5 harg5 arg6 harg6 arg7 harg7 arg8 harg8 arg9 harg9 arg10 harg10 arg11 harg11 arg12 harg12 arg13 harg13 arg14 harg14 x0 x1 x2 x3 x4 x5 o6 o7 s0 s1 s2 s3 s4
      (quantB s2 s4 (i 1)) o7 s0 s1 s2 s3 s4 := by
  intro E K
  unfold Held
  iintro ⟨⟨H2, H3, H4, H5, H6, H7, H8, H9, H10, H11, H12, H13, H14⟩, Hk⟩
  ihave H2 := (owns_elim c arg2 harg2 x0) $$ H2
  ihave H3 := (owns_elim c arg3 harg3 x1) $$ H3
  ihave H4 := (owns_elim c arg4 harg4 x2) $$ H4
  ihave H5 := (owns_elim c arg5 harg5 x3) $$ H5
  ihave H6 := (owns_elim c arg6 harg6 x4) $$ H6
  ihave H7 := (owns_elim c arg7 harg7 x5) $$ H7
  ihave H8 := (owns_elim c arg8 harg8 o6) $$ H8
  ihave H9 := (owns_elim c arg9 harg9 o7) $$ H9
  ihave H10 := (owns_elim c arg10 harg10 s0) $$ H10
  ihave H11 := (owns_elim c arg11 harg11 s1) $$ H11
  ihave H12 := (owns_elim c arg12 harg12 s2) $$ H12
  ihave H13 := (owns_elim c arg13 harg13 s3) $$ H13
  ihave H14 := (owns_elim c arg14 harg14 s4) $$ H14
  iapply ((runF (F := Ideal) c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4).2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, H7, H8, H9, H10, H11, H12, H13, H14⟩
  iapply Hk
  isplitl [H2]; · iapply (owns_unread c arg2 harg2 x0); iexact H2
  isplitl [H3]; · iapply (owns_unread c arg3 harg3 x1); iexact H3
  isplitl [H4]; · iapply (owns_unread c arg4 harg4 x2); iexact H4
  isplitl [H5]; · iapply (owns_unread c arg5 harg5 x3); iexact H5
  isplitl [H6]; · iapply (owns_unread c arg6 harg6 x4); iexact H6
  isplitl [H7]; · iapply (owns_unread c arg7 harg7 x5); iexact H7
  isplitl [H8]; · iapply (owns_writes c arg8 _ _ (F_8 c i arg2 harg2 arg3 harg3 arg4 harg4 arg5 harg5 arg6 harg6 arg7 harg7 arg8 harg8 arg9 harg9 arg10 harg10 arg11 harg11 arg12 harg12 arg13 harg13 arg14 harg14 hc0 hc1 hc2 hc3 hc4 x0 x1 x2 x3 x4 x5 o6 o7 s0 s1 s2 s3 s4)); iexact H8
  isplitl [H9]; · iapply (owns_unread c arg9 harg9 o7); iexact H9
  isplitl [H10]; · iapply (owns_unread c arg10 harg10 s0); iexact H10
  isplitl [H11]; · iapply (owns_unread c arg11 harg11 s1); iexact H11
  isplitl [H12]; · iapply (owns_unread c arg12 harg12 s2); iexact H12
  isplitl [H13]; · iapply (owns_unread c arg13 harg13 s3); iexact H13
  iapply (owns_unread c arg14 harg14 s4); iexact H14

end Cert.GateUpIdeal.Value
end
-- ==== Proof.GateUpRun.lean ====
module

public import proofs.«01_k».proof.Proof.GateUpBody
public import proofs.«01_k».proof.Proof.GateUpInv
public import Idealize.ShloMosaic.Lib.Claim

/-! # The run of the gate-up kernel

The proof data (what every window's buffer holds after every point, and what the scratch buffers hold
between points), the body obligation, the launch, and the frame. -/

@[expose] public section
set_option maxRecDepth 16384
noncomputable section
namespace Cert.GateUpIdeal.Value
open Cert.GateUpIdeal Cert.GateUpIdeal.Gen Cert.GateUpIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
local notation "𝕄" => MT nD τ sig Unit (Elt Ideal) ℕ (UR sig nD τ) ℕ
variable (m : (ℓ : Loc nD τ sig) → Buf (Elt Ideal) ℓ) (ρ : Dev nD → PrngReg)

/-- The scratch buffers hold what the points before number `n` left. -/
def Between (c : Dev nD) (n : ℕ) : sProp 𝕄 :=
  iprop(∃ X S H A I, ⌜Inv m c n X S H A I⌝ ∗ owns (c : Thread nD τ) scM0_0 fullShare X ∗ owns (c : Thread nD τ) scM0_1 fullShare S
    ∗ owns (c : Thread nD τ) scM0_2 fullShare H ∗ owns (c : Thread nD τ) scM0_3 fullShare A ∗ owns (c : Thread nD τ) scM0_4 fullShare I
    ∗ (∃ r, prngReg c r))

/-- The proof data on core `c`: the arrays as the region finds them, each input's buffer at its block, the two outputs at
    the quantised block and the block of scales of the previous expert. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => quantAt m c t.val
    | ⟨7, _⟩ => scaleAt m c t.val
  Φ t := Between m c t.val
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = quantAt m c t.val := by dsimp only [dats]
theorem after0_7 (c : Dev nD) (t : Fin cfg0.N) : (dats m 0 c).after 7 t = scaleAt m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## When the outputs' buffers are stored into and written back -/

theorem idle_6 : ∀ t : Fin cfg0.N, cfg0.idle 6 (grid0.coords t) = decide (t.val < 8) :=
  (by decide +kernel : ∀ t : Fin grid0.N, idle0 6 (grid0.coords t) = decide (t.val < 8))

theorem flush_6 : ∀ t : Fin cfg0.N, (cfg0.win 6).flush t = decide (8 ≤ t.val) :=
  (by decide +kernel : ∀ t : Fin grid0.N, win0_6.flush t = decide (8 ≤ t.val))

theorem idle_7 : ∀ t : Fin cfg0.N, cfg0.idle 7 (grid0.coords t) = !decide (8 ≤ t.val ∧ t.val % 8 = 0) :=
  (by decide +kernel : ∀ t : Fin grid0.N, idle0 7 (grid0.coords t) = !decide (8 ≤ t.val ∧ t.val % 8 = 0))

theorem flush_7 : ∀ t : Fin cfg0.N, (cfg0.win 7).flush t = decide (8 ≤ t.val ∧ t.val % 8 = 7) :=
  (by decide +kernel : ∀ t : Fin grid0.N, win0_7.flush t = decide (8 ≤ t.val ∧ t.val % 8 = 7))

/-- From the second round on, the scale window's buffer holds the round's block after its first point. -/
theorem before_7 (c : Dev nD) : ∀ k : ℕ, ∀ t : Fin cfg0.N, 8 ≤ t.val → t.val % 8 = k + 1 → ∀ d, (dats m 0 c).before 7 t d = scaleAt m c t.val := by
  intro k
  induction k with
  | zero =>
    intro t h8 hk d
    have ht := t_lt t
    have e : scaleAt m c t.val = scaleAt m c (t.val - 1) := by unfold scaleAt; rw [show (t.val - 1) / 8 = t.val / 8 by omega]
    rw [(dats m 0 c).before_of_pos 7 t (by omega) rfl d, flush_7, if_neg (by simp; omega), e]
    unfold Dat.left
    rw [idle_7, decide_eq_true (by constructor <;> simp <;> omega)]
    exact after0_7 m c _
  | succ k ih =>
    intro t h8 hk d
    have ht := t_lt t
    have e : scaleAt m c t.val = scaleAt m c (t.val - 1) := by unfold scaleAt; rw [show (t.val - 1) / 8 = t.val / 8 by omega]
    rw [(dats m 0 c).before_of_pos 7 t (by omega) rfl d, flush_7, if_neg (by simp; omega), e]
    unfold Dat.left
    rw [idle_7, decide_eq_false (by simp; omega)]
    exact ih ⟨t.val - 1, _⟩ (by simp; omega) (by simp; omega) d

/-- From the second round on the body leaves the code window's buffer at the point's block. -/
theorem leaves_6 (c : Dev nD) (t : Fin cfg0.N) (h : 8 ≤ t.val) :
    (dats m 0 c).leavesExact 6 t = owns (c : Thread nD τ) (ms0_6 t) fullShare (quantAt m c t.val) := by
  unfold Dat.leavesExact; rw [idle_6 t, decide_eq_false (by omega), after0_6]

/-- In the first round it leaves that buffer as it found it. -/
theorem leaves_6_idle (c : Dev nD) (t : Fin cfg0.N) (h : t.val < 8) :
    (dats m 0 c).leavesExact 6 t = iprop(∃ d, owns (c : Thread nD τ) (ms0_6 t) fullShare ((dats m 0 c).before 6 t d)) :=
  (dats m 0 c).leavesExact_idle 6 t ((idle_6 t).trans (decide_eq_true h)) ((flush_6 t).trans (decide_eq_false (by omega)))

/-- In the first round it leaves the scale window's buffer as it found it. -/
theorem leaves_7_idle (c : Dev nD) (t : Fin cfg0.N) (h : t.val < 8) :
    (dats m 0 c).leavesExact 7 t = iprop(∃ d, owns (c : Thread nD τ) (ms0_7 t) fullShare ((dats m 0 c).before 7 t d)) :=
  (dats m 0 c).leavesExact_idle 7 t (by rw [idle_7, decide_eq_false (by omega)]; rfl) ((flush_7 t).trans (decide_eq_false (by omega)))

/-- From the second round on, the scale window's buffer at the round's block is what the body must leave. -/
theorem leaves_7 (c : Dev nD) (t : Fin cfg0.N) (h : 8 ≤ t.val) :
    (owns (c : Thread nD τ) (ms0_7 t) fullShare (scaleAt m c t.val) : sProp 𝕄) ⊢ (dats m 0 c).leavesExact 7 t := by
  by_cases h0 : t.val % 8 = 0
  · unfold Dat.leavesExact; rw [idle_7 t, decide_eq_true ⟨h, h0⟩, after0_7]; exact Idealize.SL.BI.Entails.refl _
  by_cases h7 : t.val % 8 = 7
  · unfold Dat.leavesExact; rw [idle_7 t, decide_eq_false (by omega), flush_7 t, decide_eq_true ⟨h, h7⟩, after0_7]; exact Idealize.SL.BI.Entails.refl _
  · rw [(dats m 0 c).leavesExact_idle 7 t (by rw [idle_7, decide_eq_false (by omega)]; rfl) ((flush_7 t).trans (decide_eq_false (by omega)))]
    iintro H
    iexists (scaleAt m c t.val)
    rw [before_7 m c (t.val % 8 - 1) t h (by omega)]
    iexact H

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The second grid coordinate of a point. -/
theorem coord_1 (t : Fin cfg0.N) : (grid0.coords t 1).val = t.val % 8 :=
  (Pipeline.Grid.coords_val t 1 (by decide) rfl : (grid0.coords t 1).val = t.val / 1 % 8).trans (by rw [Nat.div_one])

set_option maxHeartbeats 2000000 in
/-- A body that takes the buffers to contents of which the invariant holds, and the outputs' buffers to what they must be
    left at, meets the obligation at its point. -/
theorem sound_of (c : Dev nD) (t : Fin cfg0.N)
    (hstep : ∀ (d6 : Vec Ideal S1536x512 .fp8e4m3) (d7 : Vec Ideal S1536x128 .f32) (X : Vec Ideal S1536x3072 .fp8e4m3) (S : Vec Ideal S1536x128 .f32) (H : Vec Ideal S1536x4096 .f32) (A I : Vec Ideal S1536x128 .f32), Inv m c t.val X S H A I →
      ∃ (n6 : Vec Ideal S1536x512 .fp8e4m3) (n7 : Vec Ideal S1536x128 .f32) (n0 : Vec Ideal S1536x3072 .fp8e4m3) (n1 : Vec Ideal S1536x128 .f32) (n2 : Vec Ideal S1536x4096 .f32) (n3 n4 : Vec Ideal S1536x128 .f32),
        Takes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _)
          (iblk m c 0 t) (iblk m c 1 t) (iblk m c 2 t) (iblk m c 3 t) (iblk m c 4 t) (iblk m c 5 t) ((dats m 0 c).before 6 t d6) ((dats m 0 c).before 7 t d7) X S H A I n6 n7 n0 n1 n2 n3 n4
        ∧ Known m c t.val n0 n1 n2 n3 n4
        ∧ ((owns (c : Thread nD τ) (ms0_6 t) fullShare n6 : sProp 𝕄) ⊢ (dats m 0 c).leavesExact 6 t)
        ∧ ((owns (c : Thread nD τ) (ms0_7 t) fullShare n7 : sProp 𝕄) ⊢ (dats m 0 c).leavesExact 7 t)) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = Between m c (t.val + 1) from rfl, show (dats m 0 c).Φ t.castSucc = Between m c t.val from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  unfold Between
  iintro ⟨⟨%X, %S, %H, %A, %I, %hI, HS0, HS1, HS2, HS3, HS4, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨n6, n7, n0, n1, n2, n3, n4, ht, hk, h6, h7⟩ := hstep d6 d7 X S H A I hI
  unfold Takes Held at ht
  iapply (ht Set.univ _)
  isplitl [H0 H1 H2 H3 H4 H5 H6 H7 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    iexact HS4
  iintro ⟨H0, H1, H2, H3, H4, H5, H6, H7, HS0, HS1, HS2, HS3, HS4⟩
  isplitl [HS0 HS1 HS2 HS3 HS4 Hg]
  · iexists n0, n1, n2, n3, n4
    isplitr
    · ipureintro; intro t' e'; obtain rfl : t' = t.val := by omega
      exact hk
    isplitl [HS0]; · iexact HS0
    isplitl [HS1]; · iexact HS1
    isplitl [HS2]; · iexact HS2
    isplitl [HS3]; · iexact HS3
    isplitl [HS4]; · iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply h6; iexact H6
  iapply h7; iexact H7

set_option maxHeartbeats 2000000 in
/-- The body meets its obligation at every point. -/
theorem sound_body (c : Dev nD) (t : Fin cfg0.N) :
    bodyPre m c t ⊢ wp frame (wpE (defs₀ (F := Ideal)) Variants.none c none) Set.univ (bodyAt0 t) (fun _ => bodyPost m c t) := by
  have ht := t_lt t
  refine sound_of m c t fun d6 d7 X S H A I hI => ?_
  have keep6 : t.val < 8 → ((owns (c : Thread nD τ) (ms0_6 t) fullShare ((dats m 0 c).before 6 t d6) : sProp 𝕄) ⊢ (dats m 0 c).leavesExact 6 t) := fun h => by
    rw [leaves_6_idle m c t h]; iintro H; iexists d6; iexact H
  have keep7 : t.val < 8 → ((owns (c : Thread nD τ) (ms0_7 t) fullShare ((dats m 0 c).before 7 t d7) : sProp 𝕄) ⊢ (dats m 0 c).leavesExact 7 t) := fun h => by
    rw [leaves_7_idle m c t h]; iintro H; iexists d7; iexact H
  have give6 : 8 ≤ t.val → ∀ v, v = quantAt m c t.val → ((owns (c : Thread nD τ) (ms0_6 t) fullShare v : sProp 𝕄) ⊢ (dats m 0 c).leavesExact 6 t) := fun h v hv => by
    rw [leaves_6 m c t h, hv]
  have give7 : 8 ≤ t.val → ∀ v, v = scaleAt m c t.val → ((owns (c : Thread nD τ) (ms0_7 t) fullShare v : sProp 𝕄) ⊢ (dats m 0 c).leavesExact 7 t) := fun h v hv => by
    rw [hv]; exact leaves_7 m c t h
  have stay7 : 8 ≤ t.val → t.val % 8 ≠ 0 → (dats m 0 c).before 7 t d7 = scaleAt m c t.val := fun h h' => before_7 m c (t.val % 8 - 1) t h (by omega) d7
  have hk := coord_1 t
  by_cases hf : t.val % 8 = 0
  · by_cases h8 : t.val < 8
    · exact ⟨_, _, _, _, _, _, _, takes_A _ _ _ _ _ _ _ _ _ _ _ _ _ _ _ _ _ _ _ _ _ _ _ _ _ _ _ _ _ _ _ _ _ _ _ _ _ _ _ _ _ (by rw [hcond0_0]; omega) (by rw [hcond0_1]; omega) (by rw [hcond0_2]; omega) (by rw [hcond0_3]; omega) (by rw [hcond0_4]; omega),
        known_first hI hf (by omega) _ (fun h => absurd h (by omega)) _ hk, keep6 h8, keep7 h8⟩
    · by_cases h128 : t.val < 128
      · exact ⟨_, _, _, _, _, _, _, takes_C _ _ _ _ _ _ _ _ _ _ _ _ _ _ _ _ _ _ _ _ _ _ _ _ _ _ _ _ _ _ _ _ _ _ _ _ _ _ _ _ _ (by rw [hcond0_0]; omega) (by rw [hcond0_1]; omega) (by rw [hcond0_2]; omega) (by rw [hcond0_3]; omega) (by rw [hcond0_4]; omega),
          known_first hI hf (by omega) _ (fun _ => rfl) _ hk, give6 (by omega) _ (quant_first hI hf (by omega) _ hk), give7 (by omega) _ (scale_first hI hf (by omega))⟩
      · exact ⟨_, _, _, _, _, _, _, takes_E _ _ _ _ _ _ _ _ _ _ _ _ _ _ _ _ _ _ _ _ _ _ _ _ _ _ _ _ _ _ _ _ _ _ _ _ _ _ _ _ _ (by rw [hcond0_0]; omega) (by rw [hcond0_1]; omega) (by rw [hcond0_2]; omega) (by rw [hcond0_3]; omega) (by rw [hcond0_4]; omega),
          known_close_first hI hf (by omega) _ _ _, give6 (by omega) _ (quant_first hI hf (by omega) _ hk), give7 (by omega) _ (scale_first hI hf (by omega))⟩
  · by_cases h8 : t.val < 8
    · exact ⟨_, _, _, _, _, _, _, takes_B _ _ _ _ _ _ _ _ _ _ _ _ _ _ _ _ _ _ _ _ _ _ _ _ _ _ _ _ _ _ _ _ _ _ _ _ _ _ _ _ _ (by rw [hcond0_0]; omega) (by rw [hcond0_1]; omega) (by rw [hcond0_2]; omega) (by rw [hcond0_3]; omega) (by rw [hcond0_4]; omega),
        known_later hI hf (by omega) _ hk, keep6 h8, keep7 h8⟩
    · by_cases h128 : t.val < 128
      · exact ⟨_, _, _, _, _, _, _, takes_D _ _ _ _ _ _ _ _ _ _ _ _ _ _ _ _ _ _ _ _ _ _ _ _ _ _ _ _ _ _ _ _ _ _ _ _ _ _ _ _ _ (by rw [hcond0_0]; omega) (by rw [hcond0_1]; omega) (by rw [hcond0_2]; omega) (by rw [hcond0_3]; omega) (by rw [hcond0_4]; omega),
          known_later hI hf (by omega) _ hk, give6 (by omega) _ (quant_later hI hf (by omega) _ hk), give7 (by omega) _ (stay7 (by omega) hf)⟩
      · exact ⟨_, _, _, _, _, _, _, takes_F _ _ _ _ _ _ _ _ _ _ _ _ _ _ _ _ _ _ _ _ _ _ _ _ _ _ _ _ _ _ _ _ _ _ _ _ _ _ _ _ _ (by rw [hcond0_0]; omega) (by rw [hcond0_1]; omega) (by rw [hcond0_2]; omega) (by rw [hcond0_3]; omega) (by rw [hcond0_4]; omega),
          known_close_later hI hf (by omega), give6 (by omega) _ (quant_later hI hf (by omega) _ hk), give7 (by omega) _ (stay7 (by omega) hf)⟩

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- Before the first point the scratch buffers hold anything, -/
theorem hin (c : Dev nD) : Pipeline.ΦA spec0 c ⊢ (dats m 0 c).Φ 0 := by
  rw [show (dats m 0 c).Φ 0 = Between m c 0 from rfl, PhiA0_eq]
  unfold Between
  iintro ⟨⟨⟨%X, H0⟩, ⟨%S, H1⟩, ⟨%H, H2⟩, ⟨%A, H3⟩, ⟨%I, H4⟩⟩, Hg⟩
  iexists X, S, H, A, I
  isplitr
  · ipureintro; intro t h; omega
  isplitl [H0]; · iexact H0
  isplitl [H1]; · iexact H1
  isplitl [H2]; · iexact H2
  isplitl [H3]; · iexact H3
  isplitl [H4]; · iexact H4
  iexact Hg

/-- and after the last they are given back. -/
theorem hout (c : Dev nD) : (dats m 0 c).Φ (Fin.last cfg0.N) ⊢ Pipeline.ΦA spec0 c := by
  rw [show (dats m 0 c).Φ (Fin.last cfg0.N) = Between m c cfg0.N from rfl, PhiA0_eq]
  unfold Between
  iintro ⟨%X, %S, %H, %A, %I, -, H0, H1, H2, H3, H4, Hg⟩
  isplitr [Hg]
  · isplitl [H0]; · iexists X; iexact H0
    isplitl [H1]; · iexists S; iexact H1
    isplitl [H2]; · iexists H; iexact H2
    isplitl [H3]; · iexists A; iexact H3
    iexists I; iexact H4
  iexact Hg

set_option backward.isDefEq.respectTransparency.types false in
/-- The launch: every array ends at what the proof data say, and every semaphore counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every array of the pipeline ends at what the proof data say. -/
theorem run_main : θ_run defs (onTc (τ := τ) (main (F := Ideal))) (s₀ m ρ) (Pipeline.FramePost cfgs (dats m) 0 (V m)) :=
  (θ_run defs _ _).mono (fun _ h => h.1) (run_main_quiescent m ρ)

/-- The frame: the run terminates with the argument arrays unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.GateUpIdeal.Value
end
-- ==== Proof.GateUpValue.lean ====
module

public import proofs.«01_k».proof.Proof.GateUpSpec
public import proofs.«01_k».proof.Proof.GateUpRowMax
public import proofs.«01_k».proof.Proof.GateUpRun
public import Idealize.ShloMosaic.Lib.Pipeline.ValueKit

/-! # The arrays after the gate-up kernel's run

The blocks left by the points are the blocks of `codesOut` and `scalesOut` of the arguments. -/

@[expose] public section
set_option maxRecDepth 16384
noncomputable section
open Idealize.ShloMosaic Idealize.ShloMosaic.TcCoe Idealize.SL.Sem
open Idealize.ShloMosaic.Pipeline (Dat)
namespace Cert.GateUpIdeal.Value
open Cert.GateUpIdeal Cert.GateUpIdeal.Gen Cert.GateUpIdeal.Run
variable (m : (ℓ : Loc nD τ sig) → Buf (Elt Ideal) ℓ) (c : Dev nD)

/-- Where a point's input blocks lie, in the first sixteen rounds. -/
theorem idx : ∀ t : Fin cfg0.N, t.val < 128 → win0_0.index t = ![t.val / 8, 0, 0, 0] ∧ win0_1.index t = ![t.val / 8, 0]
    ∧ win0_2.index t = ![t.val / 8, t.val % 8, 0] ∧ win0_3.index t = ![t.val / 8, 8 + t.val % 8, 0]
    ∧ win0_4.index t = ![t.val / 8, 0, t.val % 8] ∧ win0_5.index t = ![t.val / 8, 0, 8 + t.val % 8] := by
  intro t
  exact (by decide +kernel : ∀ t : Fin grid0.N, t.val < 128 → win0_0.index t = ![t.val / 8, 0, 0, 0] ∧ win0_1.index t = ![t.val / 8, 0]
    ∧ win0_2.index t = ![t.val / 8, t.val % 8, 0] ∧ win0_3.index t = ![t.val / 8, 8 + t.val % 8, 0]
    ∧ win0_4.index t = ![t.val / 8, 0, t.val % 8] ∧ win0_5.index t = ![t.val / 8, 0, 8 + t.val % 8]) t

/-- Where a point's output blocks lie, from the second round on. -/
theorem idx_out : ∀ t : Fin cfg0.N, 8 ≤ t.val → win0_6.index t = ![t.val / 8 - 1, t.val % 8] ∧ win0_7.index t = ![t.val / 8 - 1, 0] := by
  intro t
  exact (by decide +kernel : ∀ t : Fin grid0.N, 8 ≤ t.val → win0_6.index t = ![t.val / 8 - 1, t.val % 8] ∧ win0_7.index t = ![t.val / 8 - 1, 0]) t

/-- The packed codes as the call receives them: the argument's rows in tiles. -/
theorem words (a : Fin 3072) (b : Fin 6) (s : Fin 8) (l : Fin 128) (n : Fin 147456) (hn : n.val = 48 * a.val + 8 * b.val + s.val) :
    (V m c main_v1 : IVec S3072x6x8x128 32) (ix4 a b s l) = (m ((c : Thread nD τ).loc main_arg0) (ix2 n l) : BitVec 32) := by
  entry_read
  pointwise
  blk_ext []

/-- The weight scales as the call receives them. -/
theorem wscales (e : Fin 16) (z : Fin 1) (q : Fin 8192) :
    (V m c main_v0 : FVec Ideal S16x1x8192 .f32) (ix3 e z q) = (m ((c : Thread nD τ).loc main_arg3) (ix2 e q) : EReal) := by
  entry_read
  pointwise
  blk_ext []

theorem in0 (t : Fin cfg0.N) (ht : t.val < 128) (a : Fin 192) (b : Fin 6) (s : Fin 8) (l : Fin 128) (n : Fin 147456)
    (hn : n.val = 48 * (192 * (t.val / 8) + a.val) + 8 * b.val + s.val) :
    (iblk m c 0 t : IVec S192x6x8x128 32) (ix4 a b s l) = (m ((c : Thread nD τ).loc main_arg0) (ix2 n l) : BitVec 32) := by
  rw [← words m c ⟨192 * (t.val / 8) + a.val, by omega⟩ b s l n hn]
  blk_point [iblk, idx t ht]

theorem in1 (t : Fin cfg0.N) (ht : t.val < 128) (r : Fin 1536) (l : Fin 128) (n : Fin 24576) (hn : n.val = 1536 * (t.val / 8) + r.val) :
    (iblk m c 1 t : FVec Ideal S1536x128 .f32) (ix2 r l) = (m ((c : Thread nD τ).loc main_arg1) (ix2 n l) : EReal) := by
  blk_point [iblk, V, idx t ht]

theorem in2 (t : Fin cfg0.N) (ht : t.val < 128) (z : Fin 1) (q : Fin 512) (d : Fin 3072) (e : Fin 16) (p : Fin 8192) (he : e.val = t.val / 8)
    (hp : p.val = 512 * (t.val % 8) + q.val) :
    (iblk m c 2 t : FVec Ideal S1x512x3072 .fp8e4m3) (ix3 z q d) = (m ((c : Thread nD τ).loc main_arg2) (ix3 e p d) : EReal) := by
  blk_point [iblk, V, idx t ht]

theorem in3 (t : Fin cfg0.N) (ht : t.val < 128) (z : Fin 1) (q : Fin 512) (d : Fin 3072) (e : Fin 16) (p : Fin 8192) (he : e.val = t.val / 8)
    (hp : p.val = 4096 + (512 * (t.val % 8) + q.val)) :
    (iblk m c 3 t : FVec Ideal S1x512x3072 .fp8e4m3) (ix3 z q d) = (m ((c : Thread nD τ).loc main_arg2) (ix3 e p d) : EReal) := by
  blk_point [iblk, V, idx t ht]

theorem in4 (t : Fin cfg0.N) (ht : t.val < 128) (z z' : Fin 1) (q : Fin 512) (e : Fin 16) (p : Fin 8192) (he : e.val = t.val / 8)
    (hp : p.val = 512 * (t.val % 8) + q.val) :
    (iblk m c 4 t : FVec Ideal S1x1x512 .f32) (ix3 z z' q) = (m ((c : Thread nD τ).loc main_arg3) (ix2 e p) : EReal) := by
  rw [← wscales m c e 0 p]
  blk_point [iblk, idx t ht]

theorem in5 (t : Fin cfg0.N) (ht : t.val < 128) (z z' : Fin 1) (q : Fin 512) (e : Fin 16) (p : Fin 8192) (he : e.val = t.val / 8)
    (hp : p.val = 4096 + (512 * (t.val % 8) + q.val)) :
    (iblk m c 5 t : FVec Ideal S1x1x512 .f32) (ix3 z z' q) = (m ((c : Thread nD τ).loc main_arg3) (ix2 e p) : EReal) := by
  rw [← wscales m c e 0 p]
  blk_point [iblk, idx t ht]

theorem pt_lt (n : ℕ) (h : n < 136) : (pt n).val = n := Nat.mod_eq_of_lt h

/-- The codes of expert `e`. -/
theorem codesE_at (e : ℕ) (he : e < 16) (r : Fin 1536) (d : Fin 3072) (n : Fin 24576) (hn : n.val = 1536 * e + r.val) :
    codesE m c e (ix2 r d) = byteAt (m ((c : Thread nD τ).loc main_arg0)) n d := by
  have hp : (pt (8 * e)).val = 8 * e := pt_lt _ (by omega)
  show code (iblk m c 0 (pt (8 * e))) r d = _
  unfold code byteAt
  refine congrArg _ (congrArg _ ?_)
  refine in0 m c (pt (8 * e)) (by omega) _ _ _ _ _ ?_
  rw [hp]; simp only; omega

/-- The hidden block of a point, in the arguments. -/
theorem blkAt_at (t : ℕ) (ht : t < 128) (r : Fin 1536) (k : Fin 512) (n : Fin 24576) (q : Fin 4096) (hn : n.val = 1536 * (t / 8) + r.val)
    (hq : q.val = 512 * (t % 8) + k.val) : blkAt m c t r k = hidAt (m ((c : Thread nD τ).loc main_arg0)) (m ((c : Thread nD τ).loc main_arg1))
      (m ((c : Thread nD τ).loc main_arg2)) (m ((c : Thread nD τ).loc main_arg3)) n q := by
  have hp : (pt t).val = t := pt_lt _ (by omega)
  have hp' : (pt (8 * (t / 8))).val = 8 * (t / 8) := pt_lt _ (by omega)
  have hs : xsE m c (t / 8) (ix2 r 0) = (m ((c : Thread nD τ).loc main_arg1) (ix2 n 0) : EReal) :=
    (show xsE m c (t / 8) (ix2 r 0) = (iblk m c 1 (pt (8 * (t / 8))) : FVec Ideal S1536x128 .f32) (ix2 r 0) from rfl).trans
      (in1 m c (pt (8 * (t / 8))) (by omega) r 0 n (by rw [hp']; omega))
  unfold blkAt hid hidAt
  rw [hs, in4 m c (pt t) (by omega) 0 0 k ⟨n.val / 1536, by omega⟩ ⟨q.val, by omega⟩ (by rw [hp]; simp only; omega) (by rw [hp]; exact hq),
    in5 m c (pt t) (by omega) 0 0 k ⟨n.val / 1536, by omega⟩ ⟨4096 + q.val, by omega⟩ (by rw [hp]; simp only; omega) (by rw [hp]; simp only; omega)]
  have h1 : ∀ d : Fin 3072, codesE m c (t / 8) (ix2 r d) * (iblk m c 2 (pt t) : FVec Ideal S1x512x3072 .fp8e4m3) (ix3 0 k d)
      = byteAt (m ((c : Thread nD τ).loc main_arg0)) n d * (m ((c : Thread nD τ).loc main_arg2) (ix3 ⟨n.val / 1536, by omega⟩ ⟨q.val, by omega⟩ d) : EReal) := fun d => by
    rw [codesE_at m c _ (by omega) r d n hn, in2 m c (pt t) (by omega) 0 k d ⟨n.val / 1536, by omega⟩ ⟨q.val, by omega⟩ (by rw [hp]; simp only; omega) (by rw [hp]; exact hq)]
  have h2 : ∀ d : Fin 3072, codesE m c (t / 8) (ix2 r d) * (iblk m c 3 (pt t) : FVec Ideal S1x512x3072 .fp8e4m3) (ix3 0 k d)
      = byteAt (m ((c : Thread nD τ).loc main_arg0)) n d * (m ((c : Thread nD τ).loc main_arg2) (ix3 ⟨n.val / 1536, by omega⟩ ⟨4096 + q.val, by omega⟩ d) : EReal) := fun d => by
    rw [codesE_at m c _ (by omega) r d n hn, in3 m c (pt t) (by omega) 0 k d ⟨n.val / 1536, by omega⟩ ⟨4096 + q.val, by omega⟩ (by rw [hp]; simp only; omega) (by rw [hp]; simp only; omega)]
  rw [Finset.sum_congr rfl fun d _ => h1 d, Finset.sum_congr rfl fun d _ => h2 d]

/-- The hidden rows of expert `e`, in the arguments. -/
theorem hidE_at (e : ℕ) (he : e < 16) (r : Fin 1536) (q : Fin 4096) (n : Fin 24576) (hn : n.val = 1536 * e + r.val) :
    hidE m c e (ix2 r q) = hidAt (m ((c : Thread nD τ).loc main_arg0)) (m ((c : Thread nD τ).loc main_arg1))
      (m ((c : Thread nD τ).loc main_arg2)) (m ((c : Thread nD τ).loc main_arg3)) n q := by
  have hq := q.isLt
  exact blkAt_at m c (8 * e + q.val / 512) (by omega) r ⟨q.val % 512, by omega⟩ n q (by omega) (by simp only; omega)

/-- The scaled largest magnitude of a row, in the arguments. -/
theorem rowT_at (e : ℕ) (he : e < 16) (r : Fin 1536) (n : Fin 24576) (hn : n.val = 1536 * e + r.val) :
    rowT (maxE m c e 7) r = topAt (m ((c : Thread nD τ).loc main_arg0)) (m ((c : Thread nD τ).loc main_arg1))
      (m ((c : Thread nD τ).loc main_arg2)) (m ((c : Thread nD τ).loc main_arg3)) n := by
  rw [rowT_eq]
  unfold topAt
  simp only [hidE_at m c e he r _ n hn]

theorem quantAt_at (t : ℕ) (h8 : 8 ≤ t) (ht : t < 136) (r : Fin 1536) (k : Fin 512) (n : Fin 24576) (q : Fin 4096) (hn : n.val = 1536 * (t / 8 - 1) + r.val)
    (hq : q.val = 512 * (t % 8) + k.val) : quantAt m c t (ix2 r k) = codeAt (m ((c : Thread nD τ).loc main_arg0)) (m ((c : Thread nD τ).loc main_arg1))
      (m ((c : Thread nD τ).loc main_arg2)) (m ((c : Thread nD τ).loc main_arg3)) n q := by
  show clip448 (hidE m c (t / 8 - 1) (ix2 r ⟨512 * (t % 8) + k.val, _⟩) * invB (maxE m c (t / 8 - 1) 7) (ix2 r ⟨k.val % 128, _⟩)) = _
  rw [invB_at, rowT_at m c _ (by omega) r n hn, hidE_at m c _ (by omega) r _ n hn]
  unfold codeAt
  rw [show (⟨512 * (t % 8) + k.val, by omega⟩ : Fin 4096) = q from Fin.ext hq.symm]

theorem scaleAt_at (t : ℕ) (h8 : 8 ≤ t) (ht : t < 136) (r : Fin 1536) (l : Fin 128) (n : Fin 24576) (hn : n.val = 1536 * (t / 8 - 1) + r.val) :
    scaleAt m c t (ix2 r l) = rowScale (m ((c : Thread nD τ).loc main_arg0)) (m ((c : Thread nD τ).loc main_arg1))
      (m ((c : Thread nD τ).loc main_arg2)) (m ((c : Thread nD τ).loc main_arg3)) n := by
  unfold scaleAt rowScale
  rw [scaleB_at, rowT_at m c _ (by omega) r n hn]

/-- The codes array after the run. -/
theorem final_codes : (dats m 0 c).arrAt 6 cfg0.N = codesOut (m ((c : Thread nD τ).loc main_arg0)) (m ((c : Thread nD τ).loc main_arg1))
      (m ((c : Thread nD τ).loc main_arg2)) (m ((c : Thread nD τ).loc main_arg3)) := by
  refine (dats m 0 c).arrAt_eq_of_covers 6 _ (by decide +kernel) fun t hf y => ?_
  have ht := t_lt t
  have h8 : 8 ≤ t.val := by rw [flush_6] at hf; simpa using hf
  have e0 : ((((cfg0.win 6).blk t).view.emb y) 0).val = 1536 * (t.val / 8 - 1) + (y 0).val := by blk_simp [idx_out t h8]; omega
  have e1 : ((((cfg0.win 6).blk t).view.emb y) 1).val = 512 * (t.val % 8) + (y 1).val := by blk_simp [idx_out t h8]; omega
  blk_simp
  rw [after0_6]
  exact (congrArg _ (eq_ix2 y)).trans (quantAt_at m c t.val h8 ht (y 0) (y 1) _ _ e0 e1)

/-- The scales array after the run. -/
theorem final_scales : (dats m 0 c).arrAt 7 cfg0.N = scalesOut (m ((c : Thread nD τ).loc main_arg0)) (m ((c : Thread nD τ).loc main_arg1))
      (m ((c : Thread nD τ).loc main_arg2)) (m ((c : Thread nD τ).loc main_arg3)) := by
  refine (dats m 0 c).arrAt_eq_of_covers 7 _ (by decide +kernel) fun t hf y => ?_
  have ht := t_lt t
  have h8 : 8 ≤ t.val := by rw [flush_7] at hf; simp at hf; exact hf.1
  have e0 : ((((cfg0.win 7).blk t).view.emb y) 0).val = 1536 * (t.val / 8 - 1) + (y 0).val := by blk_simp [idx_out t h8]; omega
  blk_simp
  rw [after0_7]
  exact (congrArg _ (eq_ix2 y)).trans (scaleAt_at m c t.val h8 ht (y 0) (y 1) _ e0)

end Cert.GateUpIdeal.Value
end
-- ==== Proof.GateUpRef.lean ====
module

public import proofs.«01_k».proof.Proof.Gen.GateUpReferenceIdeal.Value
public import Idealize.ShloMosaic.Lib.Pipeline.ValueKit
public import Idealize.ShloMosaic.Lib.Claim
public import proofs.«01_k».proof.Proof.GateUpSpec

/-! # What the gate-up reference computes

The reference's two arrays after its run are `codesOut` and `scalesOut` of its arguments. -/

@[expose] public section
set_option maxRecDepth 16384
noncomputable section
open Idealize.ShloMosaic Idealize.ShloMosaic.TcCoe Idealize.SL.Sem
open Idealize.ShloMosaic.Pipeline (Dat)
namespace Cert.GateUpReferenceIdeal.Value
open Cert.GateUpReferenceIdeal Cert.GateUpReferenceIdeal.Gen
open Cert.GateUpIdeal.Value (byteAt hidAt topAt codeAt rowScale codesOut scalesOut pow2 expo count mag clip448 gated)
variable (m : (ℓ : Loc nD τ sig) → Buf (Elt Ideal) ℓ)

/-- Every window is its whole array. -/
theorem idx : ∀ t : Fin cfg0.N, win0_0.index t = ![0, 0] ∧ win0_1.index t = ![0, 0] ∧ win0_2.index t = ![0, 0, 0]
    ∧ win0_3.index t = ![0, 0] ∧ win0_4.index t = ![0, 0] ∧ win0_5.index t = ![0, 0] :=
  (by decide +kernel : ∀ t : Fin grid0.N, _)

/-- The activation scales the reference takes: lane 0 of the auxiliary rows. -/
theorem scales (c : Dev nD) (n : Fin 24576) (l : Fin 1) : (V m c main_v10 : FVec Ideal S24576x1 .f32) (ix2 n l)
    = (m ((c : Thread nD τ).loc main_arg1) (ix2 n 0) : EReal) := by
  entry_read
  pointwise
  blk_ext []

/-- One byte of a word. -/
theorem byte_of (w : BitVec 32) (k : ℕ) (hk : k < 4) :
    (IntOp.andi (IntOp.shrui ArithUnit.host w (IntOp.muli 8#32 (BitVec.ofNat 32 k))) 255#32).setWidth 8 = BitVec.extractLsb' (8 * k) 8 w := by
  have h : ∀ j, j < 4 → IntOp.shrui ArithUnit.host w (IntOp.muli 8#32 (BitVec.ofNat 32 j)) = w >>> (8 * j) := fun j hj => by
    interval_cases j <;> rfl
  rw [h k hk]
  show ((w >>> (8 * k)) &&& 255#32).setWidth 8 = _
  ext i hi
  simp [BitVec.getElem_setWidth, BitVec.getLsbD_and, BitVec.getElem_extractLsb', BitVec.getLsbD_ushiftRight]
  intro _
  exact (by decide : ∀ (i : ℕ) (hi : i < 8), (255#8)[i]'hi = true) i hi

theorem word (c : Dev nD) (n : Fin 24576) (d : Fin 3072) : (V m c main_v9 : IVec S24576x3072 32) (ix2 n d)
    = IntOp.andi (IntOp.shrui ArithUnit.host (m ((c : Thread nD τ).loc main_arg0)
          (ix2 (n0 := 147456) (n1 := 128) ⟨n.val / 32 * 192 + n.val % 4 * 48 + d.val / 512 * 8 + n.val / 4 % 8, by omega⟩ ⟨d.val % 128, by omega⟩))
        (IntOp.muli 8#32 (BitVec.ofNat 32 (d.val / 128 % 4)))) 255#32 := by
  entry_read
  pointwise

/-- The codes the reference unpacks: the low eight bits of its integers are the bytes of the words. -/
theorem bytes (c : Dev nD) (n : Fin 24576) (d : Fin 3072) :
    Ideal.ofBits .fp8e4m3 (((V m c main_v9 : IVec S24576x3072 32) (ix2 n d)).setWidth 8) = byteAt (m ((c : Thread nD τ).loc main_arg0)) n d := by
  rw [word, byte_of _ _ (by omega)]
  unfold byteAt
  rw [show d.val / 128 % 4 = d.val % 512 / 128 by omega]
  refine congrArg _ (congrArg _ (congrArg _ ((ix2_inj ..).2 ⟨Fin.ext ?_, rfl⟩)))
  simp only; omega

/-- The hidden values of the reference's body. -/
theorem pay4 (B : IVec S24576x3072 32) (W : FVec Ideal S16x8192x3072 .fp8e4m3) (X : FVec Ideal S24576x1 .f32) (S : FVec Ideal S16x8192 .f32)
    (n : Fin 24576) (q : Fin 4096) :
    k0_pay4 (F := Ideal) B W X S (ix2 n q) = gated
      (∑ d : Fin 3072, Ideal.ofBits .fp8e4m3 ((B (ix2 n d)).setWidth 8) * W (ix3 (n0 := 16) (n1 := 8192) (n2 := 3072) ⟨n.val / 1536, by omega⟩ ⟨q.val, by omega⟩ d))
      (∑ d : Fin 3072, Ideal.ofBits .fp8e4m3 ((B (ix2 n d)).setWidth 8) * W (ix3 (n0 := 16) (n1 := 8192) (n2 := 3072) ⟨n.val / 1536, by omega⟩ ⟨4096 + q.val, by omega⟩ d))
      (X (ix2 n 0)) (S (ix2 (n0 := 16) (n1 := 8192) ⟨n.val / 1536, by omega⟩ ⟨q.val, by omega⟩)) (S (ix2 (n0 := 16) (n1 := 8192) ⟨n.val / 1536, by omega⟩ ⟨4096 + q.val, by omega⟩)) := by
  unfold gated
  pointwise [k0_pay4]

/-- The scaled largest magnitude of every row. -/
def topV (H : FVec Ideal S24576x4096 .f32) : FVec Ideal S24576x1 .f32 :=
  mulf (shapeCast S24576x1 (multiReduction .maximumf [1] S24576 (absf H) 0xFF800000#32 reduces_S24576x4096_S24576 (.inl rfl) rfl) shapeCasts_S24576_S24576x1)
    (broadcast S24576x1 (Scalar.ofBits (F := Ideal) .f32 0x3B124925#32))

theorem absf_at {s : Shape} (H : FVec Ideal s .f32) (i : s.Idx) : absf H i = mag (H i) := rfl

theorem topV_at (H : FVec Ideal S24576x4096 .f32) (n : Fin 24576) (z : Fin 1) : topV H (ix2 n z)
      = (Finset.univ.sup fun q : Fin 4096 => mag (H (ix2 n q))) * Ideal.ofBits .f32 0x3B124925#32 := by
  have h1 : ∀ M : FVec Ideal S24576 .f32, mulf (shapeCast S24576x1 M shapeCasts_S24576_S24576x1)
      (broadcast S24576x1 (Scalar.ofBits (F := Ideal) .f32 0x3B124925#32)) (ix2 n z) = M (ix1 n) * Ideal.ofBits .f32 0x3B124925#32 := fun M => by
    pointwise
  have h2 : ∀ q : Fin 4096, reduces_S24576x4096_S24576.lift (ix1 n) q = ix2 n q := fun q => by
    funext a
    refine Fin.ext ?_
    fin_cases a
    · rfl
    · rfl
  have h3 : (absf H ∘ reduces_S24576x4096_S24576.lift (ix1 n) : Fin 4096 → EReal) = fun q => mag (H (ix2 n q)) := funext fun q => by
    exact (absf_at H _).trans (congrArg (fun i => mag (H i)) (h2 q))
  refine Eq.trans (h1 _) (congrArg (fun x : EReal => x * Ideal.ofBits .f32 0x3B124925#32) ?_)
  refine (Ideal.multiReduction_maximumf_single (a := 1) (absf H) 0xFF800000#32 reduces_S24576x4096_S24576 (.inl rfl) rfl (ix1 n)).trans ?_
  refine (congrArg (fun b => Finset.univ.fold max b _) Cert.GateUpIdeal.Value.negInf_f32).trans ?_
  exact (congrArg (fun f : Fin 4096 → EReal => Finset.univ.fold max ⊥ f) h3).trans (Cert.GateUpIdeal.Value.fold_max_bot _)

theorem pay5_eq (B : IVec S24576x3072 32) (W : FVec Ideal S16x8192x3072 .fp8e4m3) (X : FVec Ideal S24576x1 .f32) (S : FVec Ideal S16x8192 .f32) :
    k0_pay5 (F := Ideal) B W X S = topV (k0_pay4 (F := Ideal) B W X S) := rfl

theorem words : ∀ x : Fin 252, (IntOp.subi (BitVec.ofNat 32 x.val) 126#32).toInt = (x.val : ℤ) - 126 := by decide +kernel

theorem exp2_int (z : ℤ) : Ideal.exp2 (((z : ℝ) : EReal)) = pow2 z := by
  rw [Ideal.exp2_coe]
  exact congrArg Real.toEReal (Real.rpow_intCast 2 z)

/-- The counts of the powers of two under `t`, less 126. -/
def expV (t : FVec Ideal S24576x1 .f32) : FVec Ideal S24576x1 .f32 :=
  subf (shapeCast S24576x1 (multiReduction .add [1] S24576 (select (cmpf .oge (broadcastTo S24576x252 t broadcasts_S24576x1_S24576x252)
      (broadcastTo S24576x252 (exp2 (sitofp (F := Ideal) .f32 (subi (iota .tc S1x252 32 [1] iota_S1x252_d1_w32) (broadcast S1x252 126#32)))) broadcasts_S1x252_S24576x252))
    (broadcast S24576x252 (Scalar.ofBits (F := Ideal) .f32 0x3F800000#32)) (broadcast S24576x252 (Scalar.ofBits (F := Ideal) .f32 0x00000000#32)))
    0x00000000#32 reduces_S24576x252_S24576 (.inl rfl) rfl) shapeCasts_S24576_S24576x1) (broadcast S24576x1 (Scalar.ofBits (F := Ideal) .f32 0x42FC0000#32))

theorem pay6_eq (B : IVec S24576x3072 32) (W : FVec Ideal S16x8192x3072 .fp8e4m3) (X : FVec Ideal S24576x1 .f32) (S : FVec Ideal S16x8192 .f32) :
    k0_pay6 (F := Ideal) B W X S = expV (k0_pay5 (F := Ideal) B W X S) := rfl

theorem expV_at (t : FVec Ideal S24576x1 .f32) (n : Fin 24576) (z : Fin 1) : expV t (ix2 n z)
      = ((((count (t (ix2 n z)) : ℤ) - 126 : ℤ) : ℝ) : EReal) := by
  obtain rfl : z = 0 := Subsingleton.elim _ _
  pointwise [expV]
  have h1 : ∀ x : Fin 252, (FloatOps.exp2 (FloatOps.sitofp (F := Ideal) FTy.f32 (IntOp.subi (BitVec.ofNat 32 x.val) 126#32)) : EReal) = pow2 ((x.val : ℤ) - 126) := fun x => by
    refine (congrArg (fun i : ℤ => Ideal.exp2 (((i : ℝ) : EReal))) (words x)).trans ?_
    exact exp2_int _
  have h2 : Ideal.ofBits FTy.f32 1123811328#32 = ((126 : ℝ) : EReal) := by
    simp [Ideal.ofBits, Ideal.ieee, -EReal.coe_mul]; norm_num
  simp only [h1]
  rw [Cert.GateUpIdeal.Value.sum_count, h2, ← EReal.coe_sub]
  refine congrArg Real.toEReal ?_
  push_cast; rfl

/-- The exponent after the special cases, as an extended real. -/
theorem pay1_at (t e : FVec Ideal S24576x1 .f32) (n : Fin 24576) (z : Fin 1) (he : e (ix2 n z) = ((((count (t (ix2 n z)) : ℤ) - 126 : ℤ) : ℝ) : EReal)) :
    k0_pay1 (F := Ideal) t e (Scalar.ofBits .f32 0x00000000#32) (ix2 n z) = (((expo (t (ix2 n z)) : ℤ) : ℝ) : EReal) := by
  have h : k0_pay1 (F := Ideal) t e (Scalar.ofBits .f32 0x00000000#32) (ix2 n z)
      = Scalar.select (Ideal.cmp .oeq (t (ix2 n z)) (Ideal.ofBits .f32 0x00000000#32) ||| Ideal.cmp .oeq (t (ix2 n z)) (Ideal.ofBits .f32 0x7F800000#32))
          (Ideal.ofBits .f32 0x00000000#32) (e (ix2 n z)) := rfl
  rw [h, he, Cert.GateUpIdeal.Value.zero_f32, Cert.GateUpIdeal.Value.posInf_f32]
  unfold Ideal.cmp expo
  by_cases h0 : t (ix2 n z) = 0
  · simp [h0, Scalar.select]
  · by_cases ht : t (ix2 n z) = ⊤
    · simp [ht, Scalar.select]
    · simp [h0, ht, Scalar.select]

/-- The codes the body stores. -/
theorem pay2_at (H : FVec Ideal S24576x4096 .f32) (t e : FVec Ideal S24576x1 .f32) (z : Ideal .f32) (n : Fin 24576) (q : Fin 4096)
    (he : k0_pay1 (F := Ideal) t e z (ix2 n 0) = (((expo (t (ix2 n 0)) : ℤ) : ℝ) : EReal)) :
    k0_pay2 (F := Ideal) H t e z (ix2 n q) = clip448 (H (ix2 n q) * pow2 (- expo (t (ix2 n 0)))) := by
  pointwise [k0_pay2]
  unfold clip448
  rw [he, zero_sub, ← EReal.coe_neg, ← Int.cast_neg]
  rw [← exp2_int]
  rfl

/-- The scales the body stores. -/
theorem pay3_at (t e : FVec Ideal S24576x1 .f32) (z : Ideal .f32) (n : Fin 24576) (l : Fin 128)
    (he : k0_pay1 (F := Ideal) t e z (ix2 n 0) = (((expo (t (ix2 n 0)) : ℤ) : ℝ) : EReal)) :
    k0_pay3 (F := Ideal) t e z (ix2 n l) = pow2 (expo (t (ix2 n 0))) := by
  pointwise [k0_pay3]
  rw [he, ← exp2_int]
  rfl

variable (c : Dev nD)

/-- The hidden values, of the arguments. -/
def hid : FVec Ideal S24576x4096 .f32 := k0_pay4 (F := Ideal) (V m c main_v9) (m ((c : Thread nD τ).loc main_arg2)) (V m c main_v10) (m ((c : Thread nD τ).loc main_arg3))

theorem hid_at (n : Fin 24576) (q : Fin 4096) : hid m c (ix2 n q) = hidAt (m ((c : Thread nD τ).loc main_arg0)) (m ((c : Thread nD τ).loc main_arg1))
      (m ((c : Thread nD τ).loc main_arg2)) (m ((c : Thread nD τ).loc main_arg3)) n q := by
  unfold hid hidAt
  rw [pay4, scales m c n 0]
  simp only [bytes m c n]

/-- The scaled largest magnitudes, of the arguments. -/
def top : FVec Ideal S24576x1 .f32 := k0_pay5 (F := Ideal) (V m c main_v9) (m ((c : Thread nD τ).loc main_arg2)) (V m c main_v10) (m ((c : Thread nD τ).loc main_arg3))

theorem top_at (n : Fin 24576) (z : Fin 1) : top m c (ix2 n z) = topAt (m ((c : Thread nD τ).loc main_arg0)) (m ((c : Thread nD τ).loc main_arg1))
      (m ((c : Thread nD τ).loc main_arg2)) (m ((c : Thread nD τ).loc main_arg3)) n := by
  unfold top topAt
  rw [pay5_eq, topV_at]
  refine congrArg (· * _) (congrArg _ (funext fun q => congrArg _ (hid_at m c n q)))

/-- The exponents before the special cases, of the arguments. -/
def rawExp : FVec Ideal S24576x1 .f32 := k0_pay6 (F := Ideal) (V m c main_v9) (m ((c : Thread nD τ).loc main_arg2)) (V m c main_v10) (m ((c : Thread nD τ).loc main_arg3))

theorem rawExp_at (n : Fin 24576) (z : Fin 1) : rawExp m c (ix2 n z) = ((((count (top m c (ix2 n z)) : ℤ) - 126 : ℤ) : ℝ) : EReal) := by
  unfold rawExp
  rw [pay6_eq]
  exact expV_at _ n z

theorem in0 : (iblk m c 0 t0_0 : IVec S24576x3072 32) = V m c main_v9 := by
  funext y
  refine (congrArg _ (eq_ix2 y)).trans (Eq.trans ?_ (congrArg _ (eq_ix2 y)).symm)
  blk_point [iblk, idx t0_0]

theorem in1 : (iblk m c 1 t0_0 : FVec Ideal S24576x1 .f32) = V m c main_v10 := by
  funext y
  refine (congrArg _ (eq_ix2 y)).trans (Eq.trans ?_ (congrArg _ (eq_ix2 y)).symm)
  blk_point [iblk, idx t0_0]

theorem in2 : (iblk m c 2 t0_0 : FVec Ideal S16x8192x3072 .fp8e4m3) = m ((c : Thread nD τ).loc main_arg2) := by
  funext y
  refine (congrArg _ (eq_ix3 y)).trans (Eq.trans ?_ (congrArg _ (eq_ix3 y)).symm)
  blk_point [iblk, V, idx t0_0]

theorem in3 : (iblk m c 3 t0_0 : FVec Ideal S16x8192 .f32) = m ((c : Thread nD τ).loc main_arg3) := by
  funext y
  refine (congrArg _ (eq_ix2 y)).trans (Eq.trans ?_ (congrArg _ (eq_ix2 y)).symm)
  blk_point [iblk, V, idx t0_0]

theorem congr4 {A B C D E : Type} (f : A → B → C → D → E) {a a' : A} {b b' : B} {c c' : C} {d d' : D} (ha : a = a') (hb : b = b') (hc : c = c')
    (hd : d = d') : f a b c d = f a' b' c' d' := by rw [ha, hb, hc, hd]

theorem zero2 : ∀ a : Fin 2, (![0, 0] : Fin 2 → ℕ) a = 0 := by decide

theorem zero3 : ∀ a : Fin 3, (![0, 0, 0] : Fin 3 → ℕ) a = 0 := by decide

theorem pay7_eq (a : IVec S24576x3072 32) (x : FVec Ideal S24576x1 .f32) (w : FVec Ideal S16x8192x3072 .fp8e4m3) (s : FVec Ideal S16x8192 .f32) :
    k0_pay7 (F := Ideal) a x w s = k0_pay5 (F := Ideal) a w x s := by
  unfold k0_pay7
  exact congr4 _ (View.ld_unit_lit _ _ zero2) (View.ld_unit_lit _ _ zero3) (View.ld_unit_lit _ _ zero2) (View.ld_unit_lit _ _ zero2)

theorem pay8_eq (a : IVec S24576x3072 32) (x : FVec Ideal S24576x1 .f32) (w : FVec Ideal S16x8192x3072 .fp8e4m3) (s : FVec Ideal S16x8192 .f32) :
    k0_pay8 (F := Ideal) a x w s = k0_pay6 (F := Ideal) a w x s := by
  unfold k0_pay8
  exact congr4 _ (View.ld_unit_lit _ _ zero2) (View.ld_unit_lit _ _ zero3) (View.ld_unit_lit _ _ zero2) (View.ld_unit_lit _ _ zero2)

/-- The codes array after the run is the body's value over the arguments. -/
theorem final_codes : (dats m 0 c).arrAt 4 cfg0.N = k0_pay2 (F := Ideal) (hid m c) (top m c) (rawExp m c) (Scalar.ofBits .f32 0x00000000#32) := by
  refine (dats m 0 c).arrAt_eq_of_after_last 4 t0_0 (by decide +kernel) _ fun j => ?_
  blk_simp
  rw [after0_4]; frame_out
  rw [in0, in1, in2, in3, pay7_eq, pay8_eq]
  unfold hid top rawExp
  rfl

/-- The scales array after the run is the body's value over the arguments. -/
theorem final_scales : (dats m 0 c).arrAt 5 cfg0.N = k0_pay3 (F := Ideal) (top m c) (rawExp m c) (Scalar.ofBits .f32 0x00000000#32) := by
  refine (dats m 0 c).arrAt_eq_of_after_last 5 t0_0 (by decide +kernel) _ fun j => ?_
  blk_simp
  rw [after0_5]; frame_out
  rw [in0, in1, in2, in3, pay7_eq, pay8_eq]
  unfold top rawExp
  rfl

/-- The reference's codes are the codes of its arguments. -/
theorem codes_eq : (dats m 0 c).arrAt 4 cfg0.N = codesOut (m ((c : Thread nD τ).loc main_arg0)) (m ((c : Thread nD τ).loc main_arg1))
      (m ((c : Thread nD τ).loc main_arg2)) (m ((c : Thread nD τ).loc main_arg3)) := by
  rw [final_codes]
  funext y
  refine (congrArg _ (eq_ix2 y)).trans ((pay2_at _ _ _ _ (y 0) (y 1) (pay1_at _ _ _ _ (rawExp_at m c _ _))).trans ?_)
  exact (congrArg₂ (fun a b => clip448 (a * pow2 (-expo b))) (hid_at m c (y 0) (y 1)) (top_at m c (y 0) 0))

/-- The reference's scales are the scales of its arguments. -/
theorem scales_eq : (dats m 0 c).arrAt 5 cfg0.N = scalesOut (m ((c : Thread nD τ).loc main_arg0)) (m ((c : Thread nD τ).loc main_arg1))
      (m ((c : Thread nD τ).loc main_arg2)) (m ((c : Thread nD τ).loc main_arg3)) := by
  rw [final_scales]
  funext y
  refine (congrArg _ (eq_ix2 y)).trans ((pay3_at _ _ _ (y 0) (y 1) (pay1_at _ _ _ _ (rawExp_at m c _ _))).trans ?_)
  exact congrArg (fun b => pow2 (expo b)) (top_at m c (y 0) 0)

end Cert.GateUpReferenceIdeal.Value
end
-- ==== Proof.PreRun.lean ====
module

public import proofs.«01_k».proof.Proof.Gen.Pre.Frame.Runs

/-! # One run of the quantiser's body

The loop over the 32-row groups reads back of its own stores only what it has stored; so what it
stores does not depend on what the two output buffers held before. -/

@[expose] public section
set_option maxRecDepth 16384
noncomputable section
namespace Cert.Pre.Run

open Cert.Pre Cert.Pre.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A trip's pieces do not depend on what it finds in the codes' and the words' buffers. -/
theorem trip_indep (𝒱 : Variants) (c : Dev nD) (bd : Option 𝒱.V) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole) (X_arg1 : BufTy.Contents (Elt F) arg1.view.ty) (k : Fin k0_t1_loop.trips)
    (f3 f3' : BufTy.Contents (Elt F) arg3.view.ty) (f5 f5' : BufTy.Contents (Elt F) arg5.view.ty) (f6 : BufTy.Contents (Elt F) arg6.view.ty) :
    tripL_k0_t1 (F := F) 𝒱 c bd i arg1 harg1 arg2 harg2 arg3 harg3 arg4 harg4 arg5 harg5 arg6 harg6 X_arg1 k f3 f5 f6 = tripL_k0_t1 (F := F) 𝒱 c bd i arg1 harg1 arg2 harg2 arg3 harg3 arg4 harg4 arg5 harg5 arg6 harg6 X_arg1 k f3' f5' f6 := by
  unfold tripL_k0_t1 trip_k0_t1; rfl

/-- Nor do the pieces of all trips. -/
theorem pb_indep (𝒱 : Variants) (c : Dev nD) (bd : Option 𝒱.V) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole) (X_arg1 : BufTy.Contents (Elt F) arg1.view.ty)
    (f3 f3' : BufTy.Contents (Elt F) arg3.view.ty) (f5 f5' : BufTy.Contents (Elt F) arg5.view.ty) (f6 : BufTy.Contents (Elt F) arg6.view.ty) : ∀ n : ℕ,
    pb_k0_t1 (F := F) 𝒱 c bd i arg1 harg1 arg2 harg2 arg3 harg3 arg4 harg4 arg5 harg5 arg6 harg6 X_arg1 f3 f5 f6 n = pb_k0_t1 (F := F) 𝒱 c bd i arg1 harg1 arg2 harg2 arg3 harg3 arg4 harg4 arg5 harg5 arg6 harg6 X_arg1 f3' f5' f6 n
  | 0 => rfl
  | n + 1 => by
    rw [pb_k0_t1.eq_2, pb_k0_t1.eq_2, pb_indep 𝒱 c bd i arg1 harg1 arg2 harg2 arg3 harg3 arg4 harg4 arg5 harg5 arg6 harg6 X_arg1 f3 f3' f5 f5' f6 n]
    unfold pb_k0_t1Step
    split
    · rw [trip_indep 𝒱 c bd i arg1 harg1 arg2 harg2 arg3 harg3 arg4 harg4 arg5 harg5 arg6 harg6 X_arg1 _ (arg3.view.writes (Elt F) f3 _) (arg3.view.writes (Elt F) f3' _) (arg5.view.writes (Elt F) f5 _) (arg5.view.writes (Elt F) f5' _)]
    · rfl

set_option maxHeartbeats 4000000 in
/-- The pieces the body leaves in each output's buffer, last first, with the proof that it runs to there from the inputs' buffers at their
    contents and the outputs' at any. -/
noncomputable def run0 (c : Dev nD) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (x0 : Vec F S512x3072 .bf16) (x1 : Vec F S128x3072 .bf16) :
    Σ' (L2 : List (View.Piece (Elt F) S512x3072 .fp8e4m3)), Σ' (L3 : List (View.Piece (Elt F) S1x512 .f32)), Σ' (L4 : List (View.Piece (Elt F) S64x6x8x128 .i32)), { L5 : List (View.Piece (Elt F) S512x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0_pre i arg1 harg1 arg2 harg2 arg3 harg3 arg4 harg4 arg5 harg5 arg6 harg6) K } := by
  refine ⟨?_, ?_, ?_, ?_, fun E K => ?run⟩
  case run =>
    simp only [cc0_pre_eq_skeleton]; unfold cc0_pre_skel
    simp only [k0_part39_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg1.eq_unread hf0; obtain rfl := harg2.eq_unread hf1
    sl_exec
    sl_step
    unfold run0.sl.v28
    rw [pb_indep Variants.none c none i arg1 harg1 arg2 harg2 arg3 harg3 arg4 harg4 arg5 harg5 arg6 harg6 (harg1.unread x0) f2 arg3.view.junk f4 arg5.view.junk]
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact H5

end Cert.Pre.Run
end
-- ==== Proof.PreFrame.lean ====
module

public import proofs.«01_k».proof.Proof.PreRun
public import Idealize.ShloMosaic.Lib.Claim

/-! # The frame of the quantiser call -/

@[expose] public section
set_option maxRecDepth 16384
noncomputable section
namespace Cert.Pre.Run

open Cert.Pre Cert.Pre.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for output 2 tile its block (384 stores of `S32x128`), so they cover it. -/
theorem cover0_A_2 (c : Dev nD) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (x0 : Vec F S512x3072 .bf16) (x1 : Vec F S128x3072 .bf16) (y : S512x3072.Idx) :
    ∃ pc ∈ (run0 c i arg1 harg1 arg2 harg2 arg3 harg3 arg4 harg4 arg5 harg5 arg6 harg6 x0 x1).1, y ∈ pc.1.set :=
  View.cover_of_tiledL (run0 c i arg1 harg1 arg2 harg2 arg3 harg3 arg4 harg4 arg5 harg5 arg6 harg6 x0 x1).1 S32x128.size (by sl_kernel_rfl) y

/-- What the run leaves in output 2's staging buffer: its pieces read back over junk. -/
def out0_A_2 (c : Dev nD) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (x0 : Vec F S512x3072 .bf16) (x1 : Vec F S128x3072 .bf16) : Vec F S512x3072 .fp8e4m3 :=
  VO0_2.read (Elt F) (VO0_2.writes (Elt F) VO0_2.junk (run0 c i arg1 harg1 arg2 harg2 arg3 harg3 arg4 harg4 arg5 harg5 arg6 harg6 x0 x1).1)

/-- The run's pieces for output 3 tile its block (1 store of `S1x512`), so they cover it. -/
theorem cover0_A_3 (c : Dev nD) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (x0 : Vec F S512x3072 .bf16) (x1 : Vec F S128x3072 .bf16) (y : S1x512.Idx) :
    ∃ pc ∈ (run0 c i arg1 harg1 arg2 harg2 arg3 harg3 arg4 harg4 arg5 harg5 arg6 harg6 x0 x1).2.1, y ∈ pc.1.set :=
  View.cover_of_tiledL (run0 c i arg1 harg1 arg2 harg2 arg3 harg3 arg4 harg4 arg5 harg5 arg6 harg6 x0 x1).2.1 S1x512.size (by sl_kernel_rfl) y

/-- What the run leaves in output 3's staging buffer: its pieces read back over junk. -/
def out0_A_3 (c : Dev nD) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (x0 : Vec F S512x3072 .bf16) (x1 : Vec F S128x3072 .bf16) : Vec F S1x512 .f32 :=
  VO0_3.read (Elt F) (VO0_3.writes (Elt F) VO0_3.junk (run0 c i arg1 harg1 arg2 harg2 arg3 harg3 arg4 harg4 arg5 harg5 arg6 harg6 x0 x1).2.1)

/-- The run's pieces for output 4 tile its block (384 stores of `S1x1x8x128`), so they cover it. -/
theorem cover0_A_4 (c : Dev nD) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (x0 : Vec F S512x3072 .bf16) (x1 : Vec F S128x3072 .bf16) (y : S64x6x8x128.Idx) :
    ∃ pc ∈ (run0 c i arg1 harg1 arg2 harg2 arg3 harg3 arg4 harg4 arg5 harg5 arg6 harg6 x0 x1).2.2.1, y ∈ pc.1.set :=
  View.cover_of_tiledL (run0 c i arg1 harg1 arg2 harg2 arg3 harg3 arg4 harg4 arg5 harg5 arg6 harg6 x0 x1).2.2.1 S1x1x8x128.size (by sl_kernel_rfl) y

/-- What the run leaves in output 4's staging buffer: its pieces read back over junk. -/
def out0_A_4 (c : Dev nD) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (x0 : Vec F S512x3072 .bf16) (x1 : Vec F S128x3072 .bf16) : Vec F S64x6x8x128 .i32 :=
  VO0_4.read (Elt F) (VO0_4.writes (Elt F) VO0_4.junk (run0 c i arg1 harg1 arg2 harg2 arg3 harg3 arg4 harg4 arg5 harg5 arg6 harg6 x0 x1).2.2.1)

/-- The run's pieces for output 5 are of SEVERAL sizes (17 stores of `S32x128`, `S512x128`): cut into blocks of `![32, 128]` they tile its block , so they cover it. -/
theorem cover0_A_5 (c : Dev nD) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (x0 : Vec F S512x3072 .bf16) (x1 : Vec F S128x3072 .bf16) (y : S512x128.Idx) :
    ∃ pc ∈ (run0 c i arg1 harg1 arg2 harg2 arg3 harg3 arg4 harg4 arg5 harg5 arg6 harg6 x0 x1).2.2.2.1, y ∈ pc.1.set :=
  View.cover_of_tiledBy (run0 c i arg1 harg1 arg2 harg2 arg3 harg3 arg4 harg4 arg5 harg5 arg6 harg6 x0 x1).2.2.2.1 ![32, 128] (by sl_kernel_rfl) y

/-- What the run leaves in output 5's staging buffer: its pieces read back over junk. -/
def out0_A_5 (c : Dev nD) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (x0 : Vec F S512x3072 .bf16) (x1 : Vec F S128x3072 .bf16) : Vec F S512x128 .f32 :=
  VO0_5.read (Elt F) (VO0_5.writes (Elt F) VO0_5.junk (run0 c i arg1 harg1 arg2 harg2 arg3 harg3 arg4 harg4 arg5 harg5 arg6 harg6 x0 x1).2.2.2.1)

/-! ## What the outputs hold after each point -/

/-- What the outputs' staging buffers hold after the body at point `t` (as a tuple, in window order): the run's contents at
    the point's memrefs and input blocks. -/
def outsAt0 (c : Dev nD) (t : Fin cfg0.N) : Vec F S512x3072 .fp8e4m3 × Vec F S1x512 .f32 × Vec F S64x6x8x128 .i32 × Vec F S512x128 .f32 :=
  (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t).1
    | ⟨3, _⟩ => (outsAt0 m c t).2.1
    | ⟨4, _⟩ => (outsAt0 m c t).2.2.1
    | ⟨5, _⟩ => (outsAt0 m c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t).1 := by dsimp only [dats]
theorem after0_3 (c : Dev nD) (t : Fin cfg0.N) : (dats m 0 c).after 3 t = (outsAt0 m c t).2.1 := by dsimp only [dats]
theorem after0_4 (c : Dev nD) (t : Fin cfg0.N) : (dats m 0 c).after 4 t = (outsAt0 m c t).2.2.1 := by dsimp only [dats]
theorem after0_5 (c : Dev nD) (t : Fin cfg0.N) : (dats m 0 c).after 5 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  unfold outsAt0
  unfold out0_A_2 out0_A_3 out0_A_4 out0_A_5; (try dsimp only)
  iintro ⟨HΦ, Ho, ⟨%d0, H0⟩, ⟨%d1, H1⟩, ⟨%d2, H2⟩, ⟨%d3, H3⟩, ⟨%d4, H4⟩, ⟨%d5, H5⟩⟩
  iapply ((run0 c (grid0.coords t) _ _ _ _ _ _ _ _ _ _ _ _ (iblk m c 0 t) (iblk m c 1 t)).2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, ⟨%e2, H2⟩, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _)
  unfold owns; iexists _; isplitr
  swap; · iexact H5
  ipureintro; exact View.read_writes_of_cover _ _ _ _ _ (cover0_A_5 c _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Pre.Run
end
-- ==== Proof.PreIdealRun.lean ====
module

public import proofs.«01_k».proof.Proof.Gen.PreIdeal.Frame.Runs

/-! # One run of the quantiser's body

The loop over the 32-row groups reads back of its own stores only what it has stored; so what it
stores does not depend on what the two output buffers held before. -/

@[expose] public section
set_option maxRecDepth 16384
noncomputable section
namespace Cert.PreIdeal.Run

open Cert.PreIdeal Cert.PreIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A trip's pieces do not depend on what it finds in the codes' and the words' buffers. -/
theorem trip_indep (𝒱 : Variants) (c : Dev nD) (bd : Option 𝒱.V) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole) (X_arg1 : BufTy.Contents (Elt F) arg1.view.ty) (k : Fin k0_t1_loop.trips)
    (f3 f3' : BufTy.Contents (Elt F) arg3.view.ty) (f5 f5' : BufTy.Contents (Elt F) arg5.view.ty) (f6 : BufTy.Contents (Elt F) arg6.view.ty) :
    tripL_k0_t1 (F := F) 𝒱 c bd i arg1 harg1 arg2 harg2 arg3 harg3 arg4 harg4 arg5 harg5 arg6 harg6 X_arg1 k f3 f5 f6 = tripL_k0_t1 (F := F) 𝒱 c bd i arg1 harg1 arg2 harg2 arg3 harg3 arg4 harg4 arg5 harg5 arg6 harg6 X_arg1 k f3' f5' f6 := by
  unfold tripL_k0_t1 trip_k0_t1; rfl

/-- Nor do the pieces of all trips. -/
theorem pb_indep (𝒱 : Variants) (c : Dev nD) (bd : Option 𝒱.V) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole) (X_arg1 : BufTy.Contents (Elt F) arg1.view.ty)
    (f3 f3' : BufTy.Contents (Elt F) arg3.view.ty) (f5 f5' : BufTy.Contents (Elt F) arg5.view.ty) (f6 : BufTy.Contents (Elt F) arg6.view.ty) : ∀ n : ℕ,
    pb_k0_t1 (F := F) 𝒱 c bd i arg1 harg1 arg2 harg2 arg3 harg3 arg4 harg4 arg5 harg5 arg6 harg6 X_arg1 f3 f5 f6 n = pb_k0_t1 (F := F) 𝒱 c bd i arg1 harg1 arg2 harg2 arg3 harg3 arg4 harg4 arg5 harg5 arg6 harg6 X_arg1 f3' f5' f6 n
  | 0 => rfl
  | n + 1 => by
    rw [pb_k0_t1.eq_2, pb_k0_t1.eq_2, pb_indep 𝒱 c bd i arg1 harg1 arg2 harg2 arg3 harg3 arg4 harg4 arg5 harg5 arg6 harg6 X_arg1 f3 f3' f5 f5' f6 n]
    unfold pb_k0_t1Step
    split
    · rw [trip_indep 𝒱 c bd i arg1 harg1 arg2 harg2 arg3 harg3 arg4 harg4 arg5 harg5 arg6 harg6 X_arg1 _ (arg3.view.writes (Elt F) f3 _) (arg3.view.writes (Elt F) f3' _) (arg5.view.writes (Elt F) f5 _) (arg5.view.writes (Elt F) f5' _)]
    · rfl

set_option maxHeartbeats 4000000 in
/-- The pieces the body leaves in each output's buffer, last first, with the proof that it runs to there from the inputs' buffers at their
    contents and the outputs' at any. -/
noncomputable def run0 (c : Dev nD) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (x0 : Vec F S512x3072 .bf16) (x1 : Vec F S128x3072 .bf16) :
    Σ' (L2 : List (View.Piece (Elt F) S512x3072 .fp8e4m3)), Σ' (L3 : List (View.Piece (Elt F) S1x512 .f32)), Σ' (L4 : List (View.Piece (Elt F) S64x6x8x128 .i32)), { L5 : List (View.Piece (Elt F) S512x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0_pre i arg1 harg1 arg2 harg2 arg3 harg3 arg4 harg4 arg5 harg5 arg6 harg6) K } := by
  refine ⟨?_, ?_, ?_, ?_, fun E K => ?run⟩
  case run =>
    simp only [cc0_pre_eq_skeleton]; unfold cc0_pre_skel
    simp only [k0_part39_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg1.eq_unread hf0; obtain rfl := harg2.eq_unread hf1
    sl_exec
    sl_step
    unfold run0.sl.v28
    rw [pb_indep Variants.none c none i arg1 harg1 arg2 harg2 arg3 harg3 arg4 harg4 arg5 harg5 arg6 harg6 (harg1.unread x0) f2 arg3.view.junk f4 arg5.view.junk]
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact H5

end Cert.PreIdeal.Run
end
-- ==== Proof.PreIdealFrame.lean ====
module

public import proofs.«01_k».proof.Proof.PreIdealRun
public import Idealize.ShloMosaic.Lib.Claim

/-! # The frame of the quantiser call -/

@[expose] public section
set_option maxRecDepth 16384
noncomputable section
namespace Cert.PreIdeal.Run

open Cert.PreIdeal Cert.PreIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for output 2 tile its block (384 stores of `S32x128`), so they cover it. -/
theorem cover0_A_2 (c : Dev nD) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (x0 : Vec F S512x3072 .bf16) (x1 : Vec F S128x3072 .bf16) (y : S512x3072.Idx) :
    ∃ pc ∈ (run0 c i arg1 harg1 arg2 harg2 arg3 harg3 arg4 harg4 arg5 harg5 arg6 harg6 x0 x1).1, y ∈ pc.1.set :=
  View.cover_of_tiledL (run0 c i arg1 harg1 arg2 harg2 arg3 harg3 arg4 harg4 arg5 harg5 arg6 harg6 x0 x1).1 S32x128.size (by sl_kernel_rfl) y

/-- What the run leaves in output 2's staging buffer: its pieces read back over junk. -/
def out0_A_2 (c : Dev nD) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (x0 : Vec F S512x3072 .bf16) (x1 : Vec F S128x3072 .bf16) : Vec F S512x3072 .fp8e4m3 :=
  VO0_2.read (Elt F) (VO0_2.writes (Elt F) VO0_2.junk (run0 c i arg1 harg1 arg2 harg2 arg3 harg3 arg4 harg4 arg5 harg5 arg6 harg6 x0 x1).1)

/-- The run's pieces for output 3 tile its block (1 store of `S1x512`), so they cover it. -/
theorem cover0_A_3 (c : Dev nD) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (x0 : Vec F S512x3072 .bf16) (x1 : Vec F S128x3072 .bf16) (y : S1x512.Idx) :
    ∃ pc ∈ (run0 c i arg1 harg1 arg2 harg2 arg3 harg3 arg4 harg4 arg5 harg5 arg6 harg6 x0 x1).2.1, y ∈ pc.1.set :=
  View.cover_of_tiledL (run0 c i arg1 harg1 arg2 harg2 arg3 harg3 arg4 harg4 arg5 harg5 arg6 harg6 x0 x1).2.1 S1x512.size (by sl_kernel_rfl) y

/-- What the run leaves in output 3's staging buffer: its pieces read back over junk. -/
def out0_A_3 (c : Dev nD) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (x0 : Vec F S512x3072 .bf16) (x1 : Vec F S128x3072 .bf16) : Vec F S1x512 .f32 :=
  VO0_3.read (Elt F) (VO0_3.writes (Elt F) VO0_3.junk (run0 c i arg1 harg1 arg2 harg2 arg3 harg3 arg4 harg4 arg5 harg5 arg6 harg6 x0 x1).2.1)

/-- The run's pieces for output 4 tile its block (384 stores of `S1x1x8x128`), so they cover it. -/
theorem cover0_A_4 (c : Dev nD) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (x0 : Vec F S512x3072 .bf16) (x1 : Vec F S128x3072 .bf16) (y : S64x6x8x128.Idx) :
    ∃ pc ∈ (run0 c i arg1 harg1 arg2 harg2 arg3 harg3 arg4 harg4 arg5 harg5 arg6 harg6 x0 x1).2.2.1, y ∈ pc.1.set :=
  View.cover_of_tiledL (run0 c i arg1 harg1 arg2 harg2 arg3 harg3 arg4 harg4 arg5 harg5 arg6 harg6 x0 x1).2.2.1 S1x1x8x128.size (by sl_kernel_rfl) y

/-- What the run leaves in output 4's staging buffer: its pieces read back over junk. -/
def out0_A_4 (c : Dev nD) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (x0 : Vec F S512x3072 .bf16) (x1 : Vec F S128x3072 .bf16) : Vec F S64x6x8x128 .i32 :=
  VO0_4.read (Elt F) (VO0_4.writes (Elt F) VO0_4.junk (run0 c i arg1 harg1 arg2 harg2 arg3 harg3 arg4 harg4 arg5 harg5 arg6 harg6 x0 x1).2.2.1)

/-- The run's pieces for output 5 are of SEVERAL sizes (17 stores of `S32x128`, `S512x128`): cut into blocks of `![32, 128]` they tile its block , so they cover it. -/
theorem cover0_A_5 (c : Dev nD) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (x0 : Vec F S512x3072 .bf16) (x1 : Vec F S128x3072 .bf16) (y : S512x128.Idx) :
    ∃ pc ∈ (run0 c i arg1 harg1 arg2 harg2 arg3 harg3 arg4 harg4 arg5 harg5 arg6 harg6 x0 x1).2.2.2.1, y ∈ pc.1.set :=
  View.cover_of_tiledBy (run0 c i arg1 harg1 arg2 harg2 arg3 harg3 arg4 harg4 arg5 harg5 arg6 harg6 x0 x1).2.2.2.1 ![32, 128] (by sl_kernel_rfl) y

/-- What the run leaves in output 5's staging buffer: its pieces read back over junk. -/
def out0_A_5 (c : Dev nD) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (x0 : Vec F S512x3072 .bf16) (x1 : Vec F S128x3072 .bf16) : Vec F S512x128 .f32 :=
  VO0_5.read (Elt F) (VO0_5.writes (Elt F) VO0_5.junk (run0 c i arg1 harg1 arg2 harg2 arg3 harg3 arg4 harg4 arg5 harg5 arg6 harg6 x0 x1).2.2.2.1)

/-! ## What the outputs hold after each point -/

/-- What the outputs' staging buffers hold after the body at point `t` (as a tuple, in window order): the run's contents at
    the point's memrefs and input blocks. -/
def outsAt0 (c : Dev nD) (t : Fin cfg0.N) : Vec F S512x3072 .fp8e4m3 × Vec F S1x512 .f32 × Vec F S64x6x8x128 .i32 × Vec F S512x128 .f32 :=
  (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t).1
    | ⟨3, _⟩ => (outsAt0 m c t).2.1
    | ⟨4, _⟩ => (outsAt0 m c t).2.2.1
    | ⟨5, _⟩ => (outsAt0 m c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t).1 := by dsimp only [dats]
theorem after0_3 (c : Dev nD) (t : Fin cfg0.N) : (dats m 0 c).after 3 t = (outsAt0 m c t).2.1 := by dsimp only [dats]
theorem after0_4 (c : Dev nD) (t : Fin cfg0.N) : (dats m 0 c).after 4 t = (outsAt0 m c t).2.2.1 := by dsimp only [dats]
theorem after0_5 (c : Dev nD) (t : Fin cfg0.N) : (dats m 0 c).after 5 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  unfold outsAt0
  unfold out0_A_2 out0_A_3 out0_A_4 out0_A_5; (try dsimp only)
  iintro ⟨HΦ, Ho, ⟨%d0, H0⟩, ⟨%d1, H1⟩, ⟨%d2, H2⟩, ⟨%d3, H3⟩, ⟨%d4, H4⟩, ⟨%d5, H5⟩⟩
  iapply ((run0 c (grid0.coords t) _ _ _ _ _ _ _ _ _ _ _ _ (iblk m c 0 t) (iblk m c 1 t)).2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, ⟨%e2, H2⟩, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _)
  unfold owns; iexists _; isplitr
  swap; · iexact H5
  ipureintro; exact View.read_writes_of_cover _ _ _ _ _ (cover0_A_5 c _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.PreIdeal.Run
end
-- ==== Proof.PreIdealTile.lean ====
module

public import proofs.«01_k».proof.Proof.GateUpScale
public import proofs.«01_k».proof.Proof.PreIdealFrame

/-! # One group of 32 rows

The largest magnitude of a row over 24 blocks of 128 columns, the exponent found for it by the
comparison search, the power of two stored and its inverse, the codes. -/

@[expose] public section
set_option maxRecDepth 16384
noncomputable section
open Idealize.ShloMosaic Idealize.ShloMosaic.TcCoe Idealize.SL.Sem
namespace Cert.PreIdeal.Value
open Cert.PreIdeal Cert.PreIdeal.Gen
open Cert.GateUpIdeal.Value (pow2 expo count count_le mag clip448 stepW search negInf_f32 posInf_f32 zero_f32 fold_max_bot sub126 ofBits_field)

/-- The largest of `f 0` to `f n`. -/
def chain (f : ℕ → EReal) : ℕ → EReal
  | 0 => f 0
  | n + 1 => max (chain f n) (f (n + 1))

theorem chain_le (f : ℕ → EReal) (x : EReal) : ∀ n, chain f n ≤ x ↔ ∀ k, k ≤ n → f k ≤ x
  | 0 => ⟨fun h k hk => (Nat.le_zero.1 hk) ▸ h, fun h => h 0 le_rfl⟩
  | n + 1 => by
    refine max_le_iff.trans ((and_congr (chain_le f x n) Iff.rfl).trans ⟨fun h k hk => ?_, fun h => ⟨fun k hk => h k (by omega), h _ le_rfl⟩⟩)
    rcases Nat.lt_or_ge n k with hk' | hk'
    · obtain rfl : k = n + 1 := by omega
      exact h.2
    · exact h.1 k hk'

/-- The running maxima of the first 23 blocks of columns. -/
def lanes (T : ℕ → FVec Ideal S32x128 .bf16) : FVec Ideal S32x128 .bf16 :=
  k0_pay2 (F := Ideal) (k0_pay1 (F := Ideal) (T 0) (T 1) (T 2) (T 3) (T 4) (T 5) (T 6) (T 7) (T 8) (T 9) (T 10))
    (T 11) (T 12) (T 13) (T 14) (T 15) (T 16) (T 17) (T 18) (T 19) (T 20) (T 21) (T 22)

/-- The scaled largest magnitudes of the 32 rows. -/
def tops (T : ℕ → FVec Ideal S32x128 .bf16) : FVec Ideal S32x1 .f32 := k0_pay3 (F := Ideal) (lanes T) (T 23)

/-- The scaled largest magnitude of a row. -/
def top (T : ℕ → FVec Ideal S32x128 .bf16) (p : Fin 32) : EReal :=
  (Finset.univ.sup fun l : Fin 128 => chain (fun q => mag (T q (ix2 p l))) 23) * Ideal.ofBits .f32 0x3B124925#32

theorem lanes_at (T : ℕ → FVec Ideal S32x128 .bf16) (i : S32x128.Idx) :
    maximumf (lanes T) (absf (T 23)) i = chain (fun q => mag (T q i)) 23 := rfl

/-- The scaled largest entry of every row. -/
def topV (H : FVec Ideal S32x128 .f32) : FVec Ideal S32x1 .f32 :=
  mulf (shapeCast S32x1 (multiReduction .maximumf [1] S32 H 0xFF800000#32 reduces_S32x128_S32 (.inl rfl) rfl) shapeCasts_S32_S32x1)
    (broadcast S32x1 (Scalar.ofBits (F := Ideal) .f32 0x3B124925#32))

theorem topV_at (H : FVec Ideal S32x128 .f32) (p : Fin 32) (z : Fin 1) : topV H (ix2 p z)
      = (Finset.univ.sup fun l : Fin 128 => (H (ix2 p l) : EReal)) * Ideal.ofBits .f32 0x3B124925#32 := by
  have h1 : ∀ M : FVec Ideal S32 .f32, mulf (shapeCast S32x1 M shapeCasts_S32_S32x1)
      (broadcast S32x1 (Scalar.ofBits (F := Ideal) .f32 0x3B124925#32)) (ix2 p z) = M (ix1 p) * Ideal.ofBits .f32 0x3B124925#32 := fun M => by
    pointwise
  have h2 : ∀ l : Fin 128, reduces_S32x128_S32.lift (ix1 p) l = ix2 p l := fun l => by
    funext a
    refine Fin.ext ?_
    fin_cases a
    · rfl
    · rfl
  have h3 : (H ∘ reduces_S32x128_S32.lift (ix1 p) : Fin 128 → EReal) = fun l => H (ix2 p l) := funext fun l => by
    exact congrArg H (h2 l)
  refine Eq.trans (h1 _) (congrArg (fun x : EReal => x * Ideal.ofBits .f32 0x3B124925#32) ?_)
  refine (Ideal.multiReduction_maximumf_single (a := 1) H 0xFF800000#32 reduces_S32x128_S32 (.inl rfl) rfl (ix1 p)).trans ?_
  refine (congrArg (fun b => Finset.univ.fold max b _) negInf_f32).trans ?_
  exact (congrArg (fun f : Fin 128 → EReal => Finset.univ.fold max ⊥ f) h3).trans (fold_max_bot _)

theorem pay3_eq (A B : FVec Ideal S32x128 .bf16) :
    k0_pay3 (F := Ideal) A B = topV (extf .f32 (maximumf A (absf B)) bitsLt_bf16_f32) := rfl

theorem tops_at (T : ℕ → FVec Ideal S32x128 .bf16) (p : Fin 32) (z : Fin 1) : tops T (ix2 p z) = top T p := by
  unfold tops top
  rw [pay3_eq, topV_at]
  refine congrArg (fun x : EReal => x * Ideal.ofBits .f32 0x3B124925#32) (congrArg (Finset.univ.sup) (funext fun l => ?_))
  exact lanes_at T (ix2 p l)

/-- One step of the search on the kernel's vectors. -/
def stepV (t : FVec Ideal S32x1 .f32) (cur : IVec S32x1 32) (s : BitVec 32) : IVec S32x1 32 :=
  select (cmpf .oge t (bitcastToFloat .f32 (shli (minsi (addi cur (broadcast S32x1 s)) (broadcast S32x1 252#32)) (broadcast S32x1 23#32))))
    (minsi (addi cur (broadcast S32x1 s)) (broadcast S32x1 252#32)) cur

theorem stepV_at (t : FVec Ideal S32x1 .f32) (cur : IVec S32x1 32) (s : BitVec 32) (i : S32x1.Idx) :
    stepV t cur s i = stepW (t i) (cur i) s := rfl

theorem pay4_eq (A B : FVec Ideal S32x128 .bf16) :
    k0_pay4 (F := Ideal) A B = stepV (k0_pay3 A B) (stepV (k0_pay3 A B) (stepV (k0_pay3 A B) (stepV (k0_pay3 A B) (broadcast S32x1 0#32) 128#32) 64#32) 32#32) 16#32 := rfl

theorem pay5_eq (t : FVec Ideal S32x1 .f32) (v : IVec S32x1 32) :
    k0_pay5 (F := Ideal) t v = select (cmpf .olt t (broadcast S32x1 (Scalar.ofBits .f32 0x7F800000#32)))
      (stepV t (stepV t (stepV t (stepV t v 8#32) 4#32) 2#32) 1#32) (broadcast S32x1 255#32) := rfl

theorem olt_at (t : FVec Ideal S32x1 .f32) (b : BitVec 32) (i : S32x1.Idx) :
    cmpf .olt t (broadcast S32x1 (Scalar.ofBits .f32 b)) i = Ideal.cmp .olt (t i) (Ideal.ofBits .f32 b) := rfl

/-- The exponent fields of the 32 rows. -/
def fields (T : ℕ → FVec Ideal S32x128 .bf16) : IVec S32x1 32 := k0_pay5 (F := Ideal) (tops T) (k0_pay4 (F := Ideal) (lanes T) (T 23))

/-- The exponent field found: the count, or 255 for an infinite row. -/
theorem fields_at (T : ℕ → FVec Ideal S32x128 .bf16) (p : Fin 32) (z : Fin 1) :
    fields T (ix2 p z) = if top T p < ⊤ then BitVec.ofNat 32 (count (top T p)) else 255#32 := by
  have hs := search (top T p)
  unfold fields
  rw [pay5_eq, pay4_eq]
  have e : ∀ (c : IVec S32x1 1) (a b : IVec S32x1 32) (i : S32x1.Idx), select c a b i = Scalar.select (c i) (a i) (b i) := fun _ _ _ _ => rfl
  rw [show k0_pay3 (F := Ideal) (lanes T) (T 23) = tops T from rfl]
  rw [e, stepV_at, stepV_at, stepV_at, stepV_at, stepV_at, stepV_at, stepV_at, stepV_at, tops_at T p z]
  rw [show broadcast S32x1 0#32 (ix2 p z) = 0#32 from rfl, show broadcast S32x1 255#32 (ix2 p z) = 255#32 from rfl, hs]
  have hc : cmpf .olt (tops T) (broadcast S32x1 (Scalar.ofBits .f32 0x7F800000#32)) (ix2 p z) = BitVec.ofBool (decide (top T p < ⊤)) := by
    rw [olt_at, tops_at T p z, posInf_f32]; unfold Ideal.cmp; rfl
  rw [hc]
  by_cases h : top T p < ⊤
  · simp only [h, decide_true, if_true]; rfl
  · simp only [h, decide_false, if_false]; rfl

/-- The exponents of the 32 rows. -/
def expos (T : ℕ → FVec Ideal S32x128 .bf16) : IVec S32x1 32 :=
  k0_pay8 (fields T) (k0_pay6 (F := Ideal) (tops T)) (k0_pay7 (F := Ideal) (tops T) (k0_pay4 (F := Ideal) (lanes T) (T 23)))

theorem expos_eq (T : ℕ → FVec Ideal S32x128 .bf16) (i : S32x1.Idx) :
    expos T i = Scalar.select (Ideal.cmp .oeq (tops T i) (Ideal.ofBits .f32 0x00000000#32) ||| IntOp.cmpi .eq (fields T i) 255#32) 0#32 (fields T i - 126#32) := rfl

theorem expos_at (T : ℕ → FVec Ideal S32x128 .bf16) (p : Fin 32) (z : Fin 1) :
    expos T (ix2 p z) = if top T p = 0 ∨ top T p = ⊤ then 0#32 else BitVec.ofNat 32 (count (top T p)) - 126#32 := by
  rw [expos_eq, fields_at, tops_at, zero_f32]
  simp only [Ideal.cmp, IntOp.cmpi]
  have hc := count_le (top T p)
  by_cases h0 : top T p = 0
  · simp only [h0, decide_true, true_or, if_true]
    generalize BitVec.ofBool (_ == 255#32) = b
    generalize (_ - 126#32 : BitVec 32) = v
    have : BitVec.ofBool true ||| b = 1#1 := by revert b; decide
    rw [this]; rfl
  · by_cases ht : top T p = ⊤
    · simp [ht, Scalar.select]
    · have hne : ¬ (BitVec.ofNat 32 (count (top T p)) = 255#32) := by
        intro h; have := congrArg BitVec.toNat h; simp at this; omega
      have hb : (BitVec.ofNat 32 (count (top T p)) == 255#32) = false := by simpa using hne
      simp [h0, ht, lt_top_iff_ne_top, hb, Scalar.select]

/-- What is stored in the auxiliary rows, of what they held. -/
def scaleV (T : ℕ → FVec Ideal S32x128 .bf16) (v : FVec Ideal S32x128 .f32) : FVec Ideal S32x128 .f32 :=
  k0_pay9 (F := Ideal) (fields T) (k0_pay6 (F := Ideal) (tops T)) (k0_pay7 (F := Ideal) (tops T) (k0_pay4 (F := Ideal) (lanes T) (T 23))) v

/-- The inverse scales, repeated over the lanes. -/
def invV (T : ℕ → FVec Ideal S32x128 .bf16) : FVec Ideal S32x128 .f32 :=
  k0_pay10 (F := Ideal) (fields T) (k0_pay6 (F := Ideal) (tops T)) (k0_pay7 (F := Ideal) (tops T) (k0_pay4 (F := Ideal) (lanes T) (T 23)))

/-- Lane 0 of what is stored is the scale. -/
theorem scaleV_at (T : ℕ → FVec Ideal S32x128 .bf16) (v : FVec Ideal S32x128 .f32) (p : Fin 32) : scaleV T v (ix2 p 0) = pow2 (expo (top T p)) := by
  have e : scaleV T v (ix2 p 0) = Ideal.ofBits .f32 ((expos T (ix2 p 0) + 127#32) <<< 23) := by
    unfold scaleV
    pointwise [k0_pay9]
    rfl
  have hc := count_le (top T p)
  rw [e, expos_at]
  unfold expo
  split
  · rw [show (0#32 + 127#32 : BitVec 32) = BitVec.ofNat 32 127 from rfl, ofBits_field 127 (by omega) (by omega)]; norm_num
  · rw [(sub126 ⟨count (top T p), by omega⟩).1, ofBits_field _ (by simp) (by simp; omega)]
    congr 1; push_cast; ring

theorem invV_at (T : ℕ → FVec Ideal S32x128 .bf16) (p : Fin 32) (l : Fin 128) : invV T (ix2 p l) = pow2 (- expo (top T p)) := by
  have e : invV T (ix2 p l) = Ideal.ofBits .f32 ((127#32 - expos T (ix2 p 0)) <<< 23) := by
    unfold invV
    pointwise [k0_pay10]
    rfl
  have hc := count_le (top T p)
  rw [e, expos_at]
  unfold expo
  split
  · rw [show (127#32 - 0#32 : BitVec 32) = BitVec.ofNat 32 127 from rfl, ofBits_field 127 (by omega) (by omega)]; norm_num
  · rw [(sub126 ⟨count (top T p), by omega⟩).2, ofBits_field _ (by simp; omega) (by simp; omega)]
    congr 1; simp only; omega

/-- The codes of one block of columns. -/
def codeV (T : ℕ → FVec Ideal S32x128 .bf16) (q : ℕ) : FVec Ideal S32x128 .fp8e4m3 := k0_pay15 (F := Ideal) (invV T) (T q)

theorem codeV_at (T : ℕ → FVec Ideal S32x128 .bf16) (q : ℕ) (p : Fin 32) (l : Fin 128) :
    codeV T q (ix2 p l) = clip448 (T q (ix2 p l) * pow2 (- expo (top T p))) := by
  have e : codeV T q (ix2 p l) = clip448 (T q (ix2 p l) * invV T (ix2 p l)) := rfl
  rw [e, invV_at]

end Cert.PreIdeal.Value
end
-- ==== Proof.PreIdealTrips.lean ====
module

public import proofs.«01_k».proof.Proof.PreIdealTile
public import Idealize.ShloMosaic.Lib.Pipeline.ValueKit
public import Idealize.ShloMosaic.Lib.Pipeline.ReadBack

/-! # What the loop over groups of 32 rows leaves: the codes, and the scales in lane 0 of the auxiliary rows -/

@[expose] public section
set_option maxRecDepth 16384
noncomputable section
open Idealize.ShloMosaic Idealize.ShloMosaic.TcCoe Idealize.SL.Sem
namespace Cert.PreIdeal.Value
open Cert.PreIdeal Cert.PreIdeal.Gen
open Cert.GateUpIdeal.Value (pow2 expo mag clip448)

/-- Rows `32 k` on, columns `128 q` on, of a block of 512 rows. -/
def blockT (X : FVec Ideal S512x3072 .bf16) (k q : ℕ) : FVec Ideal S32x128 .bf16 := fun i =>
  X (ix2 (n0 := 512) (n1 := 3072) ⟨(32 * k + (i 0).val) % 512, Nat.mod_lt _ (by decide)⟩ ⟨(128 * q + (i 1).val) % 3072, Nat.mod_lt _ (by decide)⟩)

/-- The largest magnitude of a row of the block, over 448. -/
def topB (X : FVec Ideal S512x3072 .bf16) (r : Fin 512) : EReal := (Finset.univ.sup fun q : Fin 3072 => mag (X (ix2 r q))) * Ideal.ofBits .f32 0x3B124925#32

/-- The codes of the block. -/
def codesB (X : FVec Ideal S512x3072 .bf16) : FVec Ideal S512x3072 .fp8e4m3 := fun y =>
  clip448 (X (ix2 (n0 := 512) (n1 := 3072) (y 0) (y 1)) * pow2 (- expo (topB X (y 0))))

theorem blockT_at (X : FVec Ideal S512x3072 .bf16) (k q : ℕ) (hk : k < 16) (hq : q < 24) (p : Fin 32) (l : Fin 128) (r : Fin 512) (d : Fin 3072)
    (hr : r.val = 32 * k + p.val) (hd : d.val = 128 * q + l.val) : blockT X k q (ix2 p l) = X (ix2 r d) := by
  unfold blockT
  refine congrArg X ((ix2_inj ..).2 ⟨Fin.ext ?_, Fin.ext ?_⟩)
  · show (32 * k + p.val) % 512 = r.val; omega
  · show (128 * q + l.val) % 3072 = d.val; omega

theorem top_block (X : FVec Ideal S512x3072 .bf16) (k : ℕ) (hk : k < 16) (p : Fin 32) (r : Fin 512) (hr : r.val = 32 * k + p.val) :
    top (blockT X k) p = topB X r := by
  unfold top topB
  refine congrArg (fun x : EReal => x * Ideal.ofBits .f32 0x3B124925#32) (eq_of_forall_ge_iff fun u => ?_)
  rw [Finset.sup_le_iff, Finset.sup_le_iff]
  constructor
  · intro h d _
    have h1 := (chain_le _ u 23).1 (h ⟨d.val % 128, by omega⟩ (Finset.mem_univ _)) (d.val / 128) (by omega)
    rw [blockT_at X k (d.val / 128) hk (by omega) p _ r d hr (by simp only; omega)] at h1
    exact h1
  · intro h l _
    refine (chain_le _ u 23).2 fun q hq => ?_
    rw [blockT_at X k q hk (by omega) p l r ⟨128 * q + l.val, by omega⟩ hr rfl]
    exact h _ (Finset.mem_univ _)

/-- A load of 32 rows and 128 columns. -/
theorem ld_block (X : FVec Ideal S512x3072 .bf16) (off : Fin 2 → ℕ) (inb : ∀ a, off a + S32x128.size a ≤ S512x3072.size a) (k q : ℕ)
    (h : off 0 = 32 * k ∧ off 1 = 128 * q) (hk : k < 16) (hq : q < 24) :
    View.ld (Val := Elt Ideal) (e' := .bf16) X (Rect.unit off S32x128.size inb) = blockT X k q := by
  funext i
  rw [View.ld_unit]
  unfold blockT
  have i0 : (i 0).val < 32 := (i 0).isLt
  have i1 : (i 1).val < 128 := (i 1).isLt
  refine congrArg X ?_
  funext a
  refine Fin.ext ?_
  match a with
  | ⟨0, _⟩ => show off 0 + (i 0).val = (32 * k + (i 0).val) % 512; rw [h.1]; omega
  | ⟨1, _⟩ => show off 1 + (i 1).val = (128 * q + (i 1).val) % 3072; rw [h.2]; omega

/-- A stored piece of a trip holds the codes it is the place of. -/
theorem tile (y : S512x3072.Idx) (x : S32x128.Idx) (k q : ℕ) (hk : k < 16) (hq : q < 24) (off : Fin 2 → ℕ) (hx : ∀ a, (y a : ℕ) = off a + x a)
    (hoff : off 0 = 32 * k ∧ off 1 = 128 * q) (X : FVec Ideal S512x3072 .bf16) (w : FVec Ideal S32x128 .fp8e4m3)
    (hw : w = codeV (blockT X k) q) : w x = codesB X y := by
  have h0 : (y 0 : ℕ) = 32 * k + x 0 := (hx 0).trans (congrArg (· + _) hoff.1)
  have h1 : (y 1 : ℕ) = 128 * q + x 1 := (hx 1).trans (congrArg (· + _) hoff.2)
  subst hw
  refine (congrArg (codeV (blockT X k) q) (eq_ix2 x)).trans ((codeV_at (blockT X k) q (x 0) (x 1)).trans ?_)
  exact congrArg₂ (fun a b => clip448 (a * pow2 (- expo b))) (blockT_at X k q hk hq (x 0) (x 1) (y 0) (y 1) h0 h1) (top_block X k hk (x 0) (y 0) h0)

/-- What a trip stores in lane 0 of the auxiliary rows is the scale. -/
theorem tile_scale (y : S512x128.Idx) (x : S32x128.Idx) (k : ℕ) (hk : k < 16) (off : Fin 2 → ℕ) (hx : ∀ a, (y a : ℕ) = off a + x a)
    (hoff : off 0 = 32 * k ∧ off 1 = 0) (hy : (y 1 : ℕ) = 0) (X : FVec Ideal S512x3072 .bf16) (v w : FVec Ideal S32x128 .f32)
    (hw : w = scaleV (blockT X k) v) : w x = pow2 (expo (topB X (y 0))) := by
  have h0 : (y 0 : ℕ) = 32 * k + x 0 := (hx 0).trans (congrArg (· + _) hoff.1)
  have h1 : (y 1 : ℕ) = 0 + x 1 := (hx 1).trans (congrArg (· + _) hoff.2)
  have ex : x = ix2 (n0 := 32) (n1 := 128) (x 0) 0 := (eq_ix2 x).trans ((ix2_inj ..).2 ⟨rfl, Fin.ext (by show (x 1).val = 0; omega)⟩)
  subst hw
  refine (congrArg (scaleV (blockT X k) v) ex).trans ((scaleV_at (blockT X k) v (x 0)).trans ?_)
  exact congrArg (fun b => pow2 (expo b)) (top_block X k hk (x 0) (y 0) h0)

/-- Where the loop's loads and stores of its trip `k` are. -/
theorem offs : ∀ k : Fin k0_t1_loop.trips, (k0_off25 k 0 = 32 * k.val ∧ k0_off25 k 1 = 0) ∧ (k0_off1 k 0 = 32 * k.val ∧ k0_off1 k 1 = 128 * 0) ∧ (k0_off2 k 0 = 32 * k.val ∧ k0_off2 k 1 = 128 * 1) ∧ (k0_off3 k 0 = 32 * k.val ∧ k0_off3 k 1 = 128 * 2) ∧ (k0_off4 k 0 = 32 * k.val ∧ k0_off4 k 1 = 128 * 3) ∧ (k0_off5 k 0 = 32 * k.val ∧ k0_off5 k 1 = 128 * 4) ∧ (k0_off6 k 0 = 32 * k.val ∧ k0_off6 k 1 = 128 * 5) ∧ (k0_off7 k 0 = 32 * k.val ∧ k0_off7 k 1 = 128 * 6) ∧ (k0_off8 k 0 = 32 * k.val ∧ k0_off8 k 1 = 128 * 7) ∧ (k0_off9 k 0 = 32 * k.val ∧ k0_off9 k 1 = 128 * 8) ∧ (k0_off10 k 0 = 32 * k.val ∧ k0_off10 k 1 = 128 * 9) ∧ (k0_off11 k 0 = 32 * k.val ∧ k0_off11 k 1 = 128 * 10) ∧ (k0_off12 k 0 = 32 * k.val ∧ k0_off12 k 1 = 128 * 11) ∧ (k0_off13 k 0 = 32 * k.val ∧ k0_off13 k 1 = 128 * 12) ∧ (k0_off14 k 0 = 32 * k.val ∧ k0_off14 k 1 = 128 * 13) ∧ (k0_off15 k 0 = 32 * k.val ∧ k0_off15 k 1 = 128 * 14) ∧ (k0_off16 k 0 = 32 * k.val ∧ k0_off16 k 1 = 128 * 15) ∧ (k0_off17 k 0 = 32 * k.val ∧ k0_off17 k 1 = 128 * 16) ∧ (k0_off18 k 0 = 32 * k.val ∧ k0_off18 k 1 = 128 * 17) ∧ (k0_off19 k 0 = 32 * k.val ∧ k0_off19 k 1 = 128 * 18) ∧ (k0_off20 k 0 = 32 * k.val ∧ k0_off20 k 1 = 128 * 19) ∧ (k0_off21 k 0 = 32 * k.val ∧ k0_off21 k 1 = 128 * 20) ∧ (k0_off22 k 0 = 32 * k.val ∧ k0_off22 k 1 = 128 * 21) ∧ (k0_off23 k 0 = 32 * k.val ∧ k0_off23 k 1 = 128 * 22) ∧ (k0_off24 k 0 = 32 * k.val ∧ k0_off24 k 1 = 128 * 23) :=
  (by decide +kernel : ∀ k : Fin 16, _)

/-- A place is in some piece when it is in the first, or else in one of the others. -/
theorem cover_cons (y : S512x3072.Idx) (off : Fin 2 → ℕ) (inb : ∀ a, off a + S32x128.size a ≤ S512x3072.size a) (w : S32x128.Idx → Elt Ideal .fp8e4m3)
    (L : List (View.Piece (Elt Ideal) S512x3072 .fp8e4m3))
    (h : ¬ (off 0 ≤ (y 0 : ℕ) ∧ (y 0 : ℕ) < off 0 + 32 ∧ off 1 ≤ (y 1 : ℕ) ∧ (y 1 : ℕ) < off 1 + 128) → ∃ p ∈ L, y ∈ p.1.set) :
    ∃ p ∈ (⟨Rect.unit off S32x128.size inb, w⟩ : View.Piece (Elt Ideal) S512x3072 .fp8e4m3) :: L, y ∈ p.1.set := by
  by_cases hm : off 0 ≤ (y 0 : ℕ) ∧ (y 0 : ℕ) < off 0 + 32 ∧ off 1 ≤ (y 1 : ℕ) ∧ (y 1 : ℕ) < off 1 + 128
  · exact ⟨_, List.mem_cons_self, (Rect.mem_set_unit (inb := inb)).2 fun a => by
      match a with
      | ⟨0, _⟩ => exact ⟨hm.1, hm.2.1⟩
      | ⟨1, _⟩ => exact ⟨hm.2.2.1, hm.2.2.2⟩⟩
  · obtain ⟨p, hp, hy⟩ := h hm
    exact ⟨p, List.mem_cons_of_mem _ hp, hy⟩

set_option maxHeartbeats 4000000 in
/-- Every piece of codes that a trip stores holds the codes it is the place of. -/
theorem trip_all (𝒱 : Variants) (c : Dev nD) (bd : Option 𝒱.V) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (X : FVec Ideal S512x3072 .bf16) (k : Fin k0_t1_loop.trips) (f3 : BufTy.Contents (Elt Ideal) arg3.view.ty) (f5 : BufTy.Contents (Elt Ideal) arg5.view.ty) (f6 : BufTy.Contents (Elt Ideal) arg6.view.ty) (y : S512x3072.Idx) :
    View.AllAt (Val := Elt Ideal) ((trip_k0_t1 (F := Ideal) 𝒱 c bd i arg1 harg1 arg2 harg2 arg3 harg3 arg4 harg4 arg5 harg5 arg6 harg6 (harg1.unread X) k).1 f3 f5 f6) y (codesB X y) := by
  have hk : k.val < 16 := k.isLt
  obtain ⟨s0, s1, s2, s3, s4, s5, s6, s7, s8, s9, s10, s11, s12, s13, s14, s15, s16, s17, s18, s19, s20, s21, s22, s23, s24⟩ := offs k
  have l1 := fun inb => ld_block X (k0_off1 k) inb k.val 0 s1 hk (by omega)
  have l2 := fun inb => ld_block X (k0_off2 k) inb k.val 1 s2 hk (by omega)
  have l3 := fun inb => ld_block X (k0_off3 k) inb k.val 2 s3 hk (by omega)
  have l4 := fun inb => ld_block X (k0_off4 k) inb k.val 3 s4 hk (by omega)
  have l5 := fun inb => ld_block X (k0_off5 k) inb k.val 4 s5 hk (by omega)
  have l6 := fun inb => ld_block X (k0_off6 k) inb k.val 5 s6 hk (by omega)
  have l7 := fun inb => ld_block X (k0_off7 k) inb k.val 6 s7 hk (by omega)
  have l8 := fun inb => ld_block X (k0_off8 k) inb k.val 7 s8 hk (by omega)
  have l9 := fun inb => ld_block X (k0_off9 k) inb k.val 8 s9 hk (by omega)
  have l10 := fun inb => ld_block X (k0_off10 k) inb k.val 9 s10 hk (by omega)
  have l11 := fun inb => ld_block X (k0_off11 k) inb k.val 10 s11 hk (by omega)
  have l12 := fun inb => ld_block X (k0_off12 k) inb k.val 11 s12 hk (by omega)
  have l13 := fun inb => ld_block X (k0_off13 k) inb k.val 12 s13 hk (by omega)
  have l14 := fun inb => ld_block X (k0_off14 k) inb k.val 13 s14 hk (by omega)
  have l15 := fun inb => ld_block X (k0_off15 k) inb k.val 14 s15 hk (by omega)
  have l16 := fun inb => ld_block X (k0_off16 k) inb k.val 15 s16 hk (by omega)
  have l17 := fun inb => ld_block X (k0_off17 k) inb k.val 16 s17 hk (by omega)
  have l18 := fun inb => ld_block X (k0_off18 k) inb k.val 17 s18 hk (by omega)
  have l19 := fun inb => ld_block X (k0_off19 k) inb k.val 18 s19 hk (by omega)
  have l20 := fun inb => ld_block X (k0_off20 k) inb k.val 19 s20 hk (by omega)
  have l21 := fun inb => ld_block X (k0_off21 k) inb k.val 20 s21 hk (by omega)
  have l22 := fun inb => ld_block X (k0_off22 k) inb k.val 21 s22 hk (by omega)
  have l23 := fun inb => ld_block X (k0_off23 k) inb k.val 22 s23 hk (by omega)
  have l24 := fun inb => ld_block X (k0_off24 k) inb k.val 23 s24 hk (by omega)
  unfold trip_k0_t1
  frame_out
  refine View.allAt_cons_unit _ _ _ _ _ (fun x hx => tile y x k.val 23 hk (by omega) _ hx s24 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 22 hk (by omega) _ hx s23 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 21 hk (by omega) _ hx s22 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 20 hk (by omega) _ hx s21 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 19 hk (by omega) _ hx s20 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 18 hk (by omega) _ hx s19 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 17 hk (by omega) _ hx s18 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 16 hk (by omega) _ hx s17 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 15 hk (by omega) _ hx s16 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 14 hk (by omega) _ hx s15 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 13 hk (by omega) _ hx s14 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 12 hk (by omega) _ hx s13 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 11 hk (by omega) _ hx s12 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 10 hk (by omega) _ hx s11 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 9 hk (by omega) _ hx s10 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 8 hk (by omega) _ hx s9 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 7 hk (by omega) _ hx s8 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 6 hk (by omega) _ hx s7 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 5 hk (by omega) _ hx s6 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 4 hk (by omega) _ hx s5 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 3 hk (by omega) _ hx s4 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 2 hk (by omega) _ hx s3 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 1 hk (by omega) _ hx s2 X _ ?_) ?_
  · simp only [l1, l2, l3, l4, l5, l6, l7, l8, l9, l10, l11, l12, l13, l14, l15, l16, l17, l18, l19, l20, l21, l22, l23, l24]; rfl
  refine View.allAt_cons_unit _ _ _ _ _ (fun x hx => tile y x k.val 0 hk (by omega) _ hx s1 X _ ?_) ?_
  · simp only [l1, l2, l3, l4, l5, l6, l7, l8, l9, l10, l11, l12, l13, l14, l15, l16, l17, l18, l19, l20, l21, l22, l23, l24]; rfl
  exact View.allAt_nil _ _

set_option maxHeartbeats 4000000 in
/-- Every place in the 32 rows of a trip is in a piece that the trip stores. -/
theorem trip_cover (𝒱 : Variants) (c : Dev nD) (bd : Option 𝒱.V) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (X : BufTy.Contents (Elt Ideal) arg1.view.ty) (k : Fin k0_t1_loop.trips) (f3 : BufTy.Contents (Elt Ideal) arg3.view.ty) (f5 : BufTy.Contents (Elt Ideal) arg5.view.ty) (f6 : BufTy.Contents (Elt Ideal) arg6.view.ty) (y : S512x3072.Idx) (hy : (y 0 : ℕ) / 32 = k.val) :
    ∃ p ∈ (trip_k0_t1 (F := Ideal) 𝒱 c bd i arg1 harg1 arg2 harg2 arg3 harg3 arg4 harg4 arg5 harg5 arg6 harg6 X k).1 f3 f5 f6, y ∈ p.1.set := by
  have hk : k.val < 16 := k.isLt
  have y1 : (y 1).val < 3072 := (y 1).isLt
  obtain ⟨s0, s1, s2, s3, s4, s5, s6, s7, s8, s9, s10, s11, s12, s13, s14, s15, s16, s17, s18, s19, s20, s21, s22, s23, s24⟩ := offs k
  unfold trip_k0_t1
  frame_open
  refine cover_cons y _ _ _ _ fun h24 => ?_
  refine cover_cons y _ _ _ _ fun h23 => ?_
  refine cover_cons y _ _ _ _ fun h22 => ?_
  refine cover_cons y _ _ _ _ fun h21 => ?_
  refine cover_cons y _ _ _ _ fun h20 => ?_
  refine cover_cons y _ _ _ _ fun h19 => ?_
  refine cover_cons y _ _ _ _ fun h18 => ?_
  refine cover_cons y _ _ _ _ fun h17 => ?_
  refine cover_cons y _ _ _ _ fun h16 => ?_
  refine cover_cons y _ _ _ _ fun h15 => ?_
  refine cover_cons y _ _ _ _ fun h14 => ?_
  refine cover_cons y _ _ _ _ fun h13 => ?_
  refine cover_cons y _ _ _ _ fun h12 => ?_
  refine cover_cons y _ _ _ _ fun h11 => ?_
  refine cover_cons y _ _ _ _ fun h10 => ?_
  refine cover_cons y _ _ _ _ fun h9 => ?_
  refine cover_cons y _ _ _ _ fun h8 => ?_
  refine cover_cons y _ _ _ _ fun h7 => ?_
  refine cover_cons y _ _ _ _ fun h6 => ?_
  refine cover_cons y _ _ _ _ fun h5 => ?_
  refine cover_cons y _ _ _ _ fun h4 => ?_
  refine cover_cons y _ _ _ _ fun h3 => ?_
  refine cover_cons y _ _ _ _ fun h2 => ?_
  refine cover_cons y _ _ _ _ fun h1 => ?_
  exfalso
  omega

/-- A place in the 32 rows of a store is in its piece. -/
theorem cover_rows (y : S512x128.Idx) (k : ℕ) (off : Fin 2 → ℕ) (inb : ∀ a, off a + S32x128.size a ≤ S512x128.size a) (w : S32x128.Idx → Elt Ideal .f32)
    (h : off 0 = 32 * k ∧ off 1 = 0) (hy : (y 0 : ℕ) / 32 = k) :
    ∃ p ∈ [(⟨Rect.unit off S32x128.size inb, w⟩ : View.Piece (Elt Ideal) S512x128 .f32)], y ∈ p.1.set :=
  ⟨_, List.mem_cons_self, (Rect.mem_set_unit (inb := inb)).2 fun a => by
    have y1 : (y 1).val < 128 := (y 1).isLt
    match a with
    | ⟨0, _⟩ => exact ⟨by show off 0 ≤ (y 0 : ℕ); omega, by show (y 0 : ℕ) < off 0 + 32; omega⟩
    | ⟨1, _⟩ => exact ⟨by show off 1 ≤ (y 1 : ℕ); omega, by show (y 1 : ℕ) < off 1 + 128; omega⟩⟩

set_option maxHeartbeats 4000000 in
/-- The piece that a trip stores in the auxiliary rows holds the scales in lane 0. -/
theorem trip_scale (𝒱 : Variants) (c : Dev nD) (bd : Option 𝒱.V) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (X : FVec Ideal S512x3072 .bf16) (k : Fin k0_t1_loop.trips) (f3 : BufTy.Contents (Elt Ideal) arg3.view.ty) (f5 : BufTy.Contents (Elt Ideal) arg5.view.ty) (f6 : BufTy.Contents (Elt Ideal) arg6.view.ty) (y : S512x128.Idx) (hy : (y 1 : ℕ) = 0) :
    View.AllAt (Val := Elt Ideal) ((trip_k0_t1 (F := Ideal) 𝒱 c bd i arg1 harg1 arg2 harg2 arg3 harg3 arg4 harg4 arg5 harg5 arg6 harg6 (harg1.unread X) k).2.2.1 f3 f5 f6) y (pow2 (expo (topB X (y 0)))) := by
  have hk : k.val < 16 := k.isLt
  obtain ⟨s0, s1, s2, s3, s4, s5, s6, s7, s8, s9, s10, s11, s12, s13, s14, s15, s16, s17, s18, s19, s20, s21, s22, s23, s24⟩ := offs k
  have l1 := fun inb => ld_block X (k0_off1 k) inb k.val 0 s1 hk (by omega)
  have l2 := fun inb => ld_block X (k0_off2 k) inb k.val 1 s2 hk (by omega)
  have l3 := fun inb => ld_block X (k0_off3 k) inb k.val 2 s3 hk (by omega)
  have l4 := fun inb => ld_block X (k0_off4 k) inb k.val 3 s4 hk (by omega)
  have l5 := fun inb => ld_block X (k0_off5 k) inb k.val 4 s5 hk (by omega)
  have l6 := fun inb => ld_block X (k0_off6 k) inb k.val 5 s6 hk (by omega)
  have l7 := fun inb => ld_block X (k0_off7 k) inb k.val 6 s7 hk (by omega)
  have l8 := fun inb => ld_block X (k0_off8 k) inb k.val 7 s8 hk (by omega)
  have l9 := fun inb => ld_block X (k0_off9 k) inb k.val 8 s9 hk (by omega)
  have l10 := fun inb => ld_block X (k0_off10 k) inb k.val 9 s10 hk (by omega)
  have l11 := fun inb => ld_block X (k0_off11 k) inb k.val 10 s11 hk (by omega)
  have l12 := fun inb => ld_block X (k0_off12 k) inb k.val 11 s12 hk (by omega)
  have l13 := fun inb => ld_block X (k0_off13 k) inb k.val 12 s13 hk (by omega)
  have l14 := fun inb => ld_block X (k0_off14 k) inb k.val 13 s14 hk (by omega)
  have l15 := fun inb => ld_block X (k0_off15 k) inb k.val 14 s15 hk (by omega)
  have l16 := fun inb => ld_block X (k0_off16 k) inb k.val 15 s16 hk (by omega)
  have l17 := fun inb => ld_block X (k0_off17 k) inb k.val 16 s17 hk (by omega)
  have l18 := fun inb => ld_block X (k0_off18 k) inb k.val 17 s18 hk (by omega)
  have l19 := fun inb => ld_block X (k0_off19 k) inb k.val 18 s19 hk (by omega)
  have l20 := fun inb => ld_block X (k0_off20 k) inb k.val 19 s20 hk (by omega)
  have l21 := fun inb => ld_block X (k0_off21 k) inb k.val 20 s21 hk (by omega)
  have l22 := fun inb => ld_block X (k0_off22 k) inb k.val 21 s22 hk (by omega)
  have l23 := fun inb => ld_block X (k0_off23 k) inb k.val 22 s23 hk (by omega)
  have l24 := fun inb => ld_block X (k0_off24 k) inb k.val 23 s24 hk (by omega)
  unfold trip_k0_t1
  frame_out
  refine View.allAt_cons_unit _ _ _ _ _ ?_ ?_
  · intro x hx
    refine tile_scale y x k.val hk _ hx s0 hy X (View.ld (Val := Elt Ideal) (e' := .f32) (View.read (Elt Ideal) arg6.view f6) (Rect.unit (k0_off25 k) S32x128.size (k0_off25_inb k))) _ ?_
    simp only [l1, l2, l3, l4, l5, l6, l7, l8, l9, l10, l11, l12, l13, l14, l15, l16, l17, l18, l19, l20, l21, l22, l23, l24]; rfl
  exact View.allAt_nil _ _

/-- It covers the 32 rows of the trip. -/
theorem trip_scale_cover (𝒱 : Variants) (c : Dev nD) (bd : Option 𝒱.V) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (X : BufTy.Contents (Elt Ideal) arg1.view.ty) (k : Fin k0_t1_loop.trips) (f3 : BufTy.Contents (Elt Ideal) arg3.view.ty) (f5 : BufTy.Contents (Elt Ideal) arg5.view.ty) (f6 : BufTy.Contents (Elt Ideal) arg6.view.ty) (y : S512x128.Idx) (hy : (y 0 : ℕ) / 32 = k.val) :
    ∃ p ∈ (trip_k0_t1 (F := Ideal) 𝒱 c bd i arg1 harg1 arg2 harg2 arg3 harg3 arg4 harg4 arg5 harg5 arg6 harg6 X k).2.2.1 f3 f5 f6, y ∈ p.1.set := by
  unfold trip_k0_t1
  frame_open
  exact cover_rows y k.val _ _ _ (offs k).1 hy

/-- After `n` trips every piece of codes holds the codes it is the place of, and every place of the first `32 n` rows is in one. -/
theorem trips_all (𝒱 : Variants) (c : Dev nD) (bd : Option 𝒱.V) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (X : FVec Ideal S512x3072 .bf16) (f3 : BufTy.Contents (Elt Ideal) arg3.view.ty) (f5 : BufTy.Contents (Elt Ideal) arg5.view.ty) (f6 : BufTy.Contents (Elt Ideal) arg6.view.ty) (y : S512x3072.Idx) : ∀ n : ℕ, n ≤ 16 →
    View.AllAt (Val := Elt Ideal) (pb_k0_t1 (F := Ideal) 𝒱 c bd i arg1 harg1 arg2 harg2 arg3 harg3 arg4 harg4 arg5 harg5 arg6 harg6 (harg1.unread X) f3 f5 f6 n).1 y (codesB X y)
      ∧ ((y 0 : ℕ) < 32 * n → ∃ p ∈ (pb_k0_t1 (F := Ideal) 𝒱 c bd i arg1 harg1 arg2 harg2 arg3 harg3 arg4 harg4 arg5 harg5 arg6 harg6 (harg1.unread X) f3 f5 f6 n).1, y ∈ p.1.set)
  | 0, _ => ⟨View.allAt_nil _ _, fun h => absurd h (by omega)⟩
  | n + 1, hn => by
    obtain ⟨ha, hc⟩ := trips_all 𝒱 c bd i arg1 harg1 arg2 harg2 arg3 harg3 arg4 harg4 arg5 harg5 arg6 harg6 X f3 f5 f6 y n (by omega)
    rw [pb_k0_t1_succ (F := Ideal) 𝒱 c bd i arg1 harg1 arg2 harg2 arg3 harg3 arg4 harg4 arg5 harg5 arg6 harg6 (harg1.unread X) f3 f5 f6 (⟨n, hn⟩ : Fin k0_t1_loop.trips)]
    refine ⟨fun p hp => ?_, fun h => ?_⟩
    · rcases List.mem_append.1 hp with hp | hp
      · exact trip_all 𝒱 c bd i arg1 harg1 arg2 harg2 arg3 harg3 arg4 harg4 arg5 harg5 arg6 harg6 X ⟨n, hn⟩ _ _ _ y p hp
      · exact ha p hp
    · by_cases hlt : (y 0 : ℕ) < 32 * n
      · obtain ⟨p, hp, hy⟩ := hc hlt
        exact ⟨p, List.mem_append_right _ hp, hy⟩
      · obtain ⟨p, hp, hy⟩ := trip_cover 𝒱 c bd i arg1 harg1 arg2 harg2 arg3 harg3 arg4 harg4 arg5 harg5 arg6 harg6 (harg1.unread X) ⟨n, hn⟩ _ _ _ y (by show (y 0 : ℕ) / 32 = n; omega)
        exact ⟨p, List.mem_append_left _ hp, hy⟩

/-- After `n` trips every piece in the auxiliary rows holds the scale in lane 0, and every place of the first `32 n` rows is in one. -/
theorem trips_scale (𝒱 : Variants) (c : Dev nD) (bd : Option 𝒱.V) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (X : FVec Ideal S512x3072 .bf16) (f3 : BufTy.Contents (Elt Ideal) arg3.view.ty) (f5 : BufTy.Contents (Elt Ideal) arg5.view.ty) (f6 : BufTy.Contents (Elt Ideal) arg6.view.ty) (y : S512x128.Idx) (hy1 : (y 1 : ℕ) = 0) : ∀ n : ℕ, n ≤ 16 →
    View.AllAt (Val := Elt Ideal) (pb_k0_t1 (F := Ideal) 𝒱 c bd i arg1 harg1 arg2 harg2 arg3 harg3 arg4 harg4 arg5 harg5 arg6 harg6 (harg1.unread X) f3 f5 f6 n).2.2 y (pow2 (expo (topB X (y 0))))
      ∧ ((y 0 : ℕ) < 32 * n → ∃ p ∈ (pb_k0_t1 (F := Ideal) 𝒱 c bd i arg1 harg1 arg2 harg2 arg3 harg3 arg4 harg4 arg5 harg5 arg6 harg6 (harg1.unread X) f3 f5 f6 n).2.2, y ∈ p.1.set)
  | 0, _ => ⟨View.allAt_nil _ _, fun h => absurd h (by omega)⟩
  | n + 1, hn => by
    obtain ⟨ha, hc⟩ := trips_scale 𝒱 c bd i arg1 harg1 arg2 harg2 arg3 harg3 arg4 harg4 arg5 harg5 arg6 harg6 X f3 f5 f6 y hy1 n (by omega)
    rw [pb_k0_t1_succ (F := Ideal) 𝒱 c bd i arg1 harg1 arg2 harg2 arg3 harg3 arg4 harg4 arg5 harg5 arg6 harg6 (harg1.unread X) f3 f5 f6 (⟨n, hn⟩ : Fin k0_t1_loop.trips)]
    refine ⟨fun p hp => ?_, fun h => ?_⟩
    · rcases List.mem_append.1 hp with hp | hp
      · exact trip_scale 𝒱 c bd i arg1 harg1 arg2 harg2 arg3 harg3 arg4 harg4 arg5 harg5 arg6 harg6 X ⟨n, hn⟩ _ _ _ y hy1 p hp
      · exact ha p hp
    · by_cases hlt : (y 0 : ℕ) < 32 * n
      · obtain ⟨p, hp, hy⟩ := hc hlt
        exact ⟨p, List.mem_append_right _ hp, hy⟩
      · obtain ⟨p, hp, hy⟩ := trip_scale_cover 𝒱 c bd i arg1 harg1 arg2 harg2 arg3 harg3 arg4 harg4 arg5 harg5 arg6 harg6 (harg1.unread X) ⟨n, hn⟩ _ _ _ y (by show (y 0 : ℕ) / 32 = n; omega)
        exact ⟨p, List.mem_append_left _ hp, hy⟩

/-- What the codes' buffer reads after the loop, through any view and whatever it held before. -/
theorem codes_read (𝒱 : Variants) (c : Dev nD) (bd : Option 𝒱.V) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (X : FVec Ideal S512x3072 .bf16) (f3 : BufTy.Contents (Elt Ideal) arg3.view.ty) (f5 : BufTy.Contents (Elt Ideal) arg5.view.ty) (f6 : BufTy.Contents (Elt Ideal) arg6.view.ty) {κ : Kind} {sp : Space} (v : View sig κ sp S512x3072 .fp8e4m3) (f : BufTy.Contents (Elt Ideal) v.ty) :
    v.read (Elt Ideal) (v.writes (Elt Ideal) f (pb_k0_t1 (F := Ideal) 𝒱 c bd i arg1 harg1 arg2 harg2 arg3 harg3 arg4 harg4 arg5 harg5 arg6 harg6 (harg1.unread X) f3 f5 f6 k0_t1_loop.trips).1) = codesB X := by
  funext y
  have hy : (y 0).val < 512 := (y 0).isLt
  obtain ⟨ha, hc⟩ := trips_all 𝒱 c bd i arg1 harg1 arg2 harg2 arg3 harg3 arg4 harg4 arg5 harg5 arg6 harg6 X f3 f5 f6 y 16 (le_refl _)
  have hc := hc (by omega)
  exact (View.read_writes_apply_eq_canon v f y _ hc).trans (View.canon_eq_of_allAt _ y _ hc ha)

/-- What lane 0 of the auxiliary rows reads after the loop, whatever was stored before it. -/
theorem scale_read (𝒱 : Variants) (c : Dev nD) (bd : Option 𝒱.V) (i : grid0.Coords) (arg1 : Memref sig .tc .vmem S512x3072 .bf16) (harg1 : arg1.IsWhole) (arg2 : Memref sig .tc .vmem S128x3072 .bf16) (harg2 : arg2.IsWhole) (arg3 : Memref sig .tc .vmem S512x3072 .fp8e4m3) (harg3 : arg3.IsWhole) (arg4 : Memref sig .tc .vmem S1x512 .f32) (harg4 : arg4.IsWhole) (arg5 : Memref sig .tc .vmem S64x6x8x128 .i32) (harg5 : arg5.IsWhole) (arg6 : Memref sig .tc .vmem S512x128 .f32) (harg6 : arg6.IsWhole)
    (X : FVec Ideal S512x3072 .bf16) (f3 : BufTy.Contents (Elt Ideal) arg3.view.ty) (f5 : BufTy.Contents (Elt Ideal) arg5.view.ty) (f6 : BufTy.Contents (Elt Ideal) arg6.view.ty) {κ : Kind} {sp : Space} (v : View sig κ sp S512x128 .f32) (f : BufTy.Contents (Elt Ideal) v.ty)
    (L : List (View.Piece (Elt Ideal) S512x128 .f32)) (r : Fin 512) :
    v.read (Elt Ideal) (v.writes (Elt Ideal) f ((pb_k0_t1 (F := Ideal) 𝒱 c bd i arg1 harg1 arg2 harg2 arg3 harg3 arg4 harg4 arg5 harg5 arg6 harg6 (harg1.unread X) f3 f5 f6 k0_t1_loop.trips).2.2 ++ L)) (ix2 r 0)
      = pow2 (expo (topB X r)) := by
  have hy : r.val < 512 := r.isLt
  obtain ⟨ha, hc⟩ := trips_scale 𝒱 c bd i arg1 harg1 arg2 harg2 arg3 harg3 arg4 harg4 arg5 harg5 arg6 harg6 X f3 f5 f6 (ix2 r 0) rfl 16 (le_refl _)
  have hc := hc (by show r.val < 32 * 16; omega)
  rw [View.writes_append]
  exact (View.read_writes_apply_eq_canon v _ (ix2 r 0) _ hc).trans (View.canon_eq_of_allAt _ (ix2 r 0) _ hc ha)

end Cert.PreIdeal.Value
end
-- ==== Proof.QuantSpec.lean ====
module

public import proofs.«01_k».proof.Proof.GateUpScale
public import proofs.«01_k».proof.PreIdeal

/-! # What the quantiser computes

The codes and the scales of the activation `X`: the scale of a row is the power of two whose exponent counts the powers
of two under the row's largest magnitude over 448. -/

@[expose] public section
set_option maxRecDepth 16384
noncomputable section
open Idealize.ShloMosaic Idealize.ShloMosaic.TcCoe Idealize.SL.Sem
namespace Cert.PreIdeal.Value
open Cert.PreIdeal
open Cert.GateUpIdeal.Value (pow2 expo mag clip448)
variable (X : FVec Ideal S24576x3072 .bf16)

/-- The largest magnitude of row `n`, over 448. -/
def topX (n : Fin 24576) : EReal := (Finset.univ.sup fun q : Fin 3072 => mag (X (ix2 n q))) * Ideal.ofBits .f32 0x3B124925#32

/-- The codes of all rows. -/
def codesX : FVec Ideal S24576x3072 .fp8e4m3 := fun y => clip448 (X (ix2 (n0 := 24576) (n1 := 3072) (y 0) (y 1)) * pow2 (- expo (topX X (y 0))))

/-- The scales of all rows, as one row. -/
def scalesX : FVec Ideal S1x24576 .f32 := fun y => pow2 (expo (topX X (y 1)))

end Cert.PreIdeal.Value
end
-- ==== Proof.PreIdealValue.lean ====
module

public import proofs.«01_k».proof.Proof.PreIdealTrips
public import proofs.«01_k».proof.Proof.QuantSpec
public import Idealize.ShloMosaic.Lib.Pipeline.ValueKit

/-! # The arrays after the quantiser's run -/

@[expose] public section
set_option maxRecDepth 16384
noncomputable section
open Idealize.ShloMosaic Idealize.ShloMosaic.TcCoe Idealize.SL.Sem
open Idealize.ShloMosaic.Pipeline (Dat)
namespace Cert.PreIdeal.Value
open Cert.PreIdeal Cert.PreIdeal.Gen Cert.PreIdeal.Run
open Cert.GateUpIdeal.Value (pow2 expo mag clip448)
variable (m : (ℓ : Loc nD τ sig) → Buf (Elt Ideal) ℓ) (c : Dev nD)

/-- What a point leaves in the codes' buffer. -/
theorem out_codes (t : Fin cfg0.N) : (outsAt0 m c t).1 = codesB (iblk m c 0 t) := by
  unfold outsAt0
  dsimp only
  unfold out0_A_2 run0
  exact codes_read _ _ _ _ _ _ _ _ _ _ _ _ _ _ _ _ (iblk m c 0 t) _ _ _ VO0_2 _

theorem zero2 : ∀ a : Fin 2, (![0, 0] : Fin 2 → ℕ) a = 0 := by decide

/-- The stored row is lane 0 of the scale rows. -/
theorem pay182_at (v : FVec Ideal S512x128 .f32) (z : Fin 1) (r : Fin 512) : k0_pay182 (F := Ideal) v (ix2 z r) = v (ix2 r 0) := by
  pointwise [k0_pay182]

/-- A load of the whole scale rows after a list of stores. -/
theorem readCov_rows {κ : Kind} {sp : Space} (v : View sig κ sp S512x128 .f32) (L : List (View.Piece (Elt Ideal) S512x128 .f32))
    (inb : ∀ a, (![0, 0] : Fin S512x128.rank → ℕ) a + S512x128.size a ≤ S512x128.size a) :
    v.readCov L (Rect.unit (s := S512x128) ![0, 0] S512x128.size inb).toLoadRect = v.read (Elt Ideal) (v.writes (Elt Ideal) v.junk L) :=
  View.ld_unit_lit inb (v.read (Elt Ideal) (v.writes (Elt Ideal) v.junk L)) zero2

/-- What a point leaves in the scales' buffer. -/
theorem out_scales (t : Fin cfg0.N) (z : Fin 1) (r : Fin 512) : (outsAt0 m c t).2.1 (ix2 z r) = pow2 (expo (topB (iblk m c 0 t) r)) := by
  unfold outsAt0
  dsimp only
  unfold out0_A_3 run0
  frame_out
  refine (pay182_at _ z r).trans ?_
  refine (congrFun (readCov_rows _ _ _) (ix2 r 0)).trans ?_
  exact scale_read _ _ _ _ _ _ _ _ _ _ _ _ _ _ _ _ (iblk m c 0 t) _ _ _ _ _ _ r

theorem t_lt (t : Fin cfg0.N) : t.val < 48 := lt_of_lt_of_eq t.isLt (show cfg0.N = 48 from N_0)

theorem idx : ∀ t : Fin cfg0.N, win0_0.index t = ![t.val, 0] ∧ win0_2.index t = ![t.val, 0] ∧ win0_3.index t = ![0, t.val] :=
  (by decide +kernel : ∀ t : Fin grid0.N, _)

/-- The activation block of point `t` is rows `512 t` and on. -/
theorem in0 (t : Fin cfg0.N) (r : Fin 512) (d : Fin 3072) (n : Fin 24576) (hn : n.val = 512 * t.val + r.val) :
    (iblk m c 0 t : FVec Ideal S512x3072 .bf16) (ix2 r d) = (m ((c : Thread nD τ).loc main_arg0) (ix2 n d) : EReal) := by
  blk_point [iblk, V, idx t]

theorem top_eq (t : Fin cfg0.N) (r : Fin 512) (n : Fin 24576) (hn : n.val = 512 * t.val + r.val) :
    topB (iblk m c 0 t) r = topX (m ((c : Thread nD τ).loc main_arg0)) n := by
  unfold topB topX
  simp only [in0 m c t r _ n hn]

/-- A code of a block is the array's code where the entry and the row's maximum agree. -/
theorem codes_lift (B : FVec Ideal S512x3072 .bf16) (X : FVec Ideal S24576x3072 .bf16) (r : Fin 512) (d : Fin 3072) (z : S24576x3072.Idx)
    (hB : B (ix2 r d) = X (ix2 (n0 := 24576) (n1 := 3072) (z 0) (z 1))) (ht : topB B r = topX X (z 0)) : codesB B (ix2 r d) = codesX X z := by
  show clip448 (B (ix2 r d) * pow2 (- expo (topB B r))) = clip448 (X (ix2 (n0 := 24576) (n1 := 3072) (z 0) (z 1)) * pow2 (- expo (topX X (z 0))))
  rw [hB, ht]

theorem codes_at (t : Fin cfg0.N) (r : Fin 512) (d : Fin 3072) (z : S24576x3072.Idx) (h0 : (z 0).val = 512 * t.val + r.val) (h1 : (z 1).val = d.val) :
    codesB (iblk m c 0 t) (ix2 r d) = codesX (m ((c : Thread nD τ).loc main_arg0)) z := by
  obtain rfl : (z 1 : Fin 3072) = d := Fin.ext h1
  exact codes_lift _ _ r _ z (in0 m c t r _ (z 0) h0) (top_eq m c t r (z 0) h0)

/-- The codes array after the run. -/
theorem final_codes : (dats m 0 c).arrAt 2 cfg0.N = codesX (m ((c : Thread nD τ).loc main_arg0)) := by
  refine (dats m 0 c).arrAt_eq_of_covers 2 _ (by decide +kernel) fun t hf y => ?_
  have e0 : ((((cfg0.win 2).blk t).view.emb y) 0).val = 512 * t.val + (y 0).val := by blk_simp [idx t]; omega
  have e1 : ((((cfg0.win 2).blk t).view.emb y) 1).val = (y 1).val := by blk_simp [idx t]
  blk_simp
  rw [after0_2, out_codes]
  exact (congrArg _ (eq_ix2 y)).trans (codes_at m c t (y 0) (y 1) _ e0 e1)

/-- The scales array after the run. -/
theorem final_scales : (dats m 0 c).arrAt 3 cfg0.N = scalesX (m ((c : Thread nD τ).loc main_arg0)) := by
  refine (dats m 0 c).arrAt_eq_of_covers 3 _ (by decide +kernel) fun t hf y => ?_
  have e1 : ((((cfg0.win 3).blk t).view.emb y) 1).val = 512 * t.val + (y 1).val := by blk_simp [idx t]; omega
  blk_simp
  rw [after0_3]
  refine (congrArg _ (eq_ix2 y)).trans ((out_scales m c t (y 0) (y 1)).trans ?_)
  exact congrArg (fun e => pow2 (expo e)) (top_eq m c t (y 1) _ e1)

end Cert.PreIdeal.Value
end
-- ==== Proof.QuantRef.lean ====
module

public import proofs.«01_k».proof.Proof.Gen.QuantReferenceIdeal.Value
public import Idealize.ShloMosaic.Lib.Pipeline.ValueKit
public import Idealize.ShloMosaic.Lib.Claim
public import proofs.«01_k».proof.Proof.GateUpRef
public import proofs.«01_k».proof.Proof.QuantSpec

/-! # What the quantiser's reference computes

The reference's two arrays after its run are `codesX` and `scalesX` of its first argument. -/

@[expose] public section
set_option maxRecDepth 16384
noncomputable section
open Idealize.ShloMosaic Idealize.ShloMosaic.TcCoe Idealize.SL.Sem
open Idealize.ShloMosaic.Pipeline (Dat)
namespace Cert.QuantReferenceIdeal.Value
open Cert.QuantReferenceIdeal Cert.QuantReferenceIdeal.Gen
open Cert.GateUpIdeal.Value (pow2 expo count mag clip448)
open Cert.GateUpReferenceIdeal.Value (expV expV_at absf_at exp2_int zero2)
open Cert.PreIdeal.Value (topX codesX scalesX)
variable (m : (ℓ : Loc nD τ sig) → Buf (Elt Ideal) ℓ)

/-- Every window is its whole array. -/
theorem idx : ∀ t : Fin cfg0.N, win0_0.index t = ![0, 0] ∧ win0_1.index t = ![0, 0] ∧ win0_2.index t = ![0, 0] :=
  (by decide +kernel : ∀ t : Fin grid0.N, _)

/-- The scaled largest magnitude of every row. -/
def topV (H : FVec Ideal S24576x3072 .f32) : FVec Ideal S24576x1 .f32 :=
  mulf (shapeCast S24576x1 (multiReduction .maximumf [1] S24576 (absf H) 0xFF800000#32 reduces_S24576x3072_S24576 (.inl rfl) rfl) shapeCasts_S24576_S24576x1)
    (broadcast S24576x1 (Scalar.ofBits (F := Ideal) .f32 0x3B124925#32))

theorem topV_at (H : FVec Ideal S24576x3072 .f32) (n : Fin 24576) (z : Fin 1) : topV H (ix2 n z)
      = (Finset.univ.sup fun q : Fin 3072 => mag (H (ix2 n q))) * Ideal.ofBits .f32 0x3B124925#32 := by
  have h1 : ∀ M : FVec Ideal S24576 .f32, mulf (shapeCast S24576x1 M shapeCasts_S24576_S24576x1)
      (broadcast S24576x1 (Scalar.ofBits (F := Ideal) .f32 0x3B124925#32)) (ix2 n z) = M (ix1 n) * Ideal.ofBits .f32 0x3B124925#32 := fun M => by
    pointwise
  have h2 : ∀ q : Fin 3072, reduces_S24576x3072_S24576.lift (ix1 n) q = ix2 n q := fun q => by
    funext a
    refine Fin.ext ?_
    fin_cases a
    · rfl
    · rfl
  have h3 : (absf H ∘ reduces_S24576x3072_S24576.lift (ix1 n) : Fin 3072 → EReal) = fun q => mag (H (ix2 n q)) := funext fun q => by
    exact (absf_at H _).trans (congrArg (fun i => mag (H i)) (h2 q))
  refine Eq.trans (h1 _) (congrArg (fun x : EReal => x * Ideal.ofBits .f32 0x3B124925#32) ?_)
  refine (Ideal.multiReduction_maximumf_single (a := 1) (absf H) 0xFF800000#32 reduces_S24576x3072_S24576 (.inl rfl) rfl (ix1 n)).trans ?_
  refine (congrArg (fun b => Finset.univ.fold max b _) Cert.GateUpIdeal.Value.negInf_f32).trans ?_
  exact (congrArg (fun f : Fin 3072 → EReal => Finset.univ.fold max ⊥ f) h3).trans (Cert.GateUpIdeal.Value.fold_max_bot _)

/-- The exponents before the special cases, of the scaled largest magnitudes. -/
def special (t e : FVec Ideal S24576x1 .f32) : FVec Ideal S24576x1 .f32 :=
  select (ori (cmpf .oeq t (broadcast S24576x1 (Scalar.ofBits .f32 0x00000000#32))) (cmpf .oeq t (broadcast S24576x1 (Scalar.ofBits .f32 0x7F800000#32))))
    (broadcast S24576x1 (Scalar.ofBits .f32 0x00000000#32)) e

theorem special_at (t e : FVec Ideal S24576x1 .f32) (n : Fin 24576) (z : Fin 1) (he : e (ix2 n z) = ((((count (t (ix2 n z)) : ℤ) - 126 : ℤ) : ℝ) : EReal)) :
    special t e (ix2 n z) = (((expo (t (ix2 n z)) : ℤ) : ℝ) : EReal) := by
  have h : special t e (ix2 n z)
      = Scalar.select (Ideal.cmp .oeq (t (ix2 n z)) (Ideal.ofBits .f32 0x00000000#32) ||| Ideal.cmp .oeq (t (ix2 n z)) (Ideal.ofBits .f32 0x7F800000#32))
          (Ideal.ofBits .f32 0x00000000#32) (e (ix2 n z)) := rfl
  rw [h, he, Cert.GateUpIdeal.Value.zero_f32, Cert.GateUpIdeal.Value.posInf_f32]
  unfold Ideal.cmp expo
  by_cases h0 : t (ix2 n z) = 0
  · simp [h0, Scalar.select]
  · by_cases ht : t (ix2 n z) = ⊤
    · simp [ht, Scalar.select]
    · simp [h0, ht, Scalar.select]

theorem pay2_eq (X : FVec Ideal S24576x3072 .bf16) :
    k0_pay2 (F := Ideal) X = special (topV (extf .f32 X bitsLt_bf16_f32)) (expV (topV (extf .f32 X bitsLt_bf16_f32))) := rfl

/-- The exponents, as extended reals. -/
theorem pay2_at (X : FVec Ideal S24576x3072 .bf16) (n : Fin 24576) (z : Fin 1) :
    k0_pay2 (F := Ideal) X (ix2 n z) = (((expo (topX X n) : ℤ) : ℝ) : EReal) := by
  rw [pay2_eq, special_at _ _ n z (expV_at _ n z), topV_at]
  rfl

/-- The codes of exponents. -/
def codesV (X : FVec Ideal S24576x3072 .bf16) (e : FVec Ideal S24576x1 .f32) : FVec Ideal S24576x3072 .fp8e4m3 :=
  truncf .fp8e4m3 (minimumf (broadcast S24576x3072 (Scalar.ofBits (F := Ideal) .f32 0x43E00000#32)) (maximumf (broadcast S24576x3072 (Scalar.ofBits (F := Ideal) .f32 0xC3E00000#32))
    (mulf (extf .f32 X bitsLt_bf16_f32) (broadcastTo S24576x3072 (exp2 (subf (broadcast S24576x1 (Scalar.ofBits (F := Ideal) .f32 0x00000000#32)) e)) broadcasts_S24576x1_S24576x3072)))) bitsLt_fp8e4m3_f32

theorem pay3_eq (X : FVec Ideal S24576x3072 .bf16) : k0_pay3 (F := Ideal) X = codesV X (k0_pay2 (F := Ideal) X) := rfl

theorem codesV_at (X : FVec Ideal S24576x3072 .bf16) (e : FVec Ideal S24576x1 .f32) (k : ℤ) (n : Fin 24576) (q : Fin 3072) (he : e (ix2 n 0) = ((k : ℝ) : EReal)) :
    codesV X e (ix2 n q) = clip448 (X (ix2 n q) * pow2 (- k)) := by
  pointwise [codesV]
  unfold clip448
  rw [he, zero_sub, ← EReal.coe_neg, ← Int.cast_neg]
  rw [← exp2_int]
  rfl

/-- The codes the body stores. -/
theorem pay3_at (X : FVec Ideal S24576x3072 .bf16) (n : Fin 24576) (q : Fin 3072) :
    k0_pay3 (F := Ideal) X (ix2 n q) = clip448 (X (ix2 n q) * pow2 (- expo (topX X n))) := by
  rw [pay3_eq]
  exact codesV_at X _ _ n q (pay2_at X n 0)

/-- The scales of exponents. -/
def scalesV (e : FVec Ideal S24576x1 .f32) : FVec Ideal S1x24576 .f32 := shapeCast S1x24576 (exp2 e) shapeCasts_S24576x1_S1x24576

theorem pay4_eq (X : FVec Ideal S24576x3072 .bf16) : k0_pay4 (F := Ideal) X = scalesV (k0_pay2 (F := Ideal) X) := rfl

theorem scalesV_at (e : FVec Ideal S24576x1 .f32) (k : ℤ) (z : Fin 1) (n : Fin 24576) (he : e (ix2 n 0) = ((k : ℝ) : EReal)) :
    scalesV e (ix2 z n) = pow2 k := by
  pointwise [scalesV]
  rw [he, ← exp2_int]
  rfl

/-- The scales the body stores. -/
theorem pay4_at (X : FVec Ideal S24576x3072 .bf16) (z : Fin 1) (n : Fin 24576) :
    k0_pay4 (F := Ideal) X (ix2 z n) = pow2 (expo (topX X n)) := by
  rw [pay4_eq]
  exact scalesV_at _ _ z n (pay2_at X n 0)

variable (c : Dev nD)

theorem in0 : (iblk m c 0 t0_0 : FVec Ideal S24576x3072 .bf16) = m ((c : Thread nD τ).loc main_arg0) := by
  funext y
  refine (congrArg _ (eq_ix2 y)).trans (Eq.trans ?_ (congrArg _ (eq_ix2 y)).symm)
  blk_point [iblk, V, idx t0_0]

theorem final_codes : (dats m 0 c).arrAt 1 cfg0.N = k0_pay3 (F := Ideal) (m ((c : Thread nD τ).loc main_arg0)) := by
  refine (dats m 0 c).arrAt_eq_of_after_last 1 t0_0 (by decide +kernel) _ fun j => ?_
  blk_simp
  rw [after0_1]; frame_out
  rw [in0]

theorem final_scales : (dats m 0 c).arrAt 2 cfg0.N = k0_pay4 (F := Ideal) (m ((c : Thread nD τ).loc main_arg0)) := by
  refine (dats m 0 c).arrAt_eq_of_after_last 2 t0_0 (by decide +kernel) _ fun j => ?_
  blk_simp
  rw [after0_2]; frame_out
  rw [in0]

/-- The reference's codes are the codes of its first argument. -/
theorem codes_eq : (dats m 0 c).arrAt 1 cfg0.N = codesX (m ((c : Thread nD τ).loc main_arg0)) := by
  rw [final_codes]
  funext y
  exact (congrArg _ (eq_ix2 y)).trans (pay3_at _ (y 0) (y 1))

/-- The reference's scales are the scales of its first argument. -/
theorem scales_eq : (dats m 0 c).arrAt 2 cfg0.N = scalesX (m ((c : Thread nD τ).loc main_arg0)) := by
  rw [final_scales]
  funext y
  exact (congrArg _ (eq_ix2 y)).trans (pay4_at _ (y 0) (y 1))

end Cert.QuantReferenceIdeal.Value
end
-- ==== Proof.lean ====
module

public import proofs.«01_k».proof.Defs
public import proofs.«01_k».proof.Proof.Gen.Down.Frame
public import proofs.«01_k».proof.Proof.Gen.DownIdeal.Value
public import proofs.«01_k».proof.Proof.Gen.DownReferenceIdeal.Value
public import proofs.«01_k».proof.Proof.Gen.GateUp.Frame
public import proofs.«01_k».proof.Proof.Gen.GateUp.Skeleton
public import proofs.«01_k».proof.Proof.Gen.GateUp.Loops
public import proofs.«01_k».proof.Proof.Gen.GateUpIdeal.Frame
public import proofs.«01_k».proof.Proof.Gen.GateUpIdeal.Skeleton
public import proofs.«01_k».proof.Proof.Gen.GateUpIdeal.Loops
public import proofs.«01_k».proof.Proof.Gen.GateUpIdeal.Points
public import proofs.«01_k».proof.Proof.Gen.GateUpReferenceIdeal.Value
public import proofs.«01_k».proof.Proof.Gen.QuantReferenceIdeal.Value
public import proofs.«01_k».proof.Proof.DownValue
public import proofs.«01_k».proof.Proof.DownRef
public import proofs.«01_k».proof.Proof.GateUpFrame
public import proofs.«01_k».proof.Proof.GateUpValue
public import proofs.«01_k».proof.Proof.GateUpRef
public import proofs.«01_k».proof.Proof.PreFrame
public import proofs.«01_k».proof.Proof.PreIdealValue
public import proofs.«01_k».proof.Proof.QuantRef
public import Idealize.ShloMosaic.Lib.Claim

@[expose] public section
noncomputable section
namespace Cert.Proof
open Idealize.ShloMosaic Idealize.SL.Sem

/-- The down projection and its reference end with equal results. -/
theorem down : Cert.algebraic_DownIdeal_DownReferenceIdeal (hDownIdeal := Cert.DownIdeal.Gen.facts) (hDownReferenceIdeal := Cert.DownReferenceIdeal.Gen.facts) := by
  pair_intro
  · run_from Cert.DownIdeal.Gen.run_main m g
  · run_from Cert.DownReferenceIdeal.Gen.run_main m' g'
    rw [Cert.DownIdeal.Value.final m c, Cert.DownReferenceIdeal.Value.final_eq m' c]
    obtain ⟨h0, h1, h2, h3, h4⟩ := hagree c
    rw [h0, h1, h2, h3, h4]

/-- The gate-up projection and its reference end with equal codes and equal scales. -/
theorem gate_up : Cert.algebraic_GateUpIdeal_GateUpReferenceIdeal (hGateUpIdeal := Cert.GateUpIdeal.Gen.facts) (hGateUpReferenceIdeal := Cert.GateUpReferenceIdeal.Gen.facts) := by
  pair_intro
  · run_from Cert.GateUpIdeal.Value.run_main m g
  · run_from Cert.GateUpReferenceIdeal.Gen.run_main m' g'
    · rw [Cert.GateUpIdeal.Value.final_codes m c, Cert.GateUpReferenceIdeal.Value.codes_eq m' c]
      obtain ⟨h0, h1, h2, h3⟩ := hagree c
      rw [h0, h1, h2, h3]
    · rw [Cert.GateUpIdeal.Value.final_scales m c, Cert.GateUpReferenceIdeal.Value.scales_eq m' c]
      obtain ⟨h0, h1, h2, h3⟩ := hagree c
      rw [h0, h1, h2, h3]

/-- The quantiser of the tokens and its reference end with equal codes and equal scales. -/
theorem quant : Cert.algebraic_PreIdeal_QuantReferenceIdeal (hPreIdeal := Cert.PreIdeal.Gen.facts) (hQuantReferenceIdeal := Cert.QuantReferenceIdeal.Gen.facts) := by
  pair_intro
  · run_from Cert.PreIdeal.Run.run_main m g
  · run_from Cert.QuantReferenceIdeal.Gen.run_main m' g'
    · rw [Cert.PreIdeal.Value.final_codes m c, Cert.QuantReferenceIdeal.Value.codes_eq m' c]
      obtain ⟨h0, h1⟩ := hagree c
      rw [h0]
    · rw [Cert.PreIdeal.Value.final_scales m c, Cert.QuantReferenceIdeal.Value.scales_eq m' c]
      obtain ⟨h0, h1⟩ := hagree c
      rw [h0]

/-- Everything claimed of the three calls: their frames, the readings that keep the programs, and the three equations. -/
theorem claim : Cert.Claim := ⟨Cert.Down.Gen.facts, Cert.DownIdeal.Gen.facts, Cert.DownReferenceIdeal.Gen.facts,
  Cert.GateUp.Gen.facts, Cert.GateUpIdeal.Gen.facts, Cert.GateUpReferenceIdeal.Gen.facts,
  Cert.Pre.Gen.facts, Cert.PreIdeal.Gen.facts, Cert.QuantReferenceIdeal.Gen.facts,
  fun m ρ _ => Cert.Down.Gen.frame m ρ, fun m ρ _ => Cert.DownIdeal.Gen.frame m ρ, fun m ρ _ => Cert.DownReferenceIdeal.Gen.frame m ρ,
  fun m ρ _ => Cert.GateUp.Run.frame m ρ, fun m ρ _ => Cert.GateUpIdeal.Value.frame m ρ, fun m ρ _ => Cert.GateUpReferenceIdeal.Gen.frame m ρ,
  fun m ρ _ => Cert.Pre.Run.frame m ρ, fun m ρ _ => Cert.PreIdeal.Run.frame m ρ, fun m ρ _ => Cert.QuantReferenceIdeal.Gen.frame m ρ,
  trivial, down, trivial, gate_up, trivial, quant⟩
end Cert.Proof
end
